-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x2048 : Shape := ⟨2, ![24, 2048]⟩
abbrev S2048 : Shape := ⟨1, ![2048]⟩
abbrev S1024x16384 : Shape := ⟨2, ![1024, 16384]⟩
abbrev S16384 : Shape := ⟨1, ![16384]⟩
abbrev S8192x2048 : Shape := ⟨2, ![8192, 2048]⟩
abbrev S1x2048 : Shape := ⟨2, ![1, 2048]⟩
abbrev S1x16384 : Shape := ⟨2, ![1, 16384]⟩
abbrev S24x1x2048 : Shape := ⟨3, ![24, 1, 2048]⟩
abbrev S1x24 : Shape := ⟨2, ![1, 24]⟩
abbrev S24x16384 : Shape := ⟨2, ![24, 16384]⟩
abbrev S18x1024x2048 : Shape := ⟨3, ![18, 1024, 2048]⟩
abbrev S18 : Shape := ⟨1, ![18]⟩
abbrev S4 : Shape := ⟨1, ![4]⟩
abbrev S5 : Shape := ⟨1, ![5]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S24 : Shape := ⟨1, ![24]⟩
abbrev S24x1 : Shape := ⟨2, ![24, 1]⟩
abbrev S24x128 : Shape := ⟨2, ![24, 128]⟩
abbrev S128 : Shape := ⟨1, ![128]⟩
abbrev S1x128 : Shape := ⟨2, ![1, 128]⟩
abbrev S24x1024 : Shape := ⟨2, ![24, 1024]⟩
abbrev S24x256 : Shape := ⟨2, ![24, 256]⟩
abbrev S192x256 : Shape := ⟨2, ![192, 256]⟩
abbrev S256x256 : Shape := ⟨2, ![256, 256]⟩
abbrev S1024x1x2048 : Shape := ⟨3, ![1024, 1, 2048]⟩
abbrev S1024x2x2048 : Shape := ⟨3, ![1024, 2, 2048]⟩
abbrev S2048x2048 : Shape := ⟨2, ![2048, 2048]⟩

abbrev nBuf : Space → Nat
  | .hbm => 17
  | .vmem => 15
  | .smem => 0
  | _ => 0

abbrev bufTy : (tb : Table) → Fin (tcTables nBuf tb) → BufTy
  | .hbm, ⟨0, _⟩ => ⟨S24x2048, .f32⟩
  | .hbm, ⟨1, _⟩ => ⟨S2048, .f32⟩
  | .hbm, ⟨2, _⟩ => ⟨S1024x16384, .i8⟩
  | .hbm, ⟨3, _⟩ => ⟨S1024x16384, .i8⟩
  | .hbm, ⟨4, _⟩ => ⟨S16384, .f32⟩
  | .hbm, ⟨5, _⟩ => ⟨S16384, .f32⟩
  | .hbm, ⟨6, _⟩ => ⟨S8192x2048, .i8⟩
  | .hbm, ⟨7, _⟩ => ⟨S2048, .f32⟩
  | .hbm, ⟨8, _⟩ => ⟨S1x2048, .f32⟩
  | .hbm, ⟨9, _⟩ => ⟨S1x16384, .f32⟩
  | .hbm, ⟨10, _⟩ => ⟨S1x16384, .f32⟩
  | .hbm, ⟨11, _⟩ => ⟨S1x2048, .f32⟩
  | .hbm, ⟨12, _⟩ => ⟨S24x1x2048, .f32⟩
  | .hbm, ⟨13, _⟩ => ⟨S24x2048, .i8⟩
  | .hbm, ⟨14, _⟩ => ⟨S1x24, .f32⟩
  | .hbm, ⟨15, _⟩ => ⟨S24x16384, .i8⟩
  | .hbm, ⟨16, _⟩ => ⟨S1x24, .f32⟩
  | .local _ .vmem, ⟨0, _⟩ => ⟨S24x2048, .f32⟩
  | .local _ .vmem, ⟨1, _⟩ => ⟨S18x1024x2048, .i8⟩
  | .local _ .vmem, ⟨2, _⟩ => ⟨S1x2048, .f32⟩
  | .local _ .vmem, ⟨3, _⟩ => ⟨S1x16384, .f32⟩
  | .local _ .vmem, ⟨4, _⟩ => ⟨S1x16384, .f32⟩
  | .local _ .vmem, ⟨5, _⟩ => ⟨S1x2048, .f32⟩
  | .local _ .vmem, ⟨6, _⟩ => ⟨S24x2048, .bf16⟩
  | .local _ .vmem, ⟨7, _⟩ => ⟨S24x16384, .f32⟩
  | .local _ .vmem, ⟨8, _⟩ => ⟨S24x2048, .bf16⟩
  | .local _ .vmem, ⟨9, _⟩ => ⟨S24x2048, .f32⟩
  | .local _ .vmem, ⟨10, _⟩ => ⟨S24x1x2048, .f32⟩
  | .local _ .vmem, ⟨11, _⟩ => ⟨S24x2048, .i8⟩
  | .local _ .vmem, ⟨12, _⟩ => ⟨S24x16384, .i8⟩
  | .local _ .vmem, ⟨13, _⟩ => ⟨S1x24, .f32⟩
  | .local _ .vmem, ⟨14, _⟩ => ⟨S1x24, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_124 : BitVec 32 := 0#32
  let c8_i32_125 : BitVec 32 := 8#32
  let v244 : BitVec 32 := Scalar.addi c0_i32_124 c8_i32_125
  let c1_i32_126 : BitVec 32 := 1#32
  ⟨c0_i32_124, v244, c1_i32_126⟩
def k0_off1 (k0_t1 : Fin k0_t1_loop.trips) : Fin 1 → Nat :=
  let c2_i32_203 : BitVec 32 := 2#32
  let c0_i32_124 : BitVec 32 := 0#32
  let c1_i32_126 : BitVec 32 := 1#32
  let arg30 : BitVec 32 := Scf.iv c0_i32_124 c1_i32_126 k0_t1
  let v345 : BitVec 32 := Scalar.addi c2_i32_203 arg30
  ![v345.toNat]
def k0_off2 (k0_t1 : Fin k0_t1_loop.trips) : Fin 3 → Nat :=
  let c2_i32_203 : BitVec 32 := 2#32
  let c0_i32_124 : BitVec 32 := 0#32
  let c1_i32_126 : BitVec 32 := 1#32
  let arg30 : BitVec 32 := Scf.iv c0_i32_124 c1_i32_126 k0_t1
  let v345 : BitVec 32 := Scalar.addi c2_i32_203 arg30
  let c0_i32_204 : BitVec 32 := 0#32
  let c0_i32_205 : BitVec 32 := 0#32
  ![v345.toNat, 0, 0]
def k0_off3 (k0_t1 : Fin k0_t1_loop.trips) : Fin 3 → Nat :=
  let c2_i32_203 : BitVec 32 := 2#32
  let c0_i32_124 : BitVec 32 := 0#32
  let c1_i32_126 : BitVec 32 := 1#32
  let arg30 : BitVec 32 := Scf.iv c0_i32_124 c1_i32_126 k0_t1
  let v345 : BitVec 32 := Scalar.addi c2_i32_203 arg30
  let v352 : Index := Scalar.indexCast v345
  let c0_210 : Index := 0#32
  let c0_211 : Index := 0#32
  ![v352.toNat, 0, 0]
def k0_mult1 (k0_t1 : Fin k0_t1_loop.trips) : BitVec 32 :=
  let c0_i32_124 : BitVec 32 := 0#32
  let c1_i32_126 : BitVec 32 := 1#32
  let arg30 : BitVec 32 := Scf.iv c0_i32_124 c1_i32_126 k0_t1
  let c2048_i32_215 : BitVec 32 := 2048#32
  let v373 : BitVec 32 := Scalar.muli arg30 c2048_i32_215
  v373
def k0_off4 (k0_t1 : Fin k0_t1_loop.trips) : Fin 2 → Nat :=
  let c0_216 : Index := 0#32
  let c0_i32_124 : BitVec 32 := 0#32
  let c1_i32_126 : BitVec 32 := 1#32
  let arg30 : BitVec 32 := Scf.iv c0_i32_124 c1_i32_126 k0_t1
  let c2048_i32_215 : BitVec 32 := 2048#32
  let v373 : BitVec 32 := Scalar.muli arg30 c2048_i32_215
  let v374 : BitVec 32 := v373
  let v375 : Index := Scalar.indexCast v374
  ![0, v375.toNat]
def k0_mult2 (k0_t1 : Fin k0_t1_loop.trips) : BitVec 32 :=
  let c0_i32_124 : BitVec 32 := 0#32
  let c1_i32_126 : BitVec 32 := 1#32
  let arg30 : BitVec 32 := Scf.iv c0_i32_124 c1_i32_126 k0_t1
  let c2048_i32_217 : BitVec 32 := 2048#32
  let v379 : BitVec 32 := Scalar.muli arg30 c2048_i32_217
  v379
def k0_off5 (k0_t1 : Fin k0_t1_loop.trips) : Fin 2 → Nat :=
  let c0_218 : Index := 0#32
  let c0_i32_124 : BitVec 32 := 0#32
  let c1_i32_126 : BitVec 32 := 1#32
  let arg30 : BitVec 32 := Scf.iv c0_i32_124 c1_i32_126 k0_t1
  let c2048_i32_217 : BitVec 32 := 2048#32
  let v379 : BitVec 32 := Scalar.muli arg30 c2048_i32_217
  let v380 : BitVec 32 := v379
  let v381 : Index := Scalar.indexCast v380
  ![0, v381.toNat]
def k0_mult3 : BitVec 32 :=
  let c2048_i32_129 : BitVec 32 := 2048#32
  c2048_i32_129
def k0_mult4 : BitVec 32 :=
  let c3072_i32 : BitVec 32 := 3072#32
  c3072_i32
def k0_mult5 : BitVec 32 :=
  let c4096_i32_140 : BitVec 32 := 4096#32
  c4096_i32_140
def k0_mult6 : BitVec 32 :=
  let c5120_i32 : BitVec 32 := 5120#32
  c5120_i32
def k0_mult7 : BitVec 32 :=
  let c6144_i32_151 : BitVec 32 := 6144#32
  c6144_i32_151
def k0_mult8 : BitVec 32 :=
  let c7168_i32 : BitVec 32 := 7168#32
  c7168_i32
@[reducible] def k0_t2_loop : Scf.Loop 32 :=
  let c0_i32_163 : BitVec 32 := 0#32
  let c8_i32_164 : BitVec 32 := 8#32
  let v285 : BitVec 32 := Scalar.addi c0_i32_163 c8_i32_164
  let c1_i32_165 : BitVec 32 := 1#32
  ⟨c0_i32_163, v285, c1_i32_165⟩
def k0_mult9 (k0_t2 : Fin k0_t2_loop.trips) : BitVec 32 :=
  let c0_i32_163 : BitVec 32 := 0#32
  let c1_i32_165 : BitVec 32 := 1#32
  let arg30 : BitVec 32 := Scf.iv c0_i32_163 c1_i32_165 k0_t2
  let c2048_i32_203 : BitVec 32 := 2048#32
  let v345 : BitVec 32 := Scalar.muli arg30 c2048_i32_203
  v345
def k0_off6 (k0_t2 : Fin k0_t2_loop.trips) : Fin 2 → Nat :=
  let c0_204 : Index := 0#32
  let c0_i32_163 : BitVec 32 := 0#32
  let c1_i32_165 : BitVec 32 := 1#32
  let arg30 : BitVec 32 := Scf.iv c0_i32_163 c1_i32_165 k0_t2
  let c2048_i32_203 : BitVec 32 := 2048#32
  let v345 : BitVec 32 := Scalar.muli arg30 c2048_i32_203
  let v346 : BitVec 32 := v345
  let v347 : Index := Scalar.indexCast v346
  ![0, v347.toNat]
@[reducible] def k0_t3_loop : Scf.Loop 32 :=
  let c0_i32_170 : BitVec 32 := 0#32
  let c8_i32_171 : BitVec 32 := 8#32
  let v294 : BitVec 32 := Scalar.addi c0_i32_170 c8_i32_171
  let c1_i32_172 : BitVec 32 := 1#32
  ⟨c0_i32_170, v294, c1_i32_172⟩
def k0_off7 (k0_t3 : Fin k0_t3_loop.trips) : Fin 1 → Nat :=
  let c10_i32_203 : BitVec 32 := 10#32
  let c0_i32_170 : BitVec 32 := 0#32
  let c1_i32_172 : BitVec 32 := 1#32
  let arg30 : BitVec 32 := Scf.iv c0_i32_170 c1_i32_172 k0_t3
  let v345 : BitVec 32 := Scalar.addi c10_i32_203 arg30
  ![v345.toNat]
def k0_off8 (k0_t3 : Fin k0_t3_loop.trips) : Fin 3 → Nat :=
  let c10_i32_203 : BitVec 32 := 10#32
  let c0_i32_170 : BitVec 32 := 0#32
  let c1_i32_172 : BitVec 32 := 1#32
  let arg30 : BitVec 32 := Scf.iv c0_i32_170 c1_i32_172 k0_t3
  let v345 : BitVec 32 := Scalar.addi c10_i32_203 arg30
  let c0_i32_204 : BitVec 32 := 0#32
  let c0_i32_205 : BitVec 32 := 0#32
  ![v345.toNat, 0, 0]
def k0_off9 (k0_t3 : Fin k0_t3_loop.trips) : Fin 3 → Nat :=
  let c10_i32_203 : BitVec 32 := 10#32
  let c0_i32_170 : BitVec 32 := 0#32
  let c1_i32_172 : BitVec 32 := 1#32
  let arg30 : BitVec 32 := Scf.iv c0_i32_170 c1_i32_172 k0_t3
  let v345 : BitVec 32 := Scalar.addi c10_i32_203 arg30
  let v352 : Index := Scalar.indexCast v345
  let c0_210 : Index := 0#32
  let c0_211 : Index := 0#32
  ![v352.toNat, 0, 0]
def k0_mult10 (k0_t3 : Fin k0_t3_loop.trips) : BitVec 32 :=
  let c0_i32_170 : BitVec 32 := 0#32
  let c1_i32_172 : BitVec 32 := 1#32
  let arg30 : BitVec 32 := Scf.iv c0_i32_170 c1_i32_172 k0_t3
  let c2048_i32_215 : BitVec 32 := 2048#32
  let v373 : BitVec 32 := Scalar.muli arg30 c2048_i32_215
  v373
def k0_off10 (k0_t3 : Fin k0_t3_loop.trips) : Fin 2 → Nat :=
  let c0_216 : Index := 0#32
  let c0_i32_170 : BitVec 32 := 0#32
  let c1_i32_172 : BitVec 32 := 1#32
  let arg30 : BitVec 32 := Scf.iv c0_i32_170 c1_i32_172 k0_t3
  let c2048_i32_215 : BitVec 32 := 2048#32
  let v373 : BitVec 32 := Scalar.muli arg30 c2048_i32_215
  let v374 : BitVec 32 := v373
  let v375 : Index := Scalar.indexCast v374
  ![0, v375.toNat]
def k0_mult11 (k0_t3 : Fin k0_t3_loop.trips) : BitVec 32 :=
  let c0_i32_170 : BitVec 32 := 0#32
  let c1_i32_172 : BitVec 32 := 1#32
  let arg30 : BitVec 32 := Scf.iv c0_i32_170 c1_i32_172 k0_t3
  let c2048_i32_217 : BitVec 32 := 2048#32
  let v379 : BitVec 32 := Scalar.muli arg30 c2048_i32_217
  v379
def k0_off11 (k0_t3 : Fin k0_t3_loop.trips) : Fin 2 → Nat :=
  let c0_218 : Index := 0#32
  let c0_i32_170 : BitVec 32 := 0#32
  let c1_i32_172 : BitVec 32 := 1#32
  let arg30 : BitVec 32 := Scf.iv c0_i32_170 c1_i32_172 k0_t3
  let c2048_i32_217 : BitVec 32 := 2048#32
  let v379 : BitVec 32 := Scalar.muli arg30 c2048_i32_217
  let v380 : BitVec 32 := v379
  let v381 : Index := Scalar.indexCast v380
  ![0, v381.toNat]
def k0_mult12 (k0_t3 : Fin k0_t3_loop.trips) : BitVec 32 :=
  let c0_i32_170 : BitVec 32 := 0#32
  let c1_i32_172 : BitVec 32 := 1#32
  let arg30 : BitVec 32 := Scf.iv c0_i32_170 c1_i32_172 k0_t3
  let c2048_i32_224 : BitVec 32 := 2048#32
  let v401 : BitVec 32 := Scalar.muli arg30 c2048_i32_224
  v401
@[reducible] def k0_t4_loop : Scf.Loop 32 :=
  let c0_i32_184 : BitVec 32 := 0#32
  let c8_i32_185 : BitVec 32 := 8#32
  let v319 : BitVec 32 := Scalar.addi c0_i32_184 c8_i32_185
  let c1_i32_186 : BitVec 32 := 1#32
  ⟨c0_i32_184, v319, c1_i32_186⟩
def k0_mult13 (k0_t4 : Fin k0_t4_loop.trips) : BitVec 32 :=
  let c0_i32_204 : BitVec 32 := 0#32
  let c0_i32_184 : BitVec 32 := 0#32
  let c1_i32_186 : BitVec 32 := 1#32
  let arg30 : BitVec 32 := Scf.iv c0_i32_184 c1_i32_186 k0_t4
  let c1024_i32_203 : BitVec 32 := 1024#32
  let v345 : BitVec 32 := Scalar.muli arg30 c1024_i32_203
  let v346 : BitVec 32 := Scalar.addi c0_i32_204 v345
  v346
def k0_off12 (k0_t4 : Fin k0_t4_loop.trips) (c0_i32_204 : BitVec 32) : Fin 2 → Nat :=
  let c0_205 : Index := 0#32
  let c0_i32_184 : BitVec 32 := 0#32
  let c1_i32_186 : BitVec 32 := 1#32
  let arg30 : BitVec 32 := Scf.iv c0_i32_184 c1_i32_186 k0_t4
  let c1024_i32_203 : BitVec 32 := 1024#32
  let v345 : BitVec 32 := Scalar.muli arg30 c1024_i32_203
  let v346 : BitVec 32 := Scalar.addi c0_i32_204 v345
  let v347 : BitVec 32 := v346
  let v348 : Index := Scalar.indexCast v347
  ![0, v348.toNat]
def k0_mult14 (k0_t4 : Fin k0_t4_loop.trips) : BitVec 32 :=
  let c0_i32_209 : BitVec 32 := 0#32
  let c0_i32_184 : BitVec 32 := 0#32
  let c1_i32_186 : BitVec 32 := 1#32
  let arg30 : BitVec 32 := Scf.iv c0_i32_184 c1_i32_186 k0_t4
  let c1024_i32_208 : BitVec 32 := 1024#32
  let v358 : BitVec 32 := Scalar.muli arg30 c1024_i32_208
  let v359 : BitVec 32 := Scalar.addi c0_i32_209 v358
  v359
def k0_mult15 (k0_t4 : Fin k0_t4_loop.trips) : BitVec 32 :=
  let c8192_i32_212 : BitVec 32 := 8192#32
  let c0_i32_184 : BitVec 32 := 0#32
  let c1_i32_186 : BitVec 32 := 1#32
  let arg30 : BitVec 32 := Scf.iv c0_i32_184 c1_i32_186 k0_t4
  let c1024_i32_211 : BitVec 32 := 1024#32
  let v365 : BitVec 32 := Scalar.muli arg30 c1024_i32_211
  let v366 : BitVec 32 := Scalar.addi c8192_i32_212 v365
  v366
def k0_mult16 (k0_t4 : Fin k0_t4_loop.trips) : BitVec 32 :=
  let c8192_i32_217 : BitVec 32 := 8192#32
  let c0_i32_184 : BitVec 32 := 0#32
  let c1_i32_186 : BitVec 32 := 1#32
  let arg30 : BitVec 32 := Scf.iv c0_i32_184 c1_i32_186 k0_t4
  let c1024_i32_216 : BitVec 32 := 1024#32
  let v378 : BitVec 32 := Scalar.muli arg30 c1024_i32_216
  let v379 : BitVec 32 := Scalar.addi c8192_i32_217 v378
  v379
def k0_off13 (k0_t4 : Fin k0_t4_loop.trips) : Fin 1 → Nat :=
  let c18_i32 : BitVec 32 := 18#32
  let c0_i32_184 : BitVec 32 := 0#32
  let c1_i32_186 : BitVec 32 := 1#32
  let arg30 : BitVec 32 := Scf.iv c0_i32_184 c1_i32_186 k0_t4
  let v469 : BitVec 32 := Scalar.addi c18_i32 arg30
  let c18_i32_241 : BitVec 32 := 18#32
  let c0_i32_242 : BitVec 32 := 0#32
  let v470 : BitVec 1 := Scalar.cmpi .eq c18_i32_241 c0_i32_242
  let c1_i32_243 : BitVec 32 := 1#32
  let v471 : BitVec 32 := Scalar.select v470 c1_i32_243 c18_i32_241
  let v472 : BitVec 32 := Scalar.remsi v469 v471
  let c0_i32_245 : BitVec 32 := 0#32
  let v474 : BitVec 1 := Scalar.cmpi .slt v472 c0_i32_245
  let c0_i32_246 : BitVec 32 := 0#32
  let v475 : BitVec 1 := Scalar.cmpi .slt v471 c0_i32_246
  let v476 : BitVec 1 := Scalar.xori v474 v475
  let c0_i32_244 : BitVec 32 := 0#32
  let v473 : BitVec 1 := Scalar.cmpi .ne v472 c0_i32_244
  let v477 : BitVec 1 := Scalar.andi v476 v473
  let v478 : BitVec 32 := Scalar.addi v472 v471
  let v479 : BitVec 32 := Scalar.select v477 v478 v472
  ![v479.toNat]
def k0_off14 (k0_t4 : Fin k0_t4_loop.trips) : Fin 3 → Nat :=
  let c18_i32 : BitVec 32 := 18#32
  let c0_i32_184 : BitVec 32 := 0#32
  let c1_i32_186 : BitVec 32 := 1#32
  let arg30 : BitVec 32 := Scf.iv c0_i32_184 c1_i32_186 k0_t4
  let v469 : BitVec 32 := Scalar.addi c18_i32 arg30
  let c18_i32_241 : BitVec 32 := 18#32
  let c0_i32_242 : BitVec 32 := 0#32
  let v470 : BitVec 1 := Scalar.cmpi .eq c18_i32_241 c0_i32_242
  let c1_i32_243 : BitVec 32 := 1#32
  let v471 : BitVec 32 := Scalar.select v470 c1_i32_243 c18_i32_241
  let v472 : BitVec 32 := Scalar.remsi v469 v471
  let c0_i32_245 : BitVec 32 := 0#32
  let v474 : BitVec 1 := Scalar.cmpi .slt v472 c0_i32_245
  let c0_i32_246 : BitVec 32 := 0#32
  let v475 : BitVec 1 := Scalar.cmpi .slt v471 c0_i32_246
  let v476 : BitVec 1 := Scalar.xori v474 v475
  let c0_i32_244 : BitVec 32 := 0#32
  let v473 : BitVec 1 := Scalar.cmpi .ne v472 c0_i32_244
  let v477 : BitVec 1 := Scalar.andi v476 v473
  let v478 : BitVec 32 := Scalar.addi v472 v471
  let v479 : BitVec 32 := Scalar.select v477 v478 v472
  let c0_i32_247 : BitVec 32 := 0#32
  let c0_i32_248 : BitVec 32 := 0#32
  ![v479.toNat, 0, 0]
def k0_off15 (k0_t4 : Fin k0_t4_loop.trips) : Fin 3 → Nat :=
  let c18_i32 : BitVec 32 := 18#32
  let c0_i32_184 : BitVec 32 := 0#32
  let c1_i32_186 : BitVec 32 := 1#32
  let arg30 : BitVec 32 := Scf.iv c0_i32_184 c1_i32_186 k0_t4
  let v469 : BitVec 32 := Scalar.addi c18_i32 arg30
  let c18_i32_241 : BitVec 32 := 18#32
  let c0_i32_242 : BitVec 32 := 0#32
  let v470 : BitVec 1 := Scalar.cmpi .eq c18_i32_241 c0_i32_242
  let c1_i32_243 : BitVec 32 := 1#32
  let v471 : BitVec 32 := Scalar.select v470 c1_i32_243 c18_i32_241
  let v472 : BitVec 32 := Scalar.remsi v469 v471
  let c0_i32_245 : BitVec 32 := 0#32
  let v474 : BitVec 1 := Scalar.cmpi .slt v472 c0_i32_245
  let c0_i32_246 : BitVec 32 := 0#32
  let v475 : BitVec 1 := Scalar.cmpi .slt v471 c0_i32_246
  let v476 : BitVec 1 := Scalar.xori v474 v475
  let c0_i32_244 : BitVec 32 := 0#32
  let v473 : BitVec 1 := Scalar.cmpi .ne v472 c0_i32_244
  let v477 : BitVec 1 := Scalar.andi v476 v473
  let v478 : BitVec 32 := Scalar.addi v472 v471
  let v479 : BitVec 32 := Scalar.select v477 v478 v472
  let v487 : Index := Scalar.indexCast v479
  let c0_255 : Index := 0#32
  let c0_256 : Index := 0#32
  ![v487.toNat, 0, 0]
abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S24x2048 : Shape := ⟨2, ![24, 2048]⟩
abbrev S2048 : Shape := ⟨1, ![2048]⟩
abbrev S1024x16384 : Shape := ⟨2, ![1024, 16384]⟩
abbrev S16384 : Shape := ⟨1, ![16384]⟩
abbrev S8192x2048 : Shape := ⟨2, ![8192, 2048]⟩
abbrev S24x1x2048 : Shape := ⟨3, ![24, 1, 2048]⟩
abbrev S1x24 : Shape := ⟨2, ![1, 24]⟩
abbrev S24x16384 : Shape := ⟨2, ![24, 16384]⟩
abbrev S24 : Shape := ⟨1, ![24]⟩
abbrev S24x1 : Shape := ⟨2, ![24, 1]⟩
abbrev S1x2048 : Shape := ⟨2, ![1, 2048]⟩
abbrev S24x1024 : Shape := ⟨2, ![24, 1024]⟩
abbrev S1x16384 : Shape := ⟨2, ![1, 16384]⟩
abbrev S24x8192 : Shape := ⟨2, ![24, 8192]⟩

abbrev nBuf : Space → Nat
  | .hbm => 13
  | .vmem => 13
  | .smem => 0
  | _ => 0

abbrev bufTy : (tb : Table) → Fin (tcTables nBuf tb) → BufTy
  | .hbm, ⟨0, _⟩ => ⟨S24x2048, .f32⟩
  | .hbm, ⟨1, _⟩ => ⟨S2048, .f32⟩
  | .hbm, ⟨2, _⟩ => ⟨S1024x16384, .i8⟩
  | .hbm, ⟨3, _⟩ => ⟨S1024x16384, .i8⟩
  | .hbm, ⟨4, _⟩ => ⟨S16384, .f32⟩
  | .hbm, ⟨5, _⟩ => ⟨S16384, .f32⟩
  | .hbm, ⟨6, _⟩ => ⟨S8192x2048, .i8⟩
  | .hbm, ⟨7, _⟩ => ⟨S2048, .f32⟩
  | .hbm, ⟨8, _⟩ => ⟨S24x1x2048, .f32⟩
  | .hbm, ⟨9, _⟩ => ⟨S24x2048, .i8⟩
  | .hbm, ⟨10, _⟩ => ⟨S1x24, .f32⟩
  | .hbm, ⟨11, _⟩ => ⟨S24x16384, .i8⟩
  | .hbm, ⟨12, _⟩ => ⟨S1x24, .f32⟩
  | .local _ .vmem, ⟨0, _⟩ => ⟨S24x2048, .f32⟩
  | .local _ .vmem, ⟨1, _⟩ => ⟨S2048, .f32⟩
  | .local _ .vmem, ⟨2, _⟩ => ⟨S1024x16384, .i8⟩
  | .local _ .vmem, ⟨3, _⟩ => ⟨S1024x16384, .i8⟩
  | .local _ .vmem, ⟨4, _⟩ => ⟨S16384, .f32⟩
  | .local _ .vmem, ⟨5, _⟩ => ⟨S16384, .f32⟩
  | .local _ .vmem, ⟨6, _⟩ => ⟨S8192x2048, .i8⟩
  | .local _ .vmem, ⟨7, _⟩ => ⟨S2048, .f32⟩
  | .local _ .vmem, ⟨8, _⟩ => ⟨S24x1x2048, .f32⟩
  | .local _ .vmem, ⟨9, _⟩ => ⟨S24x2048, .i8⟩
  | .local _ .vmem, ⟨10, _⟩ => ⟨S1x24, .f32⟩
  | .local _ .vmem, ⟨11, _⟩ => ⟨S24x16384, .i8⟩
  | .local _ .vmem, ⟨12, _⟩ => ⟨S1x24, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x16384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x16384 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x24 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Base.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HBuf (c : Dev nD) {sp : Space} {S : Shape} {e : EltTy} (M : Memref sig .tc sp S e) : Type := Buf (Elt F) (M.view.loc (c : Thread nD τ))
abbrev hPt (c : Dev nD) {sp : Space} {S : Shape} {e : EltTy} (M : Memref sig .tc sp S e) (f : HBuf (F := F) c M) : sProp 𝕄 :=
  M.view.loc (c : Thread nD τ) ↦{fullShare} f

abbrev a1 : Memref sig .tc .hbm S1x2048 .f32 := Memref.whole main_v0
abbrev a2 : Memref sig .tc .hbm S1024x16384 .i8 := Memref.whole main_arg2
abbrev a3 : Memref sig .tc .hbm S1024x16384 .i8 := Memref.whole main_arg3
abbrev a4 : Memref sig .tc .hbm S1x16384 .f32 := Memref.whole main_v1
abbrev a5 : Memref sig .tc .hbm S1x16384 .f32 := Memref.whole main_v2
abbrev a6 : Memref sig .tc .hbm S8192x2048 .i8 := Memref.whole main_arg6
abbrev a7 : Memref sig .tc .hbm S1x2048 .f32 := Memref.whole main_v3
abbrev a8 : Memref sig .tc .hbm S24x1x2048 .f32 := Memref.whole main_v4_0
abbrev a9 : Memref sig .tc .hbm S24x2048 .i8 := Memref.whole main_v4_1
abbrev a10 : Memref sig .tc .hbm S1x24 .f32 := Memref.whole main_v4_2
abbrev a11 : Memref sig .tc .hbm S24x16384 .i8 := Memref.whole main_v4_3
abbrev a12 : Memref sig .tc .hbm S1x24 .f32 := Memref.whole main_v4_4
abbrev a13 : Memref sig .tc .vmem S18x1024x2048 .i8 := Memref.whole cc0_scratch0
abbrev a14 : Memref sig .tc .vmem S1x2048 .f32 := Memref.whole cc0_scratch1
abbrev a15 : Memref sig .tc .vmem S1x16384 .f32 := Memref.whole cc0_scratch2
abbrev a16 : Memref sig .tc .vmem S1x16384 .f32 := Memref.whole cc0_scratch3
abbrev a17 : Memref sig .tc .vmem S1x2048 .f32 := Memref.whole cc0_scratch4
abbrev a18 : Memref sig .tc .vmem S24x2048 .bf16 := Memref.whole cc0_scratch5
abbrev a19 : Memref sig .tc .vmem S24x16384 .f32 := Memref.whole cc0_scratch6
abbrev a20 : Memref sig .tc .vmem S24x2048 .bf16 := Memref.whole cc0_scratch7
abbrev a21 : Memref sig .tc .vmem S24x2048 .f32 := Memref.whole cc0_scratch8
abbrev a22 : Memref sig .tc .vmem S24x1x2048 .f32 := Memref.whole cc0_scratch9
abbrev a23 : Memref sig .tc .vmem S24x2048 .i8 := Memref.whole cc0_scratch10
abbrev a24 : Memref sig .tc .vmem S24x16384 .i8 := Memref.whole cc0_scratch11
abbrev a25 : Memref sig .tc .vmem S1x24 .f32 := Memref.whole cc0_scratch12
abbrev a26 : Memref sig .tc .vmem S1x24 .f32 := Memref.whole cc0_scratch13

abbrev cell (c : Dev nD) (i : Fin 28) : sProp 𝕄 := semVal ((c : Thread nD τ), SemLoc.dma i) 0

abbrev A21 : Fin 4 → ℕ := ![256, 2048, 2048, 256]

abbrev dlv (c : Dev nD) {S : Shape} {e : EltTy} (src : Memref sig .tc .hbm S e) (dst : Memref sig .tc .vmem S e)
    (f : HBuf (F := F) c src) (d : HBuf (F := F) c dst) : sProp 𝕄 :=
  iprop((dst.view.loc (c : Thread nD τ) ↦{fullShare}
      View.write (Elt F) dst.view d (ReadAs.same.apply (src.view.read (Elt F) f)) Finset.univ)
    ∗ src.view.loc (c : Thread nD τ) ↦[src.view.set]{fullShare} f)

def deliv21 (c : Dev nD) (x1 : HBuf (F := F) c a1) (x4 : HBuf (F := F) c a4) (x5 : HBuf (F := F) c a5) (x7 : HBuf (F := F) c a7)
    (x14 : HBuf (F := F) c a14) (x15 : HBuf (F := F) c a15) (x16 : HBuf (F := F) c a16) (x17 : HBuf (F := F) c a17) : Fin 4 → sProp 𝕄
  | 0 => dlv c a1 a14 x1 x14
  | 1 => dlv c a4 a15 x4 x15
  | 2 => dlv c a5 a16 x5 x16
  | 3 => dlv c a7 a17 x7 x17
instance deliv21_storable (c : Dev nD) (x1 : HBuf (F := F) c a1) (x4 : HBuf (F := F) c a4) (x5 : HBuf (F := F) c a5) (x7 : HBuf (F := F) c a7)
    (x14 : HBuf (F := F) c a14) (x15 : HBuf (F := F) c a15) (x16 : HBuf (F := F) c a16) (x17 : HBuf (F := F) c a17) (t : Fin 4) :
    Storable (upEmb : UEmb _ 𝕄) (deliv21 c x1 x4 x5 x7 x14 x15 x16 x17 t) := by
  fin_cases t <;> simp only [deliv21] <;> infer_instance

theorem off13_eq : ∀ k : Fin k0_t4_loop.trips, k0_off13 k = ![k.val] := by decide +kernel
instance closedOff_off13 (k : Fin k0_t4_loop.trips) : ClosedOff (k0_off13 k) := ⟨![k.val], off13_eq k⟩
theorem off14_eq : ∀ k : Fin k0_t4_loop.trips, k0_off14 k = ![k.val, 0, 0] := by decide +kernel
instance closedOff_off14 (k : Fin k0_t4_loop.trips) : ClosedOff (k0_off14 k) := ⟨![k.val, 0, 0], off14_eq k⟩
theorem off15_eq : ∀ k : Fin k0_t4_loop.trips, k0_off15 k = ![k.val, 0, 0] := by decide +kernel
instance closedOff_off15 (k : Fin k0_t4_loop.trips) : ClosedOff (k0_off15 k) := ⟨![k.val, 0, 0], off15_eq k⟩

theorem inbSlot (s : ℕ) (h : s < 18) : ∀ a, (![s, 0, 0] : Fin 3 → ℕ) a + S1x1024x2048.size a ≤ S18x1024x2048.size a := by
  intro a; fin_cases a <;> simp <;> omega

/-- Slot `s` of the weight ring, as the kernel names it by the offsets of its slice. -/
abbrev slotO (o : Fin 3 → ℕ) (h : ∀ a, o a + S1x1024x2048.size a ≤ S18x1024x2048.size a) : Memref sig .tc .vmem S1024x2048 .i8 :=
  (a13.slice (Rect.unit (s := S18x1024x2048) o S1x1024x2048.size h) (fun _ => rfl)).squeeze S1024x2048 squeezes_S1x1024x2048_S1024x2048

/-- The semaphore of a slot of the weight ring. -/
abbrev wsemO (o : Fin 1 → ℕ) (h : ∀ a, o a + S1.size a ≤ S18.size a) : SemLoc sig :=
  SemLoc.dma ((cc0_scratch14.slice (Rect.unit (s := S18) o S1.size h)).squeeze S_ squeezes_S1_S_).sem

/-- A slot of the weight ring held at contents `g`. -/
abbrev slotPt (c : Dev nD) (o : Fin 3 → ℕ) (h : ∀ a, o a + S1x1024x2048.size a ≤ S18x1024x2048.size a) (g : HBuf (F := F) c a13) : sProp 𝕄 :=
  (slotO o h).view.loc (c : Thread nD τ) ↦[(slotO o h).view.set]{fullShare} g

/-- What a load of the rectangle at offsets `o` reads of a whole array held at `f`. -/
abbrev rd (c : Dev nD) {sp : Space} {s : Shape} {e : EltTy} (M : Memref sig .tc sp s e) (f : HBuf (F := F) c M) (o : Fin s.rank → ℕ) (sz : Fin s.rank → ℕ)
    (h : ∀ a, o a + sz a ≤ s.size a) :=
  View.readAt (Elt F) M.view (Rect.unit o sz h).toLoadRect f

end Cert.Kernel.Hand

end
-- ==== Proof.Trips.lean ====
module

public import proofs.«01_k».proof.Proof.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### One trip of each of the four loops -/

/-- The gate block trip `k` computes, before its activation is stored: the int8 rows against 2048 columns of the gate weights, scaled. -/
def gateBlk (c : Dev nD) (v118 : FVec F S24x1 .f32) (xi : HBuf (F := F) c a18) (sg : HBuf (F := F) c a15) (g : HBuf (F := F) c a13) (k : Fin k0_t1_loop.trips) :=
  k0_pay2 v118 (rd c a18 xi ![0, 0] S24x2048.size inb_S24x2048_S24x2048_0_0) (rd c a13 g (k0_off3 k) S1x1024x2048.size (k0_off3_inb k)) (rd c a15 sg (k0_off4 k) S1x2048.size (k0_off4_inb k))
/-- The same block as it is stored. -/
def gateSt (c : Dev nD) (v118 : FVec F S24x1 .f32) (xi : HBuf (F := F) c a18) (sg : HBuf (F := F) c a15) (g : HBuf (F := F) c a13) (k : Fin k0_t1_loop.trips) :=
  k0_pay3 v118 (rd c a18 xi ![0, 0] S24x2048.size inb_S24x2048_S24x2048_0_0) (rd c a13 g (k0_off3 k) S1x1024x2048.size (k0_off3_inb k)) (rd c a15 sg (k0_off4 k) S1x2048.size (k0_off4_inb k))

def gateStep (c : Dev nD) (v118 : FVec F S24x1 .f32) (xi : HBuf (F := F) c a18) (sg : HBuf (F := F) c a15) (g : HBuf (F := F) c a13) (k : Fin k0_t1_loop.trips) (ff : HBuf (F := F) c a19) : HBuf (F := F) c a19 :=
  a19.view.writes (Elt F) ff [⟨Rect.unit (k0_off5 k) S24x2048.size (k0_off5_inb k), gateSt c v118 xi sg g k⟩]

theorem trip1 (c : Dev nD) (a0 : Memref sig .tc .vmem S24x2048 .f32) (ha0 : a0.IsWhole) (v118 : FVec F S24x1 .f32)
    (xi : HBuf (F := F) c a18) (sg : HBuf (F := F) c a15) (ff : HBuf (F := F) c a19) (g : HBuf (F := F) c a13)
    (S : Finset (Idx (a2.view.loc (c : Thread nD τ)))) (f : HBuf (F := F) c a2)
    (k : Fin k0_t1_loop.trips) (acc : FVec F S24x1 .f32) (W : Waits sig Unit) :
    iprop(hPt c a18 xi ∗ hPt c a15 sg ∗ hPt c a19 ff
      ∗ Transfers.Flight countersEmb (c : Thread nD τ) (wsemO (k0_off1 k) (k0_off1_inb k)) default 65536
          iprop(slotPt c (k0_off2 k) (k0_off2_inb k) g ∗ a2.view.loc (c : Thread nD τ) ↦[S]{fullShare} f)
      ∗ owes (c : Thread nD τ) 0 W)
    ⊢ wp frame (wpE (defs₀ (F := F)) Variants.none c none) Set.univ (k0_t1_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 k acc)
      fun r => iprop(⌜r = k0_pay42 acc (gateBlk c v118 xi sg g k)⌝ ∗ hPt c a18 xi ∗ hPt c a15 sg ∗ hPt c a19 (gateStep c v118 xi sg g k ff)
        ∗ (semVal ((c : Thread nD τ), wsemO (k0_off1 k) (k0_off1_inb k)) 0 ∗ slotPt c (k0_off2 k) (k0_off2_inb k) g ∗ a2.view.loc (c : Thread nD τ) ↦[S]{fullShare} f)
        ∗ ∃ W', owes (c : Thread nD τ) 0 W') := by
  have hk : k.val < 8 := Nat.lt_of_lt_of_le k.isLt k0_t1_abs.2.1
  unfold k0_t1_body
  iintro ⟨H18, H15, H19, HF, HW⟩
  sl_exec
  sl_step
  isplitr
  · ipureintro; rfl
  unfold gateStep gateSt
  isplitl [H18]; · iexact H18
  isplitl [H15]; · iexact H15
  isplitl [H19]; · iexact H19
  isplitl [HF HF_dst HF_src]
  · isplitl [HF]; · iexact HF
    isplitl [HF_dst]; · iexact HF_dst
    iexact HF_src
  iexists _; iexact HW

theorem trip2 (c : Dev nD) (a0 : Memref sig .tc .vmem S24x2048 .f32) (ha0 : a0.IsWhole) (v247 : FVec F S24x1 .f32)
    (ff : HBuf (F := F) c a19) (k : Fin k0_t2_loop.trips) (acc : FVec F S24x1 .f32) (W : Waits sig Unit) :
    iprop(hPt c a19 ff ∗ owes (c : Thread nD τ) 0 W)
    ⊢ wp frame (wpE (defs₀ (F := F)) Variants.none c none) Set.univ (k0_t2_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v247 k acc)
      fun r => iprop(⌜r = k0_pay45 v247 acc (rd c a19 ff (k0_off6 k) S24x2048.size (k0_off6_inb k))⌝ ∗ hPt c a19 ff ∗ ∃ W', owes (c : Thread nD τ) 0 W') := by
  have hk : k.val < 8 := Nat.lt_of_lt_of_le k.isLt k0_t2_abs.2.1
  unfold k0_t2_body
  iintro ⟨H19, HW⟩
  sl_exec
  sl_step
  isplitr
  · ipureintro; rfl
  isplitl [H19]; · iexact H19
  iexists _; iexact HW

/-- What trip `k` of the up loop stores: the activated gate block times the up block. -/
def upBlk (c : Dev nD) (v118 v247 v288 : FVec F S24x1 .f32) (xi : HBuf (F := F) c a18) (su : HBuf (F := F) c a16) (ff : HBuf (F := F) c a19) (g : HBuf (F := F) c a13) (k : Fin k0_t3_loop.trips) :=
  k0_pay50 (k0_pay4 v118 (rd c a18 xi ![0, 0] S24x2048.size inb_S24x2048_S24x2048_0_0) (rd c a13 g (k0_off9 k) S1x1024x2048.size (k0_off9_inb k)) (rd c a16 su (k0_off10 k) S1x2048.size (k0_off10_inb k)))
    (k0_pay5 (k0_pay47 v247 v288) (rd c a19 ff (k0_off11 k) S24x2048.size (k0_off11_inb k)))
def upAcc (c : Dev nD) (v118 v247 v288 : FVec F S24x1 .f32) (xi : HBuf (F := F) c a18) (su : HBuf (F := F) c a16) (ff : HBuf (F := F) c a19) (g : HBuf (F := F) c a13) (k : Fin k0_t3_loop.trips) (acc : FVec F S24x1 .f32) :=
  k0_pay51 acc (k0_pay4 v118 (rd c a18 xi ![0, 0] S24x2048.size inb_S24x2048_S24x2048_0_0) (rd c a13 g (k0_off9 k) S1x1024x2048.size (k0_off9_inb k)) (rd c a16 su (k0_off10 k) S1x2048.size (k0_off10_inb k)))
    (k0_pay5 (k0_pay47 v247 v288) (rd c a19 ff (k0_off11 k) S24x2048.size (k0_off11_inb k)))
def upStep (c : Dev nD) (v118 v247 v288 : FVec F S24x1 .f32) (xi : HBuf (F := F) c a18) (su : HBuf (F := F) c a16) (g : HBuf (F := F) c a13) (k : Fin k0_t3_loop.trips) (ff : HBuf (F := F) c a19) : HBuf (F := F) c a19 :=
  a19.view.writes (Elt F) ff [⟨Rect.unit (k0_off11 k) S24x2048.size (k0_off11_inb k), upBlk c v118 v247 v288 xi su ff g k⟩]

theorem trip3 (c : Dev nD) (a0 : Memref sig .tc .vmem S24x2048 .f32) (ha0 : a0.IsWhole) (v118 v247 v288 : FVec F S24x1 .f32)
    (xi : HBuf (F := F) c a18) (su : HBuf (F := F) c a16) (ff : HBuf (F := F) c a19) (g : HBuf (F := F) c a13)
    (S : Finset (Idx (a3.view.loc (c : Thread nD τ)))) (f : HBuf (F := F) c a3)
    (k : Fin k0_t3_loop.trips) (acc : FVec F S24x1 .f32) (W : Waits sig Unit) :
    iprop(hPt c a18 xi ∗ hPt c a16 su ∗ hPt c a19 ff
      ∗ Transfers.Flight countersEmb (c : Thread nD τ) (wsemO (k0_off7 k) (k0_off7_inb k)) default 65536
          iprop(slotPt c (k0_off8 k) (k0_off8_inb k) g ∗ a3.view.loc (c : Thread nD τ) ↦[S]{fullShare} f)
      ∗ owes (c : Thread nD τ) 0 W)
    ⊢ wp frame (wpE (defs₀ (F := F)) Variants.none c none) Set.univ (k0_t3_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 k acc)
      fun r => iprop(⌜r = upAcc c v118 v247 v288 xi su ff g k acc⌝ ∗ hPt c a18 xi ∗ hPt c a16 su ∗ hPt c a19 (upStep c v118 v247 v288 xi su g k ff)
        ∗ (semVal ((c : Thread nD τ), wsemO (k0_off7 k) (k0_off7_inb k)) 0 ∗ slotPt c (k0_off8 k) (k0_off8_inb k) g ∗ a3.view.loc (c : Thread nD τ) ↦[S]{fullShare} f)
        ∗ ∃ W', owes (c : Thread nD τ) 0 W') := by
  have hk : k.val < 8 := Nat.lt_of_lt_of_le k.isLt k0_t3_abs.2.1
  unfold k0_t3_body
  iintro ⟨H18, H16, H19, HF, HW⟩
  sl_exec
  sl_step
  isplitr
  · ipureintro; rfl
  unfold upStep upBlk
  isplitl [H18]; · iexact H18
  isplitl [H16]; · iexact H16
  isplitl [H19]; · iexact H19
  isplitl [HF HF_dst HF_src]
  · isplitl [HF]; · iexact HF
    isplitl [HF_dst]; · iexact HF_dst
    iexact HF_src
  iexists _; iexact HW

/-! The down loop's trip: two blocks of 1024 hidden columns quantised (the columns `1024 k …` and `8192 + 1024 k …`), stored
    as int8, interleaved by a product with a permutation matrix into `a20`, multiplied with the down weights of slot `k` and
    added to the accumulator. -/
def loQ (c : Dev nD) (v295 : FVec F S24x1 .f32) (ff : HBuf (F := F) c a19) (k : Fin k0_t4_loop.trips) : FVec F S24x1024 .f32 :=
  k0_pay6 (k0_pay52 v295) (rd c a19 ff (k0_off12 k 0#32) S24x1024.size (k0_off12_inb k 0))
def hiQ (c : Dev nD) (v295 : FVec F S24x1 .f32) (ff : HBuf (F := F) c a19) (k : Fin k0_t4_loop.trips) : FVec F S24x1024 .f32 :=
  k0_pay8 (k0_pay52 v295) (rd c a19 ff (k0_off12 k 8192#32) S24x1024.size (k0_off12_inb k 1))
def lo128 (c : Dev nD) (v295 : FVec F S24x1 .f32) (ff : HBuf (F := F) c a19) (k : Fin k0_t4_loop.trips) : FVec F S24x128 .f32 :=
  k0_pay10 (k0_pay52 v295) (rd c a19 ff (k0_off12 k 0#32) S24x1024.size (k0_off12_inb k 0))
def perm (c : Dev nD) (v295 : FVec F S24x1 .f32) (ff : HBuf (F := F) c a19) (k : Fin k0_t4_loop.trips) : FVec F S192x256 .f32 :=
  k0_pay11 (loQ c v295 ff k) (hiQ c v295 ff k) (lo128 c v295 ff k)
def hiParts (c : Dev nD) (v295 : FVec F S24x1 .f32) (ff : HBuf (F := F) c a19) (k : Fin k0_t4_loop.trips) : List (View.Piece (Elt F) S24x2048 .bf16) :=
  [⟨Rect.unit ![0, 1792] S24x256.size inb_S24x2048_S24x256_0_1792, k0_pay20 (perm c v295 ff k)⟩,
   ⟨Rect.unit ![0, 1536] S24x256.size inb_S24x2048_S24x256_0_1536, k0_pay19 (perm c v295 ff k)⟩,
   ⟨Rect.unit ![0, 1280] S24x256.size inb_S24x2048_S24x256_0_1280, k0_pay18 (perm c v295 ff k)⟩,
   ⟨Rect.unit ![0, 1024] S24x256.size inb_S24x2048_S24x256_0_1024, k0_pay17 (perm c v295 ff k)⟩,
   ⟨Rect.unit ![0, 768] S24x256.size inb_S24x2048_S24x256_0_768, k0_pay16 (perm c v295 ff k)⟩,
   ⟨Rect.unit ![0, 512] S24x256.size inb_S24x2048_S24x256_0_512, k0_pay15 (perm c v295 ff k)⟩,
   ⟨Rect.unit ![0, 256] S24x256.size inb_S24x2048_S24x256_0_256, k0_pay14 (k0_pay13 (loQ c v295 ff k) (hiQ c v295 ff k) (lo128 c v295 ff k))⟩,
   ⟨Rect.unit ![0, 0] S24x256.size inb_S24x2048_S24x256_0_0, k0_pay12 (loQ c v295 ff k) (hiQ c v295 ff k) (lo128 c v295 ff k)⟩]
def inter (c : Dev nD) (v295 : FVec F S24x1 .f32) (ff : HBuf (F := F) c a19) (k : Fin k0_t4_loop.trips) : Vec F S24x2048 .bf16 :=
  a20.view.readCov (hiParts c v295 ff k) (Rect.unit ![0, 0] S24x2048.size inb_S24x2048_S24x2048_0_0).toLoadRect
def hcStep (c : Dev nD) (v295 : FVec F S24x1 .f32) (ff : HBuf (F := F) c a19) (k : Fin k0_t4_loop.trips) (hc : HBuf (F := F) c a24) : HBuf (F := F) c a24 :=
  a24.view.writes (Elt F) hc
    [⟨Rect.unit (k0_off12 k 8192#32) S24x1024.size (k0_off12_inb k 1), k0_pay9 (k0_pay52 v295) (rd c a19 ff (k0_off12 k 8192#32) S24x1024.size (k0_off12_inb k 1))⟩,
     ⟨Rect.unit (k0_off12 k 0#32) S24x1024.size (k0_off12_inb k 0), k0_pay7 (k0_pay52 v295) (rd c a19 ff (k0_off12 k 0#32) S24x1024.size (k0_off12_inb k 0))⟩]
def faStep (c : Dev nD) (v295 : FVec F S24x1 .f32) (ff : HBuf (F := F) c a19) (g : HBuf (F := F) c a13) (k : Fin k0_t4_loop.trips) (fa : HBuf (F := F) c a21) : HBuf (F := F) c a21 :=
  a21.view.writes (Elt F) fa
    [⟨Rect.unit ![0, 0] S24x2048.size inb_S24x2048_S24x2048_0_0,
      k0_pay21 (rd c a21 fa ![0, 0] S24x2048.size inb_S24x2048_S24x2048_0_0) (inter c v295 ff k) (rd c a13 g (k0_off15 k) S1x1024x2048.size (k0_off15_inb k))⟩]

theorem trip4 (c : Dev nD) (a0 : Memref sig .tc .vmem S24x2048 .f32) (ha0 : a0.IsWhole) (v118 v247 v288 v295 : FVec F S24x1 .f32)
    (hc : HBuf (F := F) c a24) (hi : HBuf (F := F) c a20) (fa : HBuf (F := F) c a21) (ff : HBuf (F := F) c a19) (g : HBuf (F := F) c a13)
    (S : Finset (Idx (a6.view.loc (c : Thread nD τ)))) (f : HBuf (F := F) c a6)
    (k : Fin k0_t4_loop.trips) (acc : Unit) (W : Waits sig Unit) :
    iprop(hPt c a24 hc ∗ hPt c a20 hi ∗ hPt c a21 fa ∗ hPt c a19 ff
      ∗ Transfers.Flight countersEmb (c : Thread nD τ) (wsemO (k0_off13 k) (k0_off13_inb k)) default 65536
          iprop(slotPt c (k0_off14 k) (k0_off14_inb k) g ∗ a6.view.loc (c : Thread nD τ) ↦[S]{fullShare} f)
      ∗ owes (c : Thread nD τ) 0 W)
    ⊢ wp frame (wpE (defs₀ (F := F)) Variants.none c none) Set.univ (k0_t4_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 v295 k acc)
      fun _ => iprop(hPt c a24 (hcStep c v295 ff k hc) ∗ (∃ hi', hPt c a20 hi') ∗ hPt c a21 (faStep c v295 ff g k fa) ∗ hPt c a19 ff
        ∗ (semVal ((c : Thread nD τ), wsemO (k0_off13 k) (k0_off13_inb k)) 0 ∗ slotPt c (k0_off14 k) (k0_off14_inb k) g ∗ a6.view.loc (c : Thread nD τ) ↦[S]{fullShare} f)
        ∗ ∃ W', owes (c : Thread nD τ) 0 W') := by
  have hk : k.val < 8 := Nat.lt_of_lt_of_le k.isLt k0_t4_abs.2.1
  unfold k0_t4_body
  iintro ⟨H24, H20, H21, H19, HF, HW⟩
  sl_exec
  sl_step
  unfold hcStep faStep
  isplitl [H24]; · iexact H24
  isplitl [H20]; · iexists _; iexact H20
  isplitl [H21]; · iexact H21
  isplitl [H19]; · iexact H19
  isplitl [HF HF_dst HF_src]
  · isplitl [HF]; · iexact HF
    isplitl [HF_dst]; · iexact HF_dst
    iexact HF_src
  iexists _; iexact HW

end Cert.Kernel.Hand

end
-- ==== Proof.LoopInv.lean ====
module

public import proofs.«01_k».proof.Proof.Trips

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The four loops, each by its invariant before trip `n` -/

theorem trips1 : k0_t1_loop.trips = 8 := by decide
abbrev tk1 (j : Fin 8) : Fin k0_t1_loop.trips := ⟨j.val, by rw [trips1]; exact j.isLt⟩
theorem trips2 : k0_t2_loop.trips = 8 := by decide
abbrev tk2 (j : Fin 8) : Fin k0_t2_loop.trips := ⟨j.val, by rw [trips2]; exact j.isLt⟩
theorem trips3 : k0_t3_loop.trips = 8 := by decide
abbrev tk3 (j : Fin 8) : Fin k0_t3_loop.trips := ⟨j.val, by rw [trips3]; exact j.isLt⟩
theorem trips4 : k0_t4_loop.trips = 8 := by decide
abbrev tk4 (j : Fin 8) : Fin k0_t4_loop.trips := ⟨j.val, by rw [trips4]; exact j.isLt⟩

/-- A weight copy in flight: its semaphore will hand back the slot of the ring at `g` and the window of the weights it read. -/
abbrev flyAt (c : Dev nD) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) : sProp 𝕄 :=
  Transfers.Flight countersEmb (c : Thread nD τ) (wsemO o1 h1) default 65536 iprop(slotPt c o2 h2 g ∗ P)
/-- The same copy landed and waited for. -/
abbrev landAt (c : Dev nD) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) : sProp 𝕄 :=
  iprop(semVal ((c : Thread nD τ), wsemO o1 h1) 0 ∗ slotPt c o2 h2 g ∗ P)

abbrev fly1 (c : Dev nD) (g : Fin 8 → HBuf (F := F) c a13) (P : Fin 8 → sProp 𝕄) (j : Fin 8) : sProp 𝕄 :=
  flyAt c (k0_off1 (tk1 j)) (k0_off1_inb (tk1 j)) (k0_off2 (tk1 j)) (k0_off2_inb (tk1 j)) (g j) (P j)
abbrev land1 (c : Dev nD) (g : Fin 8 → HBuf (F := F) c a13) (P : Fin 8 → sProp 𝕄) (j : Fin 8) : sProp 𝕄 :=
  landAt c (k0_off1 (tk1 j)) (k0_off1_inb (tk1 j)) (k0_off2 (tk1 j)) (k0_off2_inb (tk1 j)) (g j) (P j)
abbrev fly3 (c : Dev nD) (g : Fin 8 → HBuf (F := F) c a13) (P : Fin 8 → sProp 𝕄) (j : Fin 8) : sProp 𝕄 :=
  flyAt c (k0_off7 (tk3 j)) (k0_off7_inb (tk3 j)) (k0_off8 (tk3 j)) (k0_off8_inb (tk3 j)) (g j) (P j)
abbrev land3 (c : Dev nD) (g : Fin 8 → HBuf (F := F) c a13) (P : Fin 8 → sProp 𝕄) (j : Fin 8) : sProp 𝕄 :=
  landAt c (k0_off7 (tk3 j)) (k0_off7_inb (tk3 j)) (k0_off8 (tk3 j)) (k0_off8_inb (tk3 j)) (g j) (P j)
abbrev fly4 (c : Dev nD) (g : Fin 8 → HBuf (F := F) c a13) (P : Fin 8 → sProp 𝕄) (j : Fin 8) : sProp 𝕄 :=
  flyAt c (k0_off13 (tk4 j)) (k0_off13_inb (tk4 j)) (k0_off14 (tk4 j)) (k0_off14_inb (tk4 j)) (g j) (P j)
abbrev land4 (c : Dev nD) (g : Fin 8 → HBuf (F := F) c a13) (P : Fin 8 → sProp 𝕄) (j : Fin 8) : sProp 𝕄 :=
  landAt c (k0_off13 (tk4 j)) (k0_off13_inb (tk4 j)) (k0_off14 (tk4 j)) (k0_off14_inb (tk4 j)) (g j) (P j)

section Gate
variable (c : Dev nD) (v118 : FVec F S24x1 .f32) (xi : HBuf (F := F) c a18) (sg : HBuf (F := F) c a15) (g : Fin 8 → HBuf (F := F) c a13)

/-- The gate rows before trip `n`. -/
def gateFF (ff0 : HBuf (F := F) c a19) : ℕ → HBuf (F := F) c a19
  | 0 => ff0
  | n + 1 => if h : n < 8 then gateStep c v118 xi sg (g ⟨n, h⟩) (tk1 ⟨n, h⟩) (gateFF ff0 n) else gateFF ff0 n
/-- The row sums of the gate blocks before trip `n`. -/
def gateAcc : ℕ → FVec F S24x1 .f32
  | 0 => k0_pay41
  | n + 1 => if h : n < 8 then k0_pay42 (gateAcc n) (gateBlk c v118 xi sg (g ⟨n, h⟩) (tk1 ⟨n, h⟩)) else gateAcc n

def inv1 (ff0 : HBuf (F := F) c a19) (S : Fin 8 → Finset (Idx (a2.view.loc (c : Thread nD τ)))) (f : HBuf (F := F) c a2) (n : ℕ) (acc : FVec F S24x1 .f32) : sProp 𝕄 :=
  iprop(⌜acc = gateAcc c v118 xi sg g n⌝ ∗ hPt c a18 xi ∗ hPt c a15 sg ∗ hPt c a19 (gateFF c v118 xi sg g ff0 n)
    ∗ bigSep (Ring.rangeSet 8 n 8) (fly1 c g fun j => a2.view.loc (c : Thread nD τ) ↦[S j]{fullShare} f)
    ∗ bigSep (Ring.rangeSet 8 0 n) (land1 c g fun j => a2.view.loc (c : Thread nD τ) ↦[S j]{fullShare} f)
    ∗ ∃ W', owes (c : Thread nD τ) 0 W')

theorem region1 (a0 : Memref sig .tc .vmem S24x2048 .f32) (ha0 : a0.IsWhole)
    (ff0 : HBuf (F := F) c a19) (S : Fin 8 → Finset (Idx (a2.view.loc (c : Thread nD τ)))) (f : HBuf (F := F) c a2) (k : Fin k0_t1_loop.trips) (acc : FVec F S24x1 .f32) :
    inv1 c v118 xi sg g ff0 S f k.val acc
    ⊢ wp frame (wpE (defs₀ (F := F)) Variants.none c none) Set.univ (k0_t1_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 k acc)
        fun r => inv1 c v118 xi sg g ff0 S f (k.val + 1) r := by
  have hk : k.val < 8 := Nat.lt_of_lt_of_le k.isLt k0_t1_abs.2.1
  unfold inv1
  rw [Ring.bigSep_rangeSet_head (NB := 8) hk hk, Ring.bigSep_rangeSet_last (NB := 8) (lo := 0) (hi := k.val + 1) (Nat.succ_pos _) (by omega)]
  iintro ⟨%ha, H18, H15, H19, ⟨HF, Hfly⟩, Hland, %W', HW⟩
  iapply (wp_wand_r Idealize.ShloMosaic.frame (wpE (defs₀ (F := F)) Variants.none c none) Set.univ)
  isplitl [H18 H15 H19 HF HW]
  · iapply (trip1 c a0 ha0 v118 xi sg (gateFF c v118 xi sg g ff0 k.val) (g ⟨k.val, hk⟩) (S ⟨k.val, hk⟩) f k acc W')
    isplitl [H18]; · iexact H18
    isplitl [H15]; · iexact H15
    isplitl [H19]; · iexact H19
    isplitl [HF]; · iexact HF
    iexact HW
  iintro %r ⟨%hr, H18, H15, H19, HL, HW⟩
  isplitr
  · ipureintro; rw [hr, ha]; show _ = dite _ _ _; rw [dif_pos hk]
  isplitl [H18]; · iexact H18
  isplitl [H15]; · iexact H15
  isplitl [H19]
  · rw [show gateFF c v118 xi sg g ff0 (k.val + 1) = gateStep c v118 xi sg (g ⟨k.val, hk⟩) k (gateFF c v118 xi sg g ff0 k.val) from dif_pos hk]
    iexact H19
  isplitl [Hfly]; · iexact Hfly
  isplitl [Hland HL]
  · isplitl [HL]; · iexact HL
    iexact Hland
  iexact HW

end Gate

section Var
variable (c : Dev nD) (v247 : FVec F S24x1 .f32) (ff : HBuf (F := F) c a19)
/-- The row sums of the squared deviations before trip `n`. -/
def varAcc : ℕ → FVec F S24x1 .f32
  | 0 => k0_pay44
  | n + 1 => if h : n < 8 then k0_pay45 v247 (varAcc n) (rd c a19 ff (k0_off6 (tk2 ⟨n, h⟩)) S24x2048.size (k0_off6_inb (tk2 ⟨n, h⟩))) else varAcc n

def inv2 (n : ℕ) (acc : FVec F S24x1 .f32) : sProp 𝕄 :=
  iprop(⌜acc = varAcc c v247 ff n⌝ ∗ hPt c a19 ff ∗ ∃ W', owes (c : Thread nD τ) 0 W')

theorem region2 (a0 : Memref sig .tc .vmem S24x2048 .f32) (ha0 : a0.IsWhole) (k : Fin k0_t2_loop.trips) (acc : FVec F S24x1 .f32) :
    inv2 c v247 ff k.val acc
    ⊢ wp frame (wpE (defs₀ (F := F)) Variants.none c none) Set.univ (k0_t2_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v247 k acc)
        fun r => inv2 c v247 ff (k.val + 1) r := by
  have hk : k.val < 8 := Nat.lt_of_lt_of_le k.isLt k0_t2_abs.2.1
  unfold inv2
  iintro ⟨%ha, H19, %W', HW⟩
  iapply (wp_wand_r Idealize.ShloMosaic.frame (wpE (defs₀ (F := F)) Variants.none c none) Set.univ)
  isplitl [H19 HW]
  · iapply (trip2 c a0 ha0 v247 ff k acc W')
    isplitl [H19]; · iexact H19
    iexact HW
  iintro %r ⟨%hr, H19, HW⟩
  isplitr
  · ipureintro; rw [hr, ha]; show _ = dite _ _ _; rw [dif_pos hk]
  isplitl [H19]; · iexact H19
  iexact HW

end Var

section Up
variable (c : Dev nD) (v118 v247 v288 : FVec F S24x1 .f32) (xi : HBuf (F := F) c a18) (su : HBuf (F := F) c a16) (g : Fin 8 → HBuf (F := F) c a13)

/-- The hidden rows (activated gate times up) before trip `n`; -/
def upFF (ff0 : HBuf (F := F) c a19) : ℕ → HBuf (F := F) c a19
  | 0 => ff0
  | n + 1 => if h : n < 8 then upStep c v118 v247 v288 xi su (g ⟨n, h⟩) (tk3 ⟨n, h⟩) (upFF ff0 n) else upFF ff0 n
/-- the running row maxima of their magnitudes. -/
def upMax (ff0 : HBuf (F := F) c a19) : ℕ → FVec F S24x1 .f32
  | 0 => k0_pay48
  | n + 1 => if h : n < 8 then upAcc c v118 v247 v288 xi su (upFF c v118 v247 v288 xi su g ff0 n) (g ⟨n, h⟩) (tk3 ⟨n, h⟩) (upMax ff0 n) else upMax ff0 n

def inv3 (ff0 : HBuf (F := F) c a19) (S : Fin 8 → Finset (Idx (a3.view.loc (c : Thread nD τ)))) (f : HBuf (F := F) c a3) (n : ℕ) (acc : FVec F S24x1 .f32) : sProp 𝕄 :=
  iprop(⌜acc = upMax c v118 v247 v288 xi su g ff0 n⌝ ∗ hPt c a18 xi ∗ hPt c a16 su ∗ hPt c a19 (upFF c v118 v247 v288 xi su g ff0 n)
    ∗ bigSep (Ring.rangeSet 8 n 8) (fly3 c g fun j => a3.view.loc (c : Thread nD τ) ↦[S j]{fullShare} f)
    ∗ bigSep (Ring.rangeSet 8 0 n) (land3 c g fun j => a3.view.loc (c : Thread nD τ) ↦[S j]{fullShare} f)
    ∗ ∃ W', owes (c : Thread nD τ) 0 W')

theorem region3 (a0 : Memref sig .tc .vmem S24x2048 .f32) (ha0 : a0.IsWhole)
    (ff0 : HBuf (F := F) c a19) (S : Fin 8 → Finset (Idx (a3.view.loc (c : Thread nD τ)))) (f : HBuf (F := F) c a3) (k : Fin k0_t3_loop.trips) (acc : FVec F S24x1 .f32) :
    inv3 c v118 v247 v288 xi su g ff0 S f k.val acc
    ⊢ wp frame (wpE (defs₀ (F := F)) Variants.none c none) Set.univ (k0_t3_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 k acc)
        fun r => inv3 c v118 v247 v288 xi su g ff0 S f (k.val + 1) r := by
  have hk : k.val < 8 := Nat.lt_of_lt_of_le k.isLt k0_t3_abs.2.1
  unfold inv3
  rw [Ring.bigSep_rangeSet_head (NB := 8) hk hk, Ring.bigSep_rangeSet_last (NB := 8) (lo := 0) (hi := k.val + 1) (Nat.succ_pos _) (by omega)]
  iintro ⟨%ha, H18, H16, H19, ⟨HF, Hfly⟩, Hland, %W', HW⟩
  iapply (wp_wand_r Idealize.ShloMosaic.frame (wpE (defs₀ (F := F)) Variants.none c none) Set.univ)
  isplitl [H18 H16 H19 HF HW]
  · iapply (trip3 c a0 ha0 v118 v247 v288 xi su (upFF c v118 v247 v288 xi su g ff0 k.val) (g ⟨k.val, hk⟩) (S ⟨k.val, hk⟩) f k acc W')
    isplitl [H18]; · iexact H18
    isplitl [H16]; · iexact H16
    isplitl [H19]; · iexact H19
    isplitl [HF]; · iexact HF
    iexact HW
  iintro %r ⟨%hr, H18, H16, H19, HL, HW⟩
  isplitr
  · ipureintro; rw [hr, ha]; show _ = dite _ _ _; rw [dif_pos hk]
  isplitl [H18]; · iexact H18
  isplitl [H16]; · iexact H16
  isplitl [H19]
  · rw [show upFF c v118 v247 v288 xi su g ff0 (k.val + 1) = upStep c v118 v247 v288 xi su (g ⟨k.val, hk⟩) k (upFF c v118 v247 v288 xi su g ff0 k.val) from dif_pos hk]
    iexact H19
  isplitl [Hfly]; · iexact Hfly
  isplitl [Hland HL]
  · isplitl [HL]; · iexact HL
    iexact Hland
  iexact HW

end Up

section Down
variable (c : Dev nD) (v295 : FVec F S24x1 .f32) (ff : HBuf (F := F) c a19) (g : Fin 8 → HBuf (F := F) c a13)

/-- The hidden int8 rows before trip `n`; -/
def hcAt (hc0 : HBuf (F := F) c a24) : ℕ → HBuf (F := F) c a24
  | 0 => hc0
  | n + 1 => if h : n < 8 then hcStep c v295 ff (tk4 ⟨n, h⟩) (hcAt hc0 n) else hcAt hc0 n
/-- the accumulator of the down product. -/
def faAt (fa0 : HBuf (F := F) c a21) : ℕ → HBuf (F := F) c a21
  | 0 => fa0
  | n + 1 => if h : n < 8 then faStep c v295 ff (g ⟨n, h⟩) (tk4 ⟨n, h⟩) (faAt fa0 n) else faAt fa0 n

def inv4 (hc0 : HBuf (F := F) c a24) (fa0 : HBuf (F := F) c a21) (S : Fin 8 → Finset (Idx (a6.view.loc (c : Thread nD τ)))) (f : HBuf (F := F) c a6) (n : ℕ) (_ : Unit) : sProp 𝕄 :=
  iprop(hPt c a24 (hcAt c v295 ff hc0 n) ∗ (∃ hi, hPt c a20 hi) ∗ hPt c a21 (faAt c v295 ff g fa0 n) ∗ hPt c a19 ff
    ∗ bigSep (Ring.rangeSet 8 n 8) (fly4 c g fun j => a6.view.loc (c : Thread nD τ) ↦[S j]{fullShare} f)
    ∗ bigSep (Ring.rangeSet 8 0 n) (land4 c g fun j => a6.view.loc (c : Thread nD τ) ↦[S j]{fullShare} f)
    ∗ ∃ W', owes (c : Thread nD τ) 0 W')

theorem region4 (a0 : Memref sig .tc .vmem S24x2048 .f32) (ha0 : a0.IsWhole) (v118 v247 v288 : FVec F S24x1 .f32)
    (hc0 : HBuf (F := F) c a24) (fa0 : HBuf (F := F) c a21) (S : Fin 8 → Finset (Idx (a6.view.loc (c : Thread nD τ)))) (f : HBuf (F := F) c a6) (k : Fin k0_t4_loop.trips) (acc : Unit) :
    inv4 c v295 ff g hc0 fa0 S f k.val acc
    ⊢ wp frame (wpE (defs₀ (F := F)) Variants.none c none) Set.univ (k0_t4_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 v295 k acc)
        fun r => inv4 c v295 ff g hc0 fa0 S f (k.val + 1) r := by
  have hk : k.val < 8 := Nat.lt_of_lt_of_le k.isLt k0_t4_abs.2.1
  unfold inv4
  rw [Ring.bigSep_rangeSet_head (NB := 8) hk hk, Ring.bigSep_rangeSet_last (NB := 8) (lo := 0) (hi := k.val + 1) (Nat.succ_pos _) (by omega)]
  iintro ⟨H24, ⟨%hi, H20⟩, H21, H19, ⟨HF, Hfly⟩, Hland, %W', HW⟩
  iapply (wp_wand_r Idealize.ShloMosaic.frame (wpE (defs₀ (F := F)) Variants.none c none) Set.univ)
  isplitl [H24 H20 H21 H19 HF HW]
  · iapply (trip4 c a0 ha0 v118 v247 v288 v295 (hcAt c v295 ff hc0 k.val) hi (faAt c v295 ff g fa0 k.val) ff (g ⟨k.val, hk⟩) (S ⟨k.val, hk⟩) f k acc W')
    isplitl [H24]; · iexact H24
    isplitl [H20]; · iexact H20
    isplitl [H21]; · iexact H21
    isplitl [H19]; · iexact H19
    isplitl [HF]; · iexact HF
    iexact HW
  iintro %r ⟨H24, H20, H21, H19, HL, HW⟩
  isplitl [H24]
  · rw [show hcAt c v295 ff hc0 (k.val + 1) = hcStep c v295 ff k (hcAt c v295 ff hc0 k.val) from dif_pos hk]
    iexact H24
  isplitl [H20]; · iexact H20
  isplitl [H21]
  · rw [show faAt c v295 ff g fa0 (k.val + 1) = faStep c v295 ff (g ⟨k.val, hk⟩) k (faAt c v295 ff g fa0 k.val) from dif_pos hk]
    iexact H21
  isplitl [H19]; · iexact H19
  isplitl [Hfly]; · iexact Hfly
  isplitl [Hland HL]
  · isplitl [HL]; · iexact HL
    iexact Hland
  iexact HW

end Down

end Cert.Kernel.Hand

end
-- ==== Proof.Slots.lean ====
module

public import proofs.«01_k».proof.Proof.LoopInv

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The kernel body, run as one triple -/

abbrev win2 (o : Fin 2 → ℕ) (h : ∀ a, o a + S1024x2048.size a ≤ S1024x16384.size a) : Memref sig .tc .hbm S1024x2048 .i8 :=
  a2.slice (Rect.unit (s := S1024x16384) o S1024x2048.size h) (fun _ => rfl)
abbrev win3 (o : Fin 2 → ℕ) (h : ∀ a, o a + S1024x2048.size a ≤ S1024x16384.size a) : Memref sig .tc .hbm S1024x2048 .i8 :=
  a3.slice (Rect.unit (s := S1024x16384) o S1024x2048.size h) (fun _ => rfl)
abbrev win6 (o : Fin 2 → ℕ) (h : ∀ a, o a + S1024x2048.size a ≤ S8192x2048.size a) : Memref sig .tc .hbm S1024x2048 .i8 :=
  a6.slice (Rect.unit (s := S8192x2048) o S1024x2048.size h) (fun _ => rfl)
abbrev w2Pt (c : Dev nD) (o : Fin 2 → ℕ) (h : ∀ a, o a + S1024x2048.size a ≤ S1024x16384.size a) (x : HBuf (F := F) c a2) : sProp 𝕄 :=
  (win2 o h).view.loc (c : Thread nD τ) ↦[(win2 o h).view.set]{fullShare} x
abbrev w3Pt (c : Dev nD) (o : Fin 2 → ℕ) (h : ∀ a, o a + S1024x2048.size a ≤ S1024x16384.size a) (x : HBuf (F := F) c a3) : sProp 𝕄 :=
  (win3 o h).view.loc (c : Thread nD τ) ↦[(win3 o h).view.set]{fullShare} x
abbrev w6Pt (c : Dev nD) (o : Fin 2 → ℕ) (h : ∀ a, o a + S1024x2048.size a ≤ S8192x2048.size a) (x : HBuf (F := F) c a6) : sProp 𝕄 :=
  (win6 o h).view.loc (c : Thread nD τ) ↦[(win6 o h).view.set]{fullShare} x

/-- The semaphore of slot `s` is DMA semaphore `1 + s` of the core's pool. -/
theorem wsem_eq : ∀ s : Fin 18, wsemO ![s.val] (fun a => by fin_cases a; simp; omega) = SemLoc.dma (⟨1 + s.val, by omega⟩ : Fin 28) := by decide

abbrev flyS (c : Dev nD) (s : ℕ) (hs : s < 18) (g : HBuf (F := F) c a13) (P : sProp 𝕄) : sProp 𝕄 :=
  Transfers.Flight countersEmb (c : Thread nD τ) (SemLoc.dma (⟨1 + s, by omega⟩ : Fin 28)) default 65536 iprop(slotPt c ![s, 0, 0] (inbSlot s hs) g ∗ P)
abbrev landS (c : Dev nD) (s : ℕ) (hs : s < 18) (g : HBuf (F := F) c a13) (P : sProp 𝕄) : sProp 𝕄 :=
  iprop(semVal ((c : Thread nD τ), SemLoc.dma (⟨1 + s, by omega⟩ : Fin 28)) 0 ∗ slotPt c ![s, 0, 0] (inbSlot s hs) g ∗ P)

theorem flyAt_eq (c : Dev nD) (s : ℕ) (hs : s < 18) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) (e1 : o1 = ![s]) (e2 : o2 = ![s, 0, 0]) : flyAt c o1 h1 o2 h2 g P = flyS c s hs g P := by
  subst e1 e2; unfold flyAt flyS; rw [wsem_eq ⟨s, hs⟩]
theorem landAt_eq (c : Dev nD) (s : ℕ) (hs : s < 18) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) (e1 : o1 = ![s]) (e2 : o2 = ![s, 0, 0]) : landAt c o1 h1 o2 h2 g P = landS c s hs g P := by
  subst e1 e2; unfold landAt landS; rw [wsem_eq ⟨s, hs⟩]

theorem off1_lit : ∀ j : Fin 8, k0_off1 (tk1 j) = ![2 + j.val] := by decide +kernel
theorem off2_lit : ∀ j : Fin 8, k0_off2 (tk1 j) = ![2 + j.val, 0, 0] := by decide +kernel
theorem off7_lit : ∀ j : Fin 8, k0_off7 (tk3 j) = ![10 + j.val] := by decide +kernel
theorem off8_lit : ∀ j : Fin 8, k0_off8 (tk3 j) = ![10 + j.val, 0, 0] := by decide +kernel
theorem off13_lit : ∀ j : Fin 8, k0_off13 (tk4 j) = ![0 + j.val] := by decide +kernel
theorem off14_lit : ∀ j : Fin 8, k0_off14 (tk4 j) = ![0 + j.val, 0, 0] := by decide +kernel

theorem bigSep8 (Φ : Fin 8 → sProp 𝕄) : bigSep (Ring.rangeSet 8 0 8) Φ = iprop(Φ 0 ∗ Φ 1 ∗ Φ 2 ∗ Φ 3 ∗ Φ 4 ∗ Φ 5 ∗ Φ 6 ∗ Φ 7) := by
  rw [Ring.rangeSet_univ]
  exact bigSep_univ_eq_bigSepL [0, 1, 2, 3, 4, 5, 6, 7] (by decide) (by decide) Φ

theorem fly1_eq (c : Dev nD) (g : Fin 8 → HBuf (F := F) c a13) (P : Fin 8 → sProp 𝕄) (j : Fin 8) :
    fly1 c g P j = flyS c (2 + j.val) (by omega) (g j) (P j) :=
  flyAt_eq c _ _ _ _ _ _ _ _ (off1_lit j) (off2_lit j)
theorem fly1_all (c : Dev nD) (g : Fin 8 → HBuf (F := F) c a13) (P : Fin 8 → sProp 𝕄) :
    bigSep (Ring.rangeSet 8 0 8) (fly1 c g P) = iprop(flyS c (2) (by decide) (g 0) (P 0) ∗ flyS c (3) (by decide) (g 1) (P 1) ∗ flyS c (4) (by decide) (g 2) (P 2) ∗ flyS c (5) (by decide) (g 3) (P 3) ∗ flyS c (6) (by decide) (g 4) (P 4) ∗ flyS c (7) (by decide) (g 5) (P 5) ∗ flyS c (8) (by decide) (g 6) (P 6) ∗ flyS c (9) (by decide) (g 7) (P 7)) := by
  rw [show fly1 c g P = fun j => flyS c (2 + j.val) (by omega) (g j) (P j) from funext fun j => fly1_eq c g P j, bigSep8]
  rfl
theorem land1_eq (c : Dev nD) (g : Fin 8 → HBuf (F := F) c a13) (P : Fin 8 → sProp 𝕄) (j : Fin 8) :
    land1 c g P j = landS c (2 + j.val) (by omega) (g j) (P j) :=
  landAt_eq c _ _ _ _ _ _ _ _ (off1_lit j) (off2_lit j)
theorem land1_all (c : Dev nD) (g : Fin 8 → HBuf (F := F) c a13) (P : Fin 8 → sProp 𝕄) :
    bigSep (Ring.rangeSet 8 0 8) (land1 c g P) = iprop(landS c (2) (by decide) (g 0) (P 0) ∗ landS c (3) (by decide) (g 1) (P 1) ∗ landS c (4) (by decide) (g 2) (P 2) ∗ landS c (5) (by decide) (g 3) (P 3) ∗ landS c (6) (by decide) (g 4) (P 4) ∗ landS c (7) (by decide) (g 5) (P 5) ∗ landS c (8) (by decide) (g 6) (P 6) ∗ landS c (9) (by decide) (g 7) (P 7)) := by
  rw [show land1 c g P = fun j => landS c (2 + j.val) (by omega) (g j) (P j) from funext fun j => land1_eq c g P j, bigSep8]
  rfl
theorem fly3_eq (c : Dev nD) (g : Fin 8 → HBuf (F := F) c a13) (P : Fin 8 → sProp 𝕄) (j : Fin 8) :
    fly3 c g P j = flyS c (10 + j.val) (by omega) (g j) (P j) :=
  flyAt_eq c _ _ _ _ _ _ _ _ (off7_lit j) (off8_lit j)
theorem fly3_all (c : Dev nD) (g : Fin 8 → HBuf (F := F) c a13) (P : Fin 8 → sProp 𝕄) :
    bigSep (Ring.rangeSet 8 0 8) (fly3 c g P) = iprop(flyS c (10) (by decide) (g 0) (P 0) ∗ flyS c (11) (by decide) (g 1) (P 1) ∗ flyS c (12) (by decide) (g 2) (P 2) ∗ flyS c (13) (by decide) (g 3) (P 3) ∗ flyS c (14) (by decide) (g 4) (P 4) ∗ flyS c (15) (by decide) (g 5) (P 5) ∗ flyS c (16) (by decide) (g 6) (P 6) ∗ flyS c (17) (by decide) (g 7) (P 7)) := by
  rw [show fly3 c g P = fun j => flyS c (10 + j.val) (by omega) (g j) (P j) from funext fun j => fly3_eq c g P j, bigSep8]
  rfl
theorem land3_eq (c : Dev nD) (g : Fin 8 → HBuf (F := F) c a13) (P : Fin 8 → sProp 𝕄) (j : Fin 8) :
    land3 c g P j = landS c (10 + j.val) (by omega) (g j) (P j) :=
  landAt_eq c _ _ _ _ _ _ _ _ (off7_lit j) (off8_lit j)
theorem land3_all (c : Dev nD) (g : Fin 8 → HBuf (F := F) c a13) (P : Fin 8 → sProp 𝕄) :
    bigSep (Ring.rangeSet 8 0 8) (land3 c g P) = iprop(landS c (10) (by decide) (g 0) (P 0) ∗ landS c (11) (by decide) (g 1) (P 1) ∗ landS c (12) (by decide) (g 2) (P 2) ∗ landS c (13) (by decide) (g 3) (P 3) ∗ landS c (14) (by decide) (g 4) (P 4) ∗ landS c (15) (by decide) (g 5) (P 5) ∗ landS c (16) (by decide) (g 6) (P 6) ∗ landS c (17) (by decide) (g 7) (P 7)) := by
  rw [show land3 c g P = fun j => landS c (10 + j.val) (by omega) (g j) (P j) from funext fun j => land3_eq c g P j, bigSep8]
  rfl
theorem fly4_eq (c : Dev nD) (g : Fin 8 → HBuf (F := F) c a13) (P : Fin 8 → sProp 𝕄) (j : Fin 8) :
    fly4 c g P j = flyS c (0 + j.val) (by omega) (g j) (P j) :=
  flyAt_eq c _ _ _ _ _ _ _ _ (off13_lit j) (off14_lit j)
theorem fly4_all (c : Dev nD) (g : Fin 8 → HBuf (F := F) c a13) (P : Fin 8 → sProp 𝕄) :
    bigSep (Ring.rangeSet 8 0 8) (fly4 c g P) = iprop(flyS c (0) (by decide) (g 0) (P 0) ∗ flyS c (1) (by decide) (g 1) (P 1) ∗ flyS c (2) (by decide) (g 2) (P 2) ∗ flyS c (3) (by decide) (g 3) (P 3) ∗ flyS c (4) (by decide) (g 4) (P 4) ∗ flyS c (5) (by decide) (g 5) (P 5) ∗ flyS c (6) (by decide) (g 6) (P 6) ∗ flyS c (7) (by decide) (g 7) (P 7)) := by
  rw [show fly4 c g P = fun j => flyS c (0 + j.val) (by omega) (g j) (P j) from funext fun j => fly4_eq c g P j, bigSep8]
  rfl
theorem land4_eq (c : Dev nD) (g : Fin 8 → HBuf (F := F) c a13) (P : Fin 8 → sProp 𝕄) (j : Fin 8) :
    land4 c g P j = landS c (0 + j.val) (by omega) (g j) (P j) :=
  landAt_eq c _ _ _ _ _ _ _ _ (off13_lit j) (off14_lit j)
theorem land4_all (c : Dev nD) (g : Fin 8 → HBuf (F := F) c a13) (P : Fin 8 → sProp 𝕄) :
    bigSep (Ring.rangeSet 8 0 8) (land4 c g P) = iprop(landS c (0) (by decide) (g 0) (P 0) ∗ landS c (1) (by decide) (g 1) (P 1) ∗ landS c (2) (by decide) (g 2) (P 2) ∗ landS c (3) (by decide) (g 3) (P 3) ∗ landS c (4) (by decide) (g 4) (P 4) ∗ landS c (5) (by decide) (g 5) (P 5) ∗ landS c (6) (by decide) (g 6) (P 6) ∗ landS c (7) (by decide) (g 7) (P 7)) := by
  rw [show land4 c g P = fun j => landS c (0 + j.val) (by omega) (g j) (P j) from funext fun j => land4_eq c g P j, bigSep8]
  rfl

theorem inbG : ∀ j : Fin 8, ∀ a, (![0, 2048 * j.val] : Fin 2 → ℕ) a + S1024x2048.size a ≤ S1024x16384.size a := by decide
theorem inbD : ∀ j : Fin 8, ∀ a, (![1024 * j.val, 0] : Fin 2 → ℕ) a + S1024x2048.size a ≤ S8192x2048.size a := by decide

/-- The ring's contents where slot `s` has just received the block `d`. -/
def gotSlot (c : Dev nD) (x : HBuf (F := F) c a13) (s : ℕ) (hs : s < 18) (d : Vec F S1024x2048 .i8) : HBuf (F := F) c a13 :=
  (slotO ![s, 0, 0] (inbSlot s hs)).view.writes (Elt F) x [⟨Rect.whole S1024x2048, d⟩]
def blk2 (c : Dev nD) (x : HBuf (F := F) c a2) (j : Fin 8) : Vec F S1024x2048 .i8 :=
  ReadAs.same.apply ((win2 ![0, 2048 * j.val] (inbG j)).view.read (Elt F) x)
def blk3 (c : Dev nD) (x : HBuf (F := F) c a3) (j : Fin 8) : Vec F S1024x2048 .i8 :=
  ReadAs.same.apply ((win3 ![0, 2048 * j.val] (inbG j)).view.read (Elt F) x)
def blk6 (c : Dev nD) (x : HBuf (F := F) c a6) (j : Fin 8) : Vec F S1024x2048 .i8 :=
  ReadAs.same.apply ((win6 ![1024 * j.val, 0] (inbD j)).view.read (Elt F) x)
def g1 (c : Dev nD) (x13 : HBuf (F := F) c a13) (x2 : HBuf (F := F) c a2) (j : Fin 8) : HBuf (F := F) c a13 :=
  gotSlot c x13 (2 + j.val) (by omega) (blk2 c x2 j)
def g3 (c : Dev nD) (x13 : HBuf (F := F) c a13) (x3 : HBuf (F := F) c a3) (j : Fin 8) : HBuf (F := F) c a13 :=
  gotSlot c x13 (10 + j.val) (by omega) (blk3 c x3 j)

/-- What the kernel reads of `act1`, and of the norm's weights once they have landed. -/
def actRd (c : Dev nD) (a0 : Memref sig .tc .vmem S24x2048 .f32) (x0 : HBuf (F := F) c a0) : Vec F S24x2048 .f32 :=
  rd c a0 x0 ![0, 0] S24x2048.size inb_S24x2048_S24x2048_0_0
def nrmRd (c : Dev nD) (x1 : HBuf (F := F) c a1) (x14 : HBuf (F := F) c a14) : Vec F S1x2048 .f32 :=
  rd c a14 (View.write (Elt F) a14.view x14 (ReadAs.same.apply (View.read (Elt F) a1.view x1)) Finset.univ) ![0, 0] S1x2048.size inb_S1x2048_S1x2048_0_0
/-- The row scale of the int8 quantisation of the normalised rows. -/
def mScale (c : Dev nD) (a0 : Memref sig .tc .vmem S24x2048 .f32) (x0 : HBuf (F := F) c a0) (x1 : HBuf (F := F) c a1) (x14 : HBuf (F := F) c a14) : FVec F S24x1 .f32 :=
  k0_pay24 (actRd c a0 x0) (nrmRd c x1 x14) (k0_pay22 (actRd c a0 x0))
/-- The permuted int8 rows (as bf16), from the four values the permutation product takes. -/
def xiPerm (c : Dev nD) (a0 : Memref sig .tc .vmem S24x2048 .f32) (x0 : HBuf (F := F) c a0) (x1 : HBuf (F := F) c a1) (x14 : HBuf (F := F) c a14) : FVec F S192x256 .f32 :=
  k0_pay32 (k0_pay28 (actRd c a0 x0) (nrmRd c x1 x14) (k0_pay22 (actRd c a0 x0))) (k0_pay29 (actRd c a0 x0) (nrmRd c x1 x14) (k0_pay22 (actRd c a0 x0)))
    (k0_pay30 (actRd c a0 x0) (nrmRd c x1 x14) (k0_pay22 (actRd c a0 x0))) (k0_pay31 (actRd c a0 x0) (nrmRd c x1 x14) (k0_pay22 (actRd c a0 x0)))
def xiParts (c : Dev nD) (a0 : Memref sig .tc .vmem S24x2048 .f32) (x0 : HBuf (F := F) c a0) (x1 : HBuf (F := F) c a1) (x14 : HBuf (F := F) c a14) : List (View.Piece (Elt F) S24x2048 .bf16) :=
  [⟨Rect.unit ![0, 1792] S24x256.size inb_S24x2048_S24x256_0_1792, k0_pay40 (xiPerm c a0 x0 x1 x14)⟩,
   ⟨Rect.unit ![0, 1536] S24x256.size inb_S24x2048_S24x256_0_1536, k0_pay39 (xiPerm c a0 x0 x1 x14)⟩,
   ⟨Rect.unit ![0, 1280] S24x256.size inb_S24x2048_S24x256_0_1280, k0_pay38 (xiPerm c a0 x0 x1 x14)⟩,
   ⟨Rect.unit ![0, 1024] S24x256.size inb_S24x2048_S24x256_0_1024, k0_pay37 (xiPerm c a0 x0 x1 x14)⟩,
   ⟨Rect.unit ![0, 768] S24x256.size inb_S24x2048_S24x256_0_768, k0_pay36 (xiPerm c a0 x0 x1 x14)⟩,
   ⟨Rect.unit ![0, 512] S24x256.size inb_S24x2048_S24x256_0_512, k0_pay35 (xiPerm c a0 x0 x1 x14)⟩,
   ⟨Rect.unit ![0, 256] S24x256.size inb_S24x2048_S24x256_0_256,
     k0_pay34 (k0_pay28 (actRd c a0 x0) (nrmRd c x1 x14) (k0_pay22 (actRd c a0 x0))) (k0_pay29 (actRd c a0 x0) (nrmRd c x1 x14) (k0_pay22 (actRd c a0 x0)))
       (k0_pay30 (actRd c a0 x0) (nrmRd c x1 x14) (k0_pay22 (actRd c a0 x0))) (k0_pay31 (actRd c a0 x0) (nrmRd c x1 x14) (k0_pay22 (actRd c a0 x0)))⟩,
   ⟨Rect.unit ![0, 0] S24x256.size inb_S24x2048_S24x256_0_0,
     k0_pay33 (k0_pay28 (actRd c a0 x0) (nrmRd c x1 x14) (k0_pay22 (actRd c a0 x0))) (k0_pay29 (actRd c a0 x0) (nrmRd c x1 x14) (k0_pay22 (actRd c a0 x0)))
       (k0_pay30 (actRd c a0 x0) (nrmRd c x1 x14) (k0_pay22 (actRd c a0 x0))) (k0_pay31 (actRd c a0 x0) (nrmRd c x1 x14) (k0_pay22 (actRd c a0 x0)))⟩]

def g4 (c : Dev nD) (x13 : HBuf (F := F) c a13) (x2 : HBuf (F := F) c a2) (x6 : HBuf (F := F) c a6) (j : Fin 8) : HBuf (F := F) c a13 :=
  gotSlot c ((![x13, x13, g1 c x13 x2 0, g1 c x13 x2 1, g1 c x13 x2 2, g1 c x13 x2 3, g1 c x13 x2 4, g1 c x13 x2 5] : Fin 8 → HBuf (F := F) c a13) j)
    (0 + j.val) (by omega) (blk6 c x6 j)

/-! The ring's contents when each down block is on its way, one by one. -/
theorem vec8_0 {A : Type} (b0 b1 b2 b3 b4 b5 b6 b7 : A) : (![b0, b1, b2, b3, b4, b5, b6, b7] : Fin 8 → A) 0 = b0 := rfl
theorem vec8_1 {A : Type} (b0 b1 b2 b3 b4 b5 b6 b7 : A) : (![b0, b1, b2, b3, b4, b5, b6, b7] : Fin 8 → A) 1 = b1 := rfl
theorem vec8_2 {A : Type} (b0 b1 b2 b3 b4 b5 b6 b7 : A) : (![b0, b1, b2, b3, b4, b5, b6, b7] : Fin 8 → A) 2 = b2 := rfl
theorem vec8_3 {A : Type} (b0 b1 b2 b3 b4 b5 b6 b7 : A) : (![b0, b1, b2, b3, b4, b5, b6, b7] : Fin 8 → A) 3 = b3 := rfl
theorem vec8_4 {A : Type} (b0 b1 b2 b3 b4 b5 b6 b7 : A) : (![b0, b1, b2, b3, b4, b5, b6, b7] : Fin 8 → A) 4 = b4 := rfl
theorem vec8_5 {A : Type} (b0 b1 b2 b3 b4 b5 b6 b7 : A) : (![b0, b1, b2, b3, b4, b5, b6, b7] : Fin 8 → A) 5 = b5 := rfl
theorem vec8_6 {A : Type} (b0 b1 b2 b3 b4 b5 b6 b7 : A) : (![b0, b1, b2, b3, b4, b5, b6, b7] : Fin 8 → A) 6 = b6 := rfl
theorem vec8_7 {A : Type} (b0 b1 b2 b3 b4 b5 b6 b7 : A) : (![b0, b1, b2, b3, b4, b5, b6, b7] : Fin 8 → A) 7 = b7 := rfl
theorem g4_0 (c : Dev nD) (x13 : HBuf (F := F) c a13) (x2 : HBuf (F := F) c a2) (x6 : HBuf (F := F) c a6) :
    g4 c x13 x2 x6 0 = gotSlot c x13 (0) (by decide) (blk6 c x6 0) := by
  rw [g4, show (![x13, x13, g1 c x13 x2 0, g1 c x13 x2 1, g1 c x13 x2 2, g1 c x13 x2 3, g1 c x13 x2 4, g1 c x13 x2 5] : Fin 8 → HBuf (F := F) c a13) 0 = x13 from vec8_0 _ _ _ _ _ _ _ _]
  rfl
theorem g4_1 (c : Dev nD) (x13 : HBuf (F := F) c a13) (x2 : HBuf (F := F) c a2) (x6 : HBuf (F := F) c a6) :
    g4 c x13 x2 x6 1 = gotSlot c x13 (1) (by decide) (blk6 c x6 1) := by
  rw [g4, show (![x13, x13, g1 c x13 x2 0, g1 c x13 x2 1, g1 c x13 x2 2, g1 c x13 x2 3, g1 c x13 x2 4, g1 c x13 x2 5] : Fin 8 → HBuf (F := F) c a13) 1 = x13 from vec8_1 _ _ _ _ _ _ _ _]
  rfl
theorem g4_2 (c : Dev nD) (x13 : HBuf (F := F) c a13) (x2 : HBuf (F := F) c a2) (x6 : HBuf (F := F) c a6) :
    g4 c x13 x2 x6 2 = gotSlot c (g1 c x13 x2 0) (2) (by decide) (blk6 c x6 2) := by
  rw [g4, show (![x13, x13, g1 c x13 x2 0, g1 c x13 x2 1, g1 c x13 x2 2, g1 c x13 x2 3, g1 c x13 x2 4, g1 c x13 x2 5] : Fin 8 → HBuf (F := F) c a13) 2 = (g1 c x13 x2 0) from vec8_2 _ _ _ _ _ _ _ _]
  rfl
theorem g4_3 (c : Dev nD) (x13 : HBuf (F := F) c a13) (x2 : HBuf (F := F) c a2) (x6 : HBuf (F := F) c a6) :
    g4 c x13 x2 x6 3 = gotSlot c (g1 c x13 x2 1) (3) (by decide) (blk6 c x6 3) := by
  rw [g4, show (![x13, x13, g1 c x13 x2 0, g1 c x13 x2 1, g1 c x13 x2 2, g1 c x13 x2 3, g1 c x13 x2 4, g1 c x13 x2 5] : Fin 8 → HBuf (F := F) c a13) 3 = (g1 c x13 x2 1) from vec8_3 _ _ _ _ _ _ _ _]
  rfl
theorem g4_4 (c : Dev nD) (x13 : HBuf (F := F) c a13) (x2 : HBuf (F := F) c a2) (x6 : HBuf (F := F) c a6) :
    g4 c x13 x2 x6 4 = gotSlot c (g1 c x13 x2 2) (4) (by decide) (blk6 c x6 4) := by
  rw [g4, show (![x13, x13, g1 c x13 x2 0, g1 c x13 x2 1, g1 c x13 x2 2, g1 c x13 x2 3, g1 c x13 x2 4, g1 c x13 x2 5] : Fin 8 → HBuf (F := F) c a13) 4 = (g1 c x13 x2 2) from vec8_4 _ _ _ _ _ _ _ _]
  rfl
theorem g4_5 (c : Dev nD) (x13 : HBuf (F := F) c a13) (x2 : HBuf (F := F) c a2) (x6 : HBuf (F := F) c a6) :
    g4 c x13 x2 x6 5 = gotSlot c (g1 c x13 x2 3) (5) (by decide) (blk6 c x6 5) := by
  rw [g4, show (![x13, x13, g1 c x13 x2 0, g1 c x13 x2 1, g1 c x13 x2 2, g1 c x13 x2 3, g1 c x13 x2 4, g1 c x13 x2 5] : Fin 8 → HBuf (F := F) c a13) 5 = (g1 c x13 x2 3) from vec8_5 _ _ _ _ _ _ _ _]
  rfl
theorem g4_6 (c : Dev nD) (x13 : HBuf (F := F) c a13) (x2 : HBuf (F := F) c a2) (x6 : HBuf (F := F) c a6) :
    g4 c x13 x2 x6 6 = gotSlot c (g1 c x13 x2 4) (6) (by decide) (blk6 c x6 6) := by
  rw [g4, show (![x13, x13, g1 c x13 x2 0, g1 c x13 x2 1, g1 c x13 x2 2, g1 c x13 x2 3, g1 c x13 x2 4, g1 c x13 x2 5] : Fin 8 → HBuf (F := F) c a13) 6 = (g1 c x13 x2 4) from vec8_6 _ _ _ _ _ _ _ _]
  rfl
theorem g4_7 (c : Dev nD) (x13 : HBuf (F := F) c a13) (x2 : HBuf (F := F) c a2) (x6 : HBuf (F := F) c a6) :
    g4 c x13 x2 x6 7 = gotSlot c (g1 c x13 x2 5) (7) (by decide) (blk6 c x6 7) := by
  rw [g4, show (![x13, x13, g1 c x13 x2 0, g1 c x13 x2 1, g1 c x13 x2 2, g1 c x13 x2 3, g1 c x13 x2 4, g1 c x13 x2 5] : Fin 8 → HBuf (F := F) c a13) 7 = (g1 c x13 x2 5) from vec8_7 _ _ _ _ _ _ _ _]
  rfl

/-! The values the body holds between its loops, of what the arrays and the scratch buffers held before. -/
section Vals
variable (c : Dev nD) (a0 : Memref sig .tc .vmem S24x2048 .f32) (x0 : HBuf (F := F) c a0) (x1 : HBuf (F := F) c a1) (x2 : HBuf (F := F) c a2) (x3 : HBuf (F := F) c a3)
  (x4 : HBuf (F := F) c a4) (x5 : HBuf (F := F) c a5) (x6 : HBuf (F := F) c a6) (x7 : HBuf (F := F) c a7)
  (x13 : HBuf (F := F) c a13) (x14 : HBuf (F := F) c a14) (x15 : HBuf (F := F) c a15) (x16 : HBuf (F := F) c a16) (x17 : HBuf (F := F) c a17)
  (x19 : HBuf (F := F) c a19) (x24 : HBuf (F := F) c a24)

def xiA : HBuf (F := F) c a18 := a18.view.writes (Elt F) a18.view.junk (xiParts c a0 x0 x1 x14)
def sgA : HBuf (F := F) c a15 := View.write (Elt F) a15.view x15 (ReadAs.same.apply (View.read (Elt F) a4.view x4)) Finset.univ
def suA : HBuf (F := F) c a16 := View.write (Elt F) a16.view x16 (ReadAs.same.apply (View.read (Elt F) a5.view x5)) Finset.univ
def sdA : HBuf (F := F) c a17 := View.write (Elt F) a17.view x17 (ReadAs.same.apply (View.read (Elt F) a7.view x7)) Finset.univ
/-- The gate rows after the gate loop, their mean, their deviation. -/
def ff1 : HBuf (F := F) c a19 := gateFF c (mScale c a0 x0 x1 x14) (xiA c a0 x0 x1 x14) (sgA c x4 x15) (g1 c x13 x2) x19 8
def muV : FVec F S24x1 .f32 := k0_pay43 (gateAcc c (mScale c a0 x0 x1 x14) (xiA c a0 x0 x1 x14) (sgA c x4 x15) (g1 c x13 x2) 8)
def sdV : FVec F S24x1 .f32 := k0_pay46 (varAcc c (muV c a0 x0 x1 x2 x4 x13 x14 x15) (ff1 c a0 x0 x1 x2 x4 x13 x14 x15 x19) 8)
/-- The hidden rows after the up loop and their largest magnitudes. -/
def ff2 : HBuf (F := F) c a19 := upFF c (mScale c a0 x0 x1 x14) (muV c a0 x0 x1 x2 x4 x13 x14 x15) (sdV c a0 x0 x1 x2 x4 x13 x14 x15 x19)
  (xiA c a0 x0 x1 x14) (suA c x5 x16) (g3 c x13 x3) (ff1 c a0 x0 x1 x2 x4 x13 x14 x15 x19) 8
def mxV : FVec F S24x1 .f32 := upMax c (mScale c a0 x0 x1 x14) (muV c a0 x0 x1 x2 x4 x13 x14 x15) (sdV c a0 x0 x1 x2 x4 x13 x14 x15 x19)
  (xiA c a0 x0 x1 x14) (suA c x5 x16) (g3 c x13 x3) (ff1 c a0 x0 x1 x2 x4 x13 x14 x15 x19) 8
/-- The accumulator of the down product, zeroed; the accumulator and the hidden int8 rows after the down loop. -/
def fa0 : HBuf (F := F) c a21 := a21.view.writes (Elt F) a21.view.junk [⟨Rect.unit ![0, 0] S24x2048.size inb_S24x2048_S24x2048_0_0, k0_pay54⟩]
def faV : HBuf (F := F) c a21 := faAt c (mxV c a0 x0 x1 x2 x3 x4 x5 x13 x14 x15 x16 x19) (ff2 c a0 x0 x1 x2 x3 x4 x5 x13 x14 x15 x16 x19) (g4 c x13 x2 x6) (fa0 c) 8
def hcV : HBuf (F := F) c a24 := hcAt c (mxV c a0 x0 x1 x2 x3 x4 x5 x13 x14 x15 x16 x19) (ff2 c a0 x0 x1 x2 x3 x4 x5 x13 x14 x15 x16 x19) x24 8

/-! What the five result arrays hold after their copies out: each written whole with what the copy's source held, itself
    written whole by one store (the int8 rows of the hidden block by the down loop's sixteen). -/
def out8 (x8 : HBuf (F := F) c a8) (x22 : HBuf (F := F) c a22) : HBuf (F := F) c a8 :=
  View.write (Elt F) a8.view x8 (ReadAs.same.apply (View.read (Elt F) a22.view (a22.view.writes (Elt F) x22
    [⟨Rect.unit ![0, 0, 0] S24x1x2048.size inb_S24x1x2048_S24x1x2048_0_0_0,
      k0_pay1 (k0_pay55 (mxV c a0 x0 x1 x2 x3 x4 x5 x13 x14 x15 x16 x19) (rd c a21 (faV c a0 x0 x1 x2 x3 x4 x5 x6 x13 x14 x15 x16 x19) ![0, 0] S24x2048.size inb_S24x2048_S24x2048_0_0))
        (rd c a17 (sdA c x7 x17) ![0, 0] S1x2048.size inb_S1x2048_S1x2048_0_0)⟩]))) Finset.univ
def out9 (x9 : HBuf (F := F) c a9) (x23 : HBuf (F := F) c a23) : HBuf (F := F) c a9 :=
  View.write (Elt F) a9.view x9 (ReadAs.same.apply (View.read (Elt F) a23.view (a23.view.writes (Elt F) x23
    [⟨Rect.unit ![0, 0] S24x2048.size inb_S24x2048_S24x2048_0_0, k0_pay26 (actRd c a0 x0) (nrmRd c x1 x14) (k0_pay22 (actRd c a0 x0))⟩]))) Finset.univ
def out10 (x10 : HBuf (F := F) c a10) (x25 : HBuf (F := F) c a25) : HBuf (F := F) c a10 :=
  View.write (Elt F) a10.view x10 (ReadAs.same.apply (View.read (Elt F) a25.view (a25.view.writes (Elt F) x25
    [⟨Rect.unit ![0, 0] S1x24.size inb_S1x24_S1x24_0_0, k0_pay27 (actRd c a0 x0) (nrmRd c x1 x14) (k0_pay22 (actRd c a0 x0))⟩]))) Finset.univ
def out11 (x11 : HBuf (F := F) c a11) : HBuf (F := F) c a11 :=
  View.write (Elt F) a11.view x11 (ReadAs.same.apply (View.read (Elt F) a24.view (hcV c a0 x0 x1 x2 x3 x4 x5 x13 x14 x15 x16 x19 x24))) Finset.univ
def out12 (x12 : HBuf (F := F) c a12) : HBuf (F := F) c a12 :=
  View.write (Elt F) a12.view x12 (ReadAs.same.apply (View.read (Elt F) a26.view (a26.view.writes (Elt F) a26.view.junk
    [⟨Rect.unit ![0, 0] S1x24.size inb_S1x24_S1x24_0_0, k0_pay53 (mxV c a0 x0 x1 x2 x3 x4 x5 x13 x14 x15 x16 x19)⟩]))) Finset.univ

end Vals

end Cert.Kernel.Hand

end
-- ==== Proof.Body.lean ====
module

public import proofs.«01_k».proof.Proof.Slots

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 800000 in
/-- The body, from its operands to the continuation: the arrays it reads come back unchanged, the five results hold `out8` … `out12`, the
    scratch buffers and the ring's slots hold something, every semaphore is at zero again. -/
theorem run0 (c : Dev nD) (a0 : Memref sig .tc .vmem S24x2048 .f32) (ha0 : a0.IsWhole)
    (x0 : HBuf (F := F) c a0) (x1 : HBuf (F := F) c a1) (x2 : HBuf (F := F) c a2) (x3 : HBuf (F := F) c a3) (x4 : HBuf (F := F) c a4) (x5 : HBuf (F := F) c a5) (x6 : HBuf (F := F) c a6) (x7 : HBuf (F := F) c a7) (x8 : HBuf (F := F) c a8) (x9 : HBuf (F := F) c a9) (x10 : HBuf (F := F) c a10) (x11 : HBuf (F := F) c a11) (x12 : HBuf (F := F) c a12) (x13 : HBuf (F := F) c a13) (x14 : HBuf (F := F) c a14) (x15 : HBuf (F := F) c a15) (x16 : HBuf (F := F) c a16) (x17 : HBuf (F := F) c a17) (x18 : HBuf (F := F) c a18) (x19 : HBuf (F := F) c a19) (x20 : HBuf (F := F) c a20) (x21 : HBuf (F := F) c a21) (x22 : HBuf (F := F) c a22) (x23 : HBuf (F := F) c a23) (x24 : HBuf (F := F) c a24) (x25 : HBuf (F := F) c a25) (x26 : HBuf (F := F) c a26)
    (W : Waits sig Unit) (K : PUnit → sProp 𝕄) :
    iprop((a0.view.loc (c : Thread nD τ) ↦[a0.view.set]{fullShare} x0)
      ∗ hPt c a1 x1 ∗ hPt c a4 x4 ∗ hPt c a5 x5 ∗ hPt c a7 x7
      ∗ hPt c a8 x8 ∗ hPt c a9 x9 ∗ hPt c a10 x10 ∗ hPt c a11 x11 ∗ hPt c a12 x12
      ∗ hPt c a14 x14 ∗ hPt c a15 x15 ∗ hPt c a16 x16 ∗ hPt c a17 x17 ∗ hPt c a18 x18 ∗ hPt c a19 x19
      ∗ hPt c a20 x20 ∗ hPt c a21 x21 ∗ hPt c a22 x22 ∗ hPt c a23 x23 ∗ hPt c a24 x24 ∗ hPt c a25 x25 ∗ hPt c a26 x26
      ∗ (slotPt c ![0, 0, 0] (inbSlot 0 (by decide)) x13 ∗ slotPt c ![1, 0, 0] (inbSlot 1 (by decide)) x13 ∗ slotPt c ![2, 0, 0] (inbSlot 2 (by decide)) x13 ∗ slotPt c ![3, 0, 0] (inbSlot 3 (by decide)) x13 ∗ slotPt c ![4, 0, 0] (inbSlot 4 (by decide)) x13 ∗ slotPt c ![5, 0, 0] (inbSlot 5 (by decide)) x13 ∗ slotPt c ![6, 0, 0] (inbSlot 6 (by decide)) x13 ∗ slotPt c ![7, 0, 0] (inbSlot 7 (by decide)) x13 ∗ slotPt c ![8, 0, 0] (inbSlot 8 (by decide)) x13 ∗ slotPt c ![9, 0, 0] (inbSlot 9 (by decide)) x13 ∗ slotPt c ![10, 0, 0] (inbSlot 10 (by decide)) x13 ∗ slotPt c ![11, 0, 0] (inbSlot 11 (by decide)) x13 ∗ slotPt c ![12, 0, 0] (inbSlot 12 (by decide)) x13 ∗ slotPt c ![13, 0, 0] (inbSlot 13 (by decide)) x13 ∗ slotPt c ![14, 0, 0] (inbSlot 14 (by decide)) x13 ∗ slotPt c ![15, 0, 0] (inbSlot 15 (by decide)) x13 ∗ slotPt c ![16, 0, 0] (inbSlot 16 (by decide)) x13 ∗ slotPt c ![17, 0, 0] (inbSlot 17 (by decide)) x13)
      ∗ (w2Pt c ![0, 0] inb_S1024x16384_S1024x2048_0_0 x2 ∗ w2Pt c ![0, 2048] inb_S1024x16384_S1024x2048_0_2048 x2 ∗ w2Pt c ![0, 4096] inb_S1024x16384_S1024x2048_0_4096 x2 ∗ w2Pt c ![0, 6144] inb_S1024x16384_S1024x2048_0_6144 x2 ∗ w2Pt c ![0, 8192] inb_S1024x16384_S1024x2048_0_8192 x2 ∗ w2Pt c ![0, 10240] inb_S1024x16384_S1024x2048_0_10240 x2 ∗ w2Pt c ![0, 12288] inb_S1024x16384_S1024x2048_0_12288 x2 ∗ w2Pt c ![0, 14336] inb_S1024x16384_S1024x2048_0_14336 x2)
      ∗ (w3Pt c ![0, 0] inb_S1024x16384_S1024x2048_0_0 x3 ∗ w3Pt c ![0, 2048] inb_S1024x16384_S1024x2048_0_2048 x3 ∗ w3Pt c ![0, 4096] inb_S1024x16384_S1024x2048_0_4096 x3 ∗ w3Pt c ![0, 6144] inb_S1024x16384_S1024x2048_0_6144 x3 ∗ w3Pt c ![0, 8192] inb_S1024x16384_S1024x2048_0_8192 x3 ∗ w3Pt c ![0, 10240] inb_S1024x16384_S1024x2048_0_10240 x3 ∗ w3Pt c ![0, 12288] inb_S1024x16384_S1024x2048_0_12288 x3 ∗ w3Pt c ![0, 14336] inb_S1024x16384_S1024x2048_0_14336 x3)
      ∗ (w6Pt c ![0, 0] inb_S8192x2048_S1024x2048_0_0 x6 ∗ w6Pt c ![1024, 0] inb_S8192x2048_S1024x2048_1024_0 x6 ∗ w6Pt c ![2048, 0] inb_S8192x2048_S1024x2048_2048_0 x6 ∗ w6Pt c ![3072, 0] inb_S8192x2048_S1024x2048_3072_0 x6 ∗ w6Pt c ![4096, 0] inb_S8192x2048_S1024x2048_4096_0 x6 ∗ w6Pt c ![5120, 0] inb_S8192x2048_S1024x2048_5120_0 x6 ∗ w6Pt c ![6144, 0] inb_S8192x2048_S1024x2048_6144_0 x6 ∗ w6Pt c ![7168, 0] inb_S8192x2048_S1024x2048_7168_0 x6)
      ∗ (cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18)
      ∗ cell c 21 ∗ (cell c 23 ∗ cell c 24 ∗ cell c 25 ∗ cell c 26 ∗ cell c 27)
      ∗ owes (c : Thread nD τ) 0 W
      ∗ (iprop((a0.view.loc (c : Thread nD τ) ↦[a0.view.set]{fullShare} x0)
      ∗ hPt c a1 x1 ∗ hPt c a4 x4 ∗ hPt c a5 x5 ∗ hPt c a7 x7
      ∗ hPt c a8 (out8 c a0 x0 x1 x2 x3 x4 x5 x6 x7 x13 x14 x15 x16 x17 x19 x8 x22) ∗ hPt c a9 (out9 c a0 x0 x1 x14 x9 x23) ∗ hPt c a10 (out10 c a0 x0 x1 x14 x10 x25)
      ∗ hPt c a11 (out11 c a0 x0 x1 x2 x3 x4 x5 x13 x14 x15 x16 x19 x24 x11) ∗ hPt c a12 (out12 c a0 x0 x1 x2 x3 x4 x5 x13 x14 x15 x16 x19 x12)
      ∗ (∃ f, hPt (F := F) c a14 f) ∗ (∃ f, hPt (F := F) c a15 f) ∗ (∃ f, hPt (F := F) c a16 f) ∗ (∃ f, hPt (F := F) c a17 f) ∗ (∃ f, hPt (F := F) c a18 f) ∗ (∃ f, hPt (F := F) c a19 f) ∗ (∃ f, hPt (F := F) c a20 f) ∗ (∃ f, hPt (F := F) c a21 f) ∗ (∃ f, hPt (F := F) c a22 f) ∗ (∃ f, hPt (F := F) c a23 f) ∗ (∃ f, hPt (F := F) c a24 f) ∗ (∃ f, hPt (F := F) c a25 f) ∗ (∃ f, hPt (F := F) c a26 f)
      ∗ ((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f))
      ∗ (w2Pt c ![0, 0] inb_S1024x16384_S1024x2048_0_0 x2 ∗ w2Pt c ![0, 2048] inb_S1024x16384_S1024x2048_0_2048 x2 ∗ w2Pt c ![0, 4096] inb_S1024x16384_S1024x2048_0_4096 x2 ∗ w2Pt c ![0, 6144] inb_S1024x16384_S1024x2048_0_6144 x2 ∗ w2Pt c ![0, 8192] inb_S1024x16384_S1024x2048_0_8192 x2 ∗ w2Pt c ![0, 10240] inb_S1024x16384_S1024x2048_0_10240 x2 ∗ w2Pt c ![0, 12288] inb_S1024x16384_S1024x2048_0_12288 x2 ∗ w2Pt c ![0, 14336] inb_S1024x16384_S1024x2048_0_14336 x2)
      ∗ (w3Pt c ![0, 0] inb_S1024x16384_S1024x2048_0_0 x3 ∗ w3Pt c ![0, 2048] inb_S1024x16384_S1024x2048_0_2048 x3 ∗ w3Pt c ![0, 4096] inb_S1024x16384_S1024x2048_0_4096 x3 ∗ w3Pt c ![0, 6144] inb_S1024x16384_S1024x2048_0_6144 x3 ∗ w3Pt c ![0, 8192] inb_S1024x16384_S1024x2048_0_8192 x3 ∗ w3Pt c ![0, 10240] inb_S1024x16384_S1024x2048_0_10240 x3 ∗ w3Pt c ![0, 12288] inb_S1024x16384_S1024x2048_0_12288 x3 ∗ w3Pt c ![0, 14336] inb_S1024x16384_S1024x2048_0_14336 x3)
      ∗ (w6Pt c ![0, 0] inb_S8192x2048_S1024x2048_0_0 x6 ∗ w6Pt c ![1024, 0] inb_S8192x2048_S1024x2048_1024_0 x6 ∗ w6Pt c ![2048, 0] inb_S8192x2048_S1024x2048_2048_0 x6 ∗ w6Pt c ![3072, 0] inb_S8192x2048_S1024x2048_3072_0 x6 ∗ w6Pt c ![4096, 0] inb_S8192x2048_S1024x2048_4096_0 x6 ∗ w6Pt c ![5120, 0] inb_S8192x2048_S1024x2048_5120_0 x6 ∗ w6Pt c ![6144, 0] inb_S8192x2048_S1024x2048_6144_0 x6 ∗ w6Pt c ![7168, 0] inb_S8192x2048_S1024x2048_7168_0 x6)
      ∗ (cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18)
      ∗ cell c 21 ∗ (cell c 23 ∗ cell c 24 ∗ cell c 25 ∗ cell c 26 ∗ cell c 27)
      ∗ ∃ W', owes (c : Thread nD τ) 0 W') -∗ K ⟨⟩))
    ⊢ wp frame (wpE (defs₀ (F := F)) Variants.none c none) Set.univ
        (cc0_decode_layer a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16) K := by
  simp only [cc0_decode_layer_eq_skeleton]; unfold cc0_decode_layer_skel
  iintro ⟨H0, H1, H4, H5, H7, H8, H9, H10, H11, H12, H14, H15, H16, H17, H18, H19, H20, H21, H22, H23, H24, H25, H26,
    ⟨S0, S1, S2, S3, S4, S5, S6, S7, S8, S9, S10, S11, S12, S13, S14, S15, S16, S17⟩, ⟨G0, G1, G2, G3, G4, G5, G6, G7⟩, ⟨U0, U1, U2, U3, U4, U5, U6, U7⟩, ⟨D0, D1, D2, D3, D4, D5, D6, D7⟩,
    ⟨C1, C2, C3, C4, C5, C6, C7, C8, C9, C10, C11, C12, C13, C14, C15, C16, C17, C18⟩, C21, ⟨C23, C24, C25, C26, C27⟩, HW, Hk⟩
  imod (Transfers.mixedBatch_alloc' (Lvl := ℕ) (countersEmb (U := Pipeline.UD sig nD τ)) (c : Thread nD τ) () A21
      (deliv21 c x1 x4 x5 x7 x14 x15 x16 x17) (sm := SemLoc.dma 21) (E := Set.univ)) $$ C21 with HB
  unfold deliv21
  sl_exec
  sl_for (inv1 c (mScale c a0 x0 x1 x14) (xiA c a0 x0 x1 x14) (sgA c x4 x15) (g1 c x13 x2) x19
      (fun j => (win2 ![0, 2048 * j.val] (inbG j)).view.set) x2) $$ [H18 HB_dst1 H19 C3 C4 C5 C6 C7 C8 C9 C10 HW]
  case region => exact region1 c _ _ _ _ a0 ha0 _ _ _
  · unfold inv1
    irw [fly1_all, Ring.bigSep_rangeSet_empty (NB := 8) (le_refl 0)]
    isplitr; · ipureintro; rfl
    isplitl [H18]; · iexact H18
    isplitl [HB_dst1]; · iexact HB_dst1
    isplitl [H19]; · iexact H19
    isplitl [C3 C4 C5 C6 C7 C8 C9 C10]
    · isplitl [C3]; · iexact C3
      isplitl [C4]; · iexact C4
      isplitl [C5]; · iexact C5
      isplitl [C6]; · iexact C6
      isplitl [C7]; · iexact C7
      isplitl [C8]; · iexact C8
      isplitl [C9]; · iexact C9
      iexact C10
    isplitr; · iempintro
    iexists _; iexact HW
  unfold inv1
  irw [show Scf.trips k0_t1_loop.lb k0_t1_loop.ub k0_t1_loop.st = 8 from trips1, land1_all, Ring.bigSep_rangeSet_empty (NB := 8) (le_refl 8)]
  iintro %v245 ⟨%hv245, H18, HB_dst1, H19, -, ⟨⟨C3, S2, G0⟩, ⟨C4, S3, G1⟩, ⟨C5, S4, G2⟩, ⟨C6, S5, G3⟩, ⟨C7, S6, G4⟩, ⟨C8, S7, G5⟩, ⟨C9, S8, G6⟩, ⟨C10, S9, G7⟩⟩, %W1, HW⟩
  subst hv245
  sl_exec
  sl_for (inv2 c (muV c a0 x0 x1 x2 x4 x13 x14 x15) (ff1 c a0 x0 x1 x2 x4 x13 x14 x15 x19)) $$ [H19 HW]
  case region => exact region2 c (muV c a0 x0 x1 x2 x4 x13 x14 x15) (ff1 c a0 x0 x1 x2 x4 x13 x14 x15 x19) a0 ha0
  · unfold inv2
    isplitr; · ipureintro; rfl
    isplitl [H19]; · iexact H19
    iexists _; iexact HW
  unfold inv2
  irw [show Scf.trips k0_t2_loop.lb k0_t2_loop.ub k0_t2_loop.st = 8 from trips2]
  iintro %v286 ⟨%hv286, H19, %W2, HW⟩
  subst hv286
  sl_exec
  sl_for (inv3 c (mScale c a0 x0 x1 x14) (muV c a0 x0 x1 x2 x4 x13 x14 x15) (sdV c a0 x0 x1 x2 x4 x13 x14 x15 x19)
      (xiA c a0 x0 x1 x14) (suA c x5 x16) (g3 c x13 x3) (ff1 c a0 x0 x1 x2 x4 x13 x14 x15 x19)
      (fun j => (win3 ![0, 2048 * j.val] (inbG j)).view.set) x3) $$ [H18 HB_dst2 H19 C11 C12 C13 C14 C15 C16 C17 C18 HW]
  case region => exact region3 c (mScale c a0 x0 x1 x14) (muV c a0 x0 x1 x2 x4 x13 x14 x15) (sdV c a0 x0 x1 x2 x4 x13 x14 x15 x19) (xiA c a0 x0 x1 x14) (suA c x5 x16) (g3 c x13 x3) a0 ha0 (ff1 c a0 x0 x1 x2 x4 x13 x14 x15 x19) (fun j => (win3 ![0, 2048 * j.val] (inbG j)).view.set) x3
  · unfold inv3
    irw [fly3_all, Ring.bigSep_rangeSet_empty (NB := 8) (le_refl 0)]
    isplitr; · ipureintro; rfl
    isplitl [H18]; · iexact H18
    isplitl [HB_dst2]; · iexact HB_dst2
    isplitl [H19]; · iexact H19
    isplitl [C11 C12 C13 C14 C15 C16 C17 C18]
    · isplitl [C11]; · iexact C11
      isplitl [C12]; · iexact C12
      isplitl [C13]; · iexact C13
      isplitl [C14]; · iexact C14
      isplitl [C15]; · iexact C15
      isplitl [C16]; · iexact C16
      isplitl [C17]; · iexact C17
      iexact C18
    isplitr; · iempintro
    iexists _; iexact HW
  unfold inv3
  irw [show Scf.trips k0_t3_loop.lb k0_t3_loop.ub k0_t3_loop.st = 8 from trips3, land3_all, Ring.bigSep_rangeSet_empty (NB := 8) (le_refl 8)]
  iintro %v295 ⟨%hv295, H18, HB_dst2, H19, -, ⟨⟨C11, S10, U0⟩, ⟨C12, S11, U1⟩, ⟨C13, S12, U2⟩, ⟨C14, S13, U3⟩, ⟨C15, S14, U4⟩, ⟨C16, S15, U5⟩, ⟨C17, S16, U6⟩, ⟨C18, S17, U7⟩⟩, %W3, HW⟩
  subst hv295
  sl_exec
  sl_for (inv4 c (mxV c a0 x0 x1 x2 x3 x4 x5 x13 x14 x15 x16 x19) (ff2 c a0 x0 x1 x2 x3 x4 x5 x13 x14 x15 x16 x19) (g4 c x13 x2 x6) x24 (fa0 c)
      (fun j => (win6 ![1024 * j.val, 0] (inbD j)).view.set) x6) $$ [H24 H20 H21 H19 C1 C2 C3 C4 C5 C6 C7 C8 HW]
  case region => exact region4 c (mxV c a0 x0 x1 x2 x3 x4 x5 x13 x14 x15 x16 x19) (ff2 c a0 x0 x1 x2 x3 x4 x5 x13 x14 x15 x16 x19) (g4 c x13 x2 x6) a0 ha0 (mScale c a0 x0 x1 x14) (muV c a0 x0 x1 x2 x4 x13 x14 x15) (sdV c a0 x0 x1 x2 x4 x13 x14 x15 x19) x24 (fa0 c) (fun j => (win6 ![1024 * j.val, 0] (inbD j)).view.set) x6
  · unfold inv4
    irw [fly4_all, Ring.bigSep_rangeSet_empty (NB := 8) (le_refl 0), g4_0, g4_1, g4_2, g4_3, g4_4, g4_5, g4_6, g4_7]
    isplitl [H24]; · iexact H24
    isplitl [H20]; · iexists _; iexact H20
    isplitl [H21]; · iexact H21
    isplitl [H19]; · iexact H19
    isplitl [C1 C2 C3 C4 C5 C6 C7 C8]
    · isplitl [C1]; · iexact C1
      isplitl [C2]; · iexact C2
      isplitl [C3]; · iexact C3
      isplitl [C4]; · iexact C4
      isplitl [C5]; · iexact C5
      isplitl [C6]; · iexact C6
      isplitl [C7]; · iexact C7
      iexact C8
    isplitr; · iempintro
    iexists _; iexact HW
  unfold inv4
  irw [show Scf.trips k0_t4_loop.lb k0_t4_loop.ub k0_t4_loop.st = 8 from trips4, land4_all, Ring.bigSep_rangeSet_empty (NB := 8) (le_refl 8)]
  iintro %_ ⟨H24, ⟨%hi, H20⟩, H21, H19, -, ⟨⟨C1, S0, D0⟩, ⟨C2, S1, D1⟩, ⟨C3, S2, D2⟩, ⟨C4, S3, D3⟩, ⟨C5, S4, D4⟩, ⟨C6, S5, D5⟩, ⟨C7, S6, D6⟩, ⟨C8, S7, D7⟩⟩, %W4, HW⟩
  sl_exec
  sl_step
  iapply Hk
  isplitl [H0]; · iexact H0
  isplitl [H1]; · iexact H1
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [HB_dst0]; · iexists _; iexact HB_dst0
  isplitl [HB_dst1]; · iexists _; iexact HB_dst1
  isplitl [HB_dst2]; · iexists _; iexact HB_dst2
  isplitl [HB_dst3]; · iexists _; iexact HB_dst3
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [S0 S1 S2 S3 S4 S5 S6 S7 S8 S9 S10 S11 S12 S13 S14 S15 S16 S17]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    iexists _; iexact S17
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [U0 U1 U2 U3 U4 U5 U6 U7]
  · isplitl [U0]; · iexact U0
    isplitl [U1]; · iexact U1
    isplitl [U2]; · iexact U2
    isplitl [U3]; · iexact U3
    isplitl [U4]; · iexact U4
    isplitl [U5]; · iexact U5
    isplitl [U6]; · iexact U6
    iexact U7
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [C1 C2 C3 C4 C5 C6 C7 C8 C9 C10 C11 C12 C13 C14 C15 C16 C17 C18]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  isplitl [HB]; · iexact HB
  isplitl [C23 C24 C25 C26 C27]
  · isplitl [C23]; · iexact C23
    isplitl [C24]; · iexact C24
    isplitl [C25]; · iexact C25
    isplitl [C26]; · iexact C26
    iexact C27
  iexists _; iexact HW

end Cert.Kernel.Hand

end
-- ==== Proof.Cut.lean ====
module

public import proofs.«01_k».proof.Proof.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The buffers the kernel copies in pieces, cut into those pieces and put together again: the two up-going weight matrices and
    the down-going one into eight blocks each, the weight ring into its eighteen slots. -/

theorem inbW (s : Fin 18) : ∀ a, (![s.val, 0, 0] : Fin 3 → ℕ) a + S1x1024x2048.size a ≤ S18x1024x2048.size a := inbSlot s.val s.isLt

theorem set2 (j : Fin 8) : (win2 ![0, 2048 * j.val] (inbG j)).view.set = (Rect.unit (s := S1024x16384) ![0, 2048 * j.val] S1024x2048.size (inbG j)).set :=
  View.set_slice_whole _ _
theorem set3 (j : Fin 8) : (win3 ![0, 2048 * j.val] (inbG j)).view.set = (Rect.unit (s := S1024x16384) ![0, 2048 * j.val] S1024x2048.size (inbG j)).set :=
  View.set_slice_whole _ _
theorem set6 (j : Fin 8) : (win6 ![1024 * j.val, 0] (inbD j)).view.set = (Rect.unit (s := S8192x2048) ![1024 * j.val, 0] S1024x2048.size (inbD j)).set :=
  View.set_slice_whole _ _
theorem set13 (s : Fin 18) : (slotO ![s.val, 0, 0] (inbW s)).view.set = (Rect.unit (s := S18x1024x2048) ![s.val, 0, 0] S1x1024x2048.size (inbW s)).set :=
  (View.set_reshape _ _).trans (View.set_slice_whole _ _)

theorem dG (b b' : Fin 8) (h : b ≠ b') : Disjoint (Rect.unit (s := S1024x16384) ![0, 2048 * b.val] S1024x2048.size (inbG b)).set (Rect.unit (s := S1024x16384) ![0, 2048 * b'.val] S1024x2048.size (inbG b')).set :=
  Ring.lead_disjoint (s := S1024x16384) (NB := 8) (1 : Fin 2) 2048 (fun j => ![0, 2048 * j.val]) S1024x2048.size inbG (fun _ => rfl) rfl b b' h
theorem cG : Finset.univ.biUnion (fun b : Fin 8 => (Rect.unit (s := S1024x16384) ![0, 2048 * b.val] S1024x2048.size (inbG b)).set) = Finset.univ :=
  Ring.lead_cover (s := S1024x16384) (NB := 8) (1 : Fin 2) 2048 (fun j => ![0, 2048 * j.val]) S1024x2048.size inbG (fun _ => rfl) (by decide) rfl (by decide) rfl
theorem dD (b b' : Fin 8) (h : b ≠ b') : Disjoint (Rect.unit (s := S8192x2048) ![1024 * b.val, 0] S1024x2048.size (inbD b)).set (Rect.unit (s := S8192x2048) ![1024 * b'.val, 0] S1024x2048.size (inbD b')).set :=
  Ring.lead_disjoint (s := S8192x2048) (NB := 8) (0 : Fin 2) 1024 (fun j => ![1024 * j.val, 0]) S1024x2048.size inbD (fun _ => rfl) rfl b b' h
theorem cD : Finset.univ.biUnion (fun b : Fin 8 => (Rect.unit (s := S8192x2048) ![1024 * b.val, 0] S1024x2048.size (inbD b)).set) = Finset.univ :=
  Ring.lead_cover (s := S8192x2048) (NB := 8) (0 : Fin 2) 1024 (fun j => ![1024 * j.val, 0]) S1024x2048.size inbD (fun _ => rfl) (by decide) rfl (by decide) rfl
theorem dW (b b' : Fin 18) (h : b ≠ b') : Disjoint (Rect.unit (s := S18x1024x2048) ![b.val, 0, 0] S1x1024x2048.size (inbW b)).set (Rect.unit (s := S18x1024x2048) ![b'.val, 0, 0] S1x1024x2048.size (inbW b')).set :=
  Ring.lead_disjoint (s := S18x1024x2048) (NB := 18) (0 : Fin 3) 1 (fun j => ![j.val, 0, 0]) S1x1024x2048.size inbW (fun b => (Nat.one_mul b.val).symm) rfl b b' h
theorem cW : Finset.univ.biUnion (fun b : Fin 18 => (Rect.unit (s := S18x1024x2048) ![b.val, 0, 0] S1x1024x2048.size (inbW b)).set) = Finset.univ :=
  Ring.lead_cover (s := S18x1024x2048) (NB := 18) (0 : Fin 3) 1 (fun j => ![j.val, 0, 0]) S1x1024x2048.size inbW (fun b => (Nat.one_mul b.val).symm) (by decide) rfl (by decide) rfl

def setsG (j : Fin 8) : Finset (S1024x16384.Idx) := (Rect.unit (s := S1024x16384) ![0, 2048 * j.val] S1024x2048.size (inbG j)).set
theorem setsG_d (b b' : Fin 8) (h : b ≠ b') : Disjoint (setsG b) (setsG b') := dG b b' h
theorem setsG_c : Finset.univ.biUnion setsG = Finset.univ := cG

def setsD (j : Fin 8) : Finset (S8192x2048.Idx) := (Rect.unit (s := S8192x2048) ![1024 * j.val, 0] S1024x2048.size (inbD j)).set
theorem setsD_d (b b' : Fin 8) (h : b ≠ b') : Disjoint (setsD b) (setsD b') := dD b b' h
theorem setsD_c : Finset.univ.biUnion setsD = Finset.univ := cD

def setsW (j : Fin 18) : Finset (S18x1024x2048.Idx) := (Rect.unit (s := S18x1024x2048) ![j.val, 0, 0] S1x1024x2048.size (inbW j)).set
theorem setsW_d (b b' : Fin 18) (h : b ≠ b') : Disjoint (setsW b) (setsW b') := dW b b' h
theorem setsW_c : Finset.univ.biUnion setsW = Finset.univ := cW

theorem cut2g (c : Dev nD) (f : HBuf (F := F) c a2) : (hPt c a2 f : sProp 𝕄) = bigSep Finset.univ (fun j : Fin 8 => ((a2.view.loc (c : Thread nD τ)) ↦[setsG j]{fullShare} f)) :=
  Ring.pointsTo_blocks (Ix := Unit) (Name := ℕ) (U := Pipeline.UD sig nD τ) (Lvl := ℕ) (q := fullShare) (ℓ := (c : Thread nD τ).loc main_arg2) setsG setsG_d setsG_c f
theorem cut2s (c : Dev nD) (f : HBuf (F := F) c a2) (j : Fin 8) : ((a2.view.loc (c : Thread nD τ)) ↦[setsG j]{fullShare} f : sProp 𝕄) = w2Pt c ![0, 2048 * j.val] (inbG j) f := by
  unfold setsG; rw [← set2 j]
theorem cut2b (c : Dev nD) (f : HBuf (F := F) c a2) : (bigSep Finset.univ (fun j : Fin 8 => w2Pt c ![0, 2048 * j.val] (inbG j) f) : sProp 𝕄) = iprop(w2Pt c ![0, 0] inb_S1024x16384_S1024x2048_0_0 f ∗ w2Pt c ![0, 2048] inb_S1024x16384_S1024x2048_0_2048 f ∗ w2Pt c ![0, 4096] inb_S1024x16384_S1024x2048_0_4096 f ∗ w2Pt c ![0, 6144] inb_S1024x16384_S1024x2048_0_6144 f ∗ w2Pt c ![0, 8192] inb_S1024x16384_S1024x2048_0_8192 f ∗ w2Pt c ![0, 10240] inb_S1024x16384_S1024x2048_0_10240 f ∗ w2Pt c ![0, 12288] inb_S1024x16384_S1024x2048_0_12288 f ∗ w2Pt c ![0, 14336] inb_S1024x16384_S1024x2048_0_14336 f) := by
  rw [bigSep_univ_eq_bigSepL [0, 1, 2, 3, 4, 5, 6, 7] (by decide) (by decide)]; rfl
/-- The gate weights, held whole, are their eight blocks. -/
theorem cut2 (c : Dev nD) (f : HBuf (F := F) c a2) : (hPt c a2 f : sProp 𝕄) = iprop(w2Pt c ![0, 0] inb_S1024x16384_S1024x2048_0_0 f ∗ w2Pt c ![0, 2048] inb_S1024x16384_S1024x2048_0_2048 f ∗ w2Pt c ![0, 4096] inb_S1024x16384_S1024x2048_0_4096 f ∗ w2Pt c ![0, 6144] inb_S1024x16384_S1024x2048_0_6144 f ∗ w2Pt c ![0, 8192] inb_S1024x16384_S1024x2048_0_8192 f ∗ w2Pt c ![0, 10240] inb_S1024x16384_S1024x2048_0_10240 f ∗ w2Pt c ![0, 12288] inb_S1024x16384_S1024x2048_0_12288 f ∗ w2Pt c ![0, 14336] inb_S1024x16384_S1024x2048_0_14336 f) := by
  rw [← cut2b, cut2g, show (fun j : Fin 8 => ((a2.view.loc (c : Thread nD τ)) ↦[setsG j]{fullShare} f : sProp 𝕄)) = fun j => w2Pt c ![0, 2048 * j.val] (inbG j) f from funext (cut2s c f)]

theorem cut3g (c : Dev nD) (f : HBuf (F := F) c a3) : (hPt c a3 f : sProp 𝕄) = bigSep Finset.univ (fun j : Fin 8 => ((a3.view.loc (c : Thread nD τ)) ↦[setsG j]{fullShare} f)) :=
  Ring.pointsTo_blocks (Ix := Unit) (Name := ℕ) (U := Pipeline.UD sig nD τ) (Lvl := ℕ) (q := fullShare) (ℓ := (c : Thread nD τ).loc main_arg3) setsG setsG_d setsG_c f
theorem cut3s (c : Dev nD) (f : HBuf (F := F) c a3) (j : Fin 8) : ((a3.view.loc (c : Thread nD τ)) ↦[setsG j]{fullShare} f : sProp 𝕄) = w3Pt c ![0, 2048 * j.val] (inbG j) f := by
  unfold setsG; rw [← set3 j]
theorem cut3b (c : Dev nD) (f : HBuf (F := F) c a3) : (bigSep Finset.univ (fun j : Fin 8 => w3Pt c ![0, 2048 * j.val] (inbG j) f) : sProp 𝕄) = iprop(w3Pt c ![0, 0] inb_S1024x16384_S1024x2048_0_0 f ∗ w3Pt c ![0, 2048] inb_S1024x16384_S1024x2048_0_2048 f ∗ w3Pt c ![0, 4096] inb_S1024x16384_S1024x2048_0_4096 f ∗ w3Pt c ![0, 6144] inb_S1024x16384_S1024x2048_0_6144 f ∗ w3Pt c ![0, 8192] inb_S1024x16384_S1024x2048_0_8192 f ∗ w3Pt c ![0, 10240] inb_S1024x16384_S1024x2048_0_10240 f ∗ w3Pt c ![0, 12288] inb_S1024x16384_S1024x2048_0_12288 f ∗ w3Pt c ![0, 14336] inb_S1024x16384_S1024x2048_0_14336 f) := by
  rw [bigSep_univ_eq_bigSepL [0, 1, 2, 3, 4, 5, 6, 7] (by decide) (by decide)]; rfl
/-- The up weights, held whole, are their eight blocks. -/
theorem cut3 (c : Dev nD) (f : HBuf (F := F) c a3) : (hPt c a3 f : sProp 𝕄) = iprop(w3Pt c ![0, 0] inb_S1024x16384_S1024x2048_0_0 f ∗ w3Pt c ![0, 2048] inb_S1024x16384_S1024x2048_0_2048 f ∗ w3Pt c ![0, 4096] inb_S1024x16384_S1024x2048_0_4096 f ∗ w3Pt c ![0, 6144] inb_S1024x16384_S1024x2048_0_6144 f ∗ w3Pt c ![0, 8192] inb_S1024x16384_S1024x2048_0_8192 f ∗ w3Pt c ![0, 10240] inb_S1024x16384_S1024x2048_0_10240 f ∗ w3Pt c ![0, 12288] inb_S1024x16384_S1024x2048_0_12288 f ∗ w3Pt c ![0, 14336] inb_S1024x16384_S1024x2048_0_14336 f) := by
  rw [← cut3b, cut3g, show (fun j : Fin 8 => ((a3.view.loc (c : Thread nD τ)) ↦[setsG j]{fullShare} f : sProp 𝕄)) = fun j => w3Pt c ![0, 2048 * j.val] (inbG j) f from funext (cut3s c f)]

theorem cut6g (c : Dev nD) (f : HBuf (F := F) c a6) : (hPt c a6 f : sProp 𝕄) = bigSep Finset.univ (fun j : Fin 8 => ((a6.view.loc (c : Thread nD τ)) ↦[setsD j]{fullShare} f)) :=
  Ring.pointsTo_blocks (Ix := Unit) (Name := ℕ) (U := Pipeline.UD sig nD τ) (Lvl := ℕ) (q := fullShare) (ℓ := (c : Thread nD τ).loc main_arg6) setsD setsD_d setsD_c f
theorem cut6s (c : Dev nD) (f : HBuf (F := F) c a6) (j : Fin 8) : ((a6.view.loc (c : Thread nD τ)) ↦[setsD j]{fullShare} f : sProp 𝕄) = w6Pt c ![1024 * j.val, 0] (inbD j) f := by
  unfold setsD; rw [← set6 j]
theorem cut6b (c : Dev nD) (f : HBuf (F := F) c a6) : (bigSep Finset.univ (fun j : Fin 8 => w6Pt c ![1024 * j.val, 0] (inbD j) f) : sProp 𝕄) = iprop(w6Pt c ![0, 0] inb_S8192x2048_S1024x2048_0_0 f ∗ w6Pt c ![1024, 0] inb_S8192x2048_S1024x2048_1024_0 f ∗ w6Pt c ![2048, 0] inb_S8192x2048_S1024x2048_2048_0 f ∗ w6Pt c ![3072, 0] inb_S8192x2048_S1024x2048_3072_0 f ∗ w6Pt c ![4096, 0] inb_S8192x2048_S1024x2048_4096_0 f ∗ w6Pt c ![5120, 0] inb_S8192x2048_S1024x2048_5120_0 f ∗ w6Pt c ![6144, 0] inb_S8192x2048_S1024x2048_6144_0 f ∗ w6Pt c ![7168, 0] inb_S8192x2048_S1024x2048_7168_0 f) := by
  rw [bigSep_univ_eq_bigSepL [0, 1, 2, 3, 4, 5, 6, 7] (by decide) (by decide)]; rfl
/-- The down weights, held whole, are their eight blocks. -/
theorem cut6 (c : Dev nD) (f : HBuf (F := F) c a6) : (hPt c a6 f : sProp 𝕄) = iprop(w6Pt c ![0, 0] inb_S8192x2048_S1024x2048_0_0 f ∗ w6Pt c ![1024, 0] inb_S8192x2048_S1024x2048_1024_0 f ∗ w6Pt c ![2048, 0] inb_S8192x2048_S1024x2048_2048_0 f ∗ w6Pt c ![3072, 0] inb_S8192x2048_S1024x2048_3072_0 f ∗ w6Pt c ![4096, 0] inb_S8192x2048_S1024x2048_4096_0 f ∗ w6Pt c ![5120, 0] inb_S8192x2048_S1024x2048_5120_0 f ∗ w6Pt c ![6144, 0] inb_S8192x2048_S1024x2048_6144_0 f ∗ w6Pt c ![7168, 0] inb_S8192x2048_S1024x2048_7168_0 f) := by
  rw [← cut6b, cut6g, show (fun j : Fin 8 => ((a6.view.loc (c : Thread nD τ)) ↦[setsD j]{fullShare} f : sProp 𝕄)) = fun j => w6Pt c ![1024 * j.val, 0] (inbD j) f from funext (cut6s c f)]

theorem cut13g (c : Dev nD) (f : HBuf (F := F) c a13) : (hPt c a13 f : sProp 𝕄) = bigSep Finset.univ (fun j : Fin 18 => ((a13.view.loc (c : Thread nD τ)) ↦[setsW j]{fullShare} f)) :=
  Ring.pointsTo_blocks (Ix := Unit) (Name := ℕ) (U := Pipeline.UD sig nD τ) (Lvl := ℕ) (q := fullShare) (ℓ := (c : Thread nD τ).loc cc0_scratch0) setsW setsW_d setsW_c f
theorem cut13s (c : Dev nD) (f : HBuf (F := F) c a13) (j : Fin 18) : ((a13.view.loc (c : Thread nD τ)) ↦[setsW j]{fullShare} f : sProp 𝕄) = slotPt c ![j.val, 0, 0] (inbW j) f := by
  unfold setsW; rw [← set13 j]
theorem cut13b (c : Dev nD) (f : HBuf (F := F) c a13) : (bigSep Finset.univ (fun j : Fin 18 => slotPt c ![j.val, 0, 0] (inbW j) f) : sProp 𝕄) = iprop(slotPt c ![0, 0, 0] (inbSlot 0 (by decide)) f ∗ slotPt c ![1, 0, 0] (inbSlot 1 (by decide)) f ∗ slotPt c ![2, 0, 0] (inbSlot 2 (by decide)) f ∗ slotPt c ![3, 0, 0] (inbSlot 3 (by decide)) f ∗ slotPt c ![4, 0, 0] (inbSlot 4 (by decide)) f ∗ slotPt c ![5, 0, 0] (inbSlot 5 (by decide)) f ∗ slotPt c ![6, 0, 0] (inbSlot 6 (by decide)) f ∗ slotPt c ![7, 0, 0] (inbSlot 7 (by decide)) f ∗ slotPt c ![8, 0, 0] (inbSlot 8 (by decide)) f ∗ slotPt c ![9, 0, 0] (inbSlot 9 (by decide)) f ∗ slotPt c ![10, 0, 0] (inbSlot 10 (by decide)) f ∗ slotPt c ![11, 0, 0] (inbSlot 11 (by decide)) f ∗ slotPt c ![12, 0, 0] (inbSlot 12 (by decide)) f ∗ slotPt c ![13, 0, 0] (inbSlot 13 (by decide)) f ∗ slotPt c ![14, 0, 0] (inbSlot 14 (by decide)) f ∗ slotPt c ![15, 0, 0] (inbSlot 15 (by decide)) f ∗ slotPt c ![16, 0, 0] (inbSlot 16 (by decide)) f ∗ slotPt c ![17, 0, 0] (inbSlot 17 (by decide)) f) := by
  rw [bigSep_univ_eq_bigSepL [0, 1, 2, 3, 4, 5, 6, 7, 8, 9, 10, 11, 12, 13, 14, 15, 16, 17] (by decide) (by decide)]; rfl
/-- The weight ring, held whole, is its eighteen slots. -/
theorem cut13 (c : Dev nD) (f : HBuf (F := F) c a13) : (hPt c a13 f : sProp 𝕄) = iprop(slotPt c ![0, 0, 0] (inbSlot 0 (by decide)) f ∗ slotPt c ![1, 0, 0] (inbSlot 1 (by decide)) f ∗ slotPt c ![2, 0, 0] (inbSlot 2 (by decide)) f ∗ slotPt c ![3, 0, 0] (inbSlot 3 (by decide)) f ∗ slotPt c ![4, 0, 0] (inbSlot 4 (by decide)) f ∗ slotPt c ![5, 0, 0] (inbSlot 5 (by decide)) f ∗ slotPt c ![6, 0, 0] (inbSlot 6 (by decide)) f ∗ slotPt c ![7, 0, 0] (inbSlot 7 (by decide)) f ∗ slotPt c ![8, 0, 0] (inbSlot 8 (by decide)) f ∗ slotPt c ![9, 0, 0] (inbSlot 9 (by decide)) f ∗ slotPt c ![10, 0, 0] (inbSlot 10 (by decide)) f ∗ slotPt c ![11, 0, 0] (inbSlot 11 (by decide)) f ∗ slotPt c ![12, 0, 0] (inbSlot 12 (by decide)) f ∗ slotPt c ![13, 0, 0] (inbSlot 13 (by decide)) f ∗ slotPt c ![14, 0, 0] (inbSlot 14 (by decide)) f ∗ slotPt c ![15, 0, 0] (inbSlot 15 (by decide)) f ∗ slotPt c ![16, 0, 0] (inbSlot 16 (by decide)) f ∗ slotPt c ![17, 0, 0] (inbSlot 17 (by decide)) f) := by
  rw [← cut13b, cut13g, show (fun j : Fin 18 => ((a13.view.loc (c : Thread nD τ)) ↦[setsW j]{fullShare} f : sProp 𝕄)) = fun j => slotPt c ![j.val, 0, 0] (inbW j) f from funext (cut13s c f)]

/-- The slots, each at some contents, are the ring whole at some contents. -/
theorem join13 (c : Dev nD) (f₀ : HBuf (F := F) c a13) : iprop((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f)) ⊢ (iprop(∃ f, hPt (F := F) c a13 f) : sProp 𝕄) := by
  have e : (bigSep Finset.univ (fun j : Fin 18 => (iprop(∃ f, ((a13.view.loc (c : Thread nD τ)) ↦[setsW j]{fullShare} f)) : sProp 𝕄))) = iprop((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f)) := by
    rw [show (fun j : Fin 18 => (iprop(∃ f, ((a13.view.loc (c : Thread nD τ)) ↦[setsW j]{fullShare} f)) : sProp 𝕄)) = fun j => iprop(∃ f, slotPt (F := F) c ![j.val, 0, 0] (inbW j) f) from
      funext fun j => congrArg (fun P : HBuf (F := F) c a13 → sProp 𝕄 => iprop(∃ f, P f)) (funext fun f => cut13s c f j)]
    rw [bigSep_univ_eq_bigSepL [0, 1, 2, 3, 4, 5, 6, 7, 8, 9, 10, 11, 12, 13, 14, 15, 16, 17] (by decide) (by decide)]; rfl
  rw [← e]
  exact Ring.pointsTo_blocks_join_exists (Ix := Unit) (Name := ℕ) (U := Pipeline.UD sig nD τ) (Lvl := ℕ) (q := fullShare) (ℓ := (c : Thread nD τ).loc cc0_scratch0) setsW setsW_d setsW_c f₀

end Cert.Kernel.Hand

end
-- ==== Proof.Core.lean ====
module

public import proofs.«01_k».proof.Proof.Cut
public import proofs.«01_k».proof.Proof.Gen.Kernel.Frame
public import Idealize.ShloMosaic.Lib.Pipeline.FrameBody
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the kernel, at this algebra -/

set_option maxHeartbeats 800000 in
/-- The program up to the kernel: the host reshapes of the four vectors. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores, the buffers it reads, the buffers it writes -/

/-- The kernel's own semaphore cells: eighteen of the weight ring, four of the other copies in, five of the copies out. -/
def osem0 : Fin 27 → SemLoc sig := fun i => SemLoc.dma (⟨1 + i.val, by omega⟩ : Fin 28)

theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl
/-- What the body reads in the large memory, and -/
def H0 : Finset (Ref sig .tc) := {main_v0, main_arg2, main_arg3, main_v1, main_v2, main_arg6, main_v3}
theorem H0_sub : H0 ⊆ Pipeline.restRefs sig spec0 := by decide
theorem hPts0_eq (c : Dev nD) :
    (bigSep H0 (fun b => ((c : Thread nD τ).loc b) ↦{fullShare} V m c b) : sProp 𝕄) = iprop(hPt c a1 (V m c main_v0) ∗ hPt c a2 (V m c main_arg2) ∗ hPt c a3 (V m c main_arg3) ∗ hPt c a4 (V m c main_v1) ∗ hPt c a5 (V m c main_v2) ∗ hPt c a6 (V m c main_arg6) ∗ hPt c a7 (V m c main_v3)) := by
  rw [BI.bigSep_eq_bigSepL_of_eq [main_v0, main_arg2, main_arg3, main_v1, main_v2, main_arg6, main_v3] (by decide) (by decide)]; rfl
/-- the five results it writes there. -/
def R0 : Finset (Ref sig .tc) := {main_v4_0, main_v4_1, main_v4_2, main_v4_3, main_v4_4}
theorem R0_sub : R0 ⊆ Pipeline.restRefs sig spec0 \ H0 := by decide
theorem routed0_eq (c : Dev nD) (W : (b : Ref sig .tc) → Buf (Elt F) ((c : Thread nD τ).loc b)) :
    (Pipeline.routed R0 c W : sProp 𝕄) = iprop(hPt c a8 (W main_v4_0) ∗ hPt c a9 (W main_v4_1) ∗ hPt c a10 (W main_v4_2) ∗ hPt c a11 (W main_v4_3) ∗ hPt c a12 (W main_v4_4)) := by
  unfold Pipeline.routed; rw [BI.bigSep_eq_bigSepL_of_eq [main_v4_0, main_v4_1, main_v4_2, main_v4_3, main_v4_4] (by decide) (by decide)]; rfl
theorem owned0_eq (c : Dev nD) :
    (Pipeline.owned R0 c : sProp 𝕄) = iprop((∃ f, hPt (F := F) c a8 f) ∗ (∃ f, hPt (F := F) c a9 f) ∗ (∃ f, hPt (F := F) c a10 f) ∗ (∃ f, hPt (F := F) c a11 f) ∗ (∃ f, hPt (F := F) c a12 f)) := by
  unfold Pipeline.owned; rw [BI.bigSep_eq_bigSepL_of_eq [main_v4_0, main_v4_1, main_v4_2, main_v4_3, main_v4_4] (by decide) (by decide)]; rfl
theorem scoped_eq (c : Dev nD) :
    (Pipeline.scopedRest (Ix := Unit) (Name := ℕ) (U := Pipeline.UD sig nD τ) (Lvl := ℕ) (Val := Elt F) spec0 c : sProp 𝕄) = iprop((∃ f, hPt (F := F) c a13 f) ∗ (∃ f, hPt (F := F) c a14 f) ∗ (∃ f, hPt (F := F) c a15 f) ∗ (∃ f, hPt (F := F) c a16 f) ∗ (∃ f, hPt (F := F) c a17 f) ∗ (∃ f, hPt (F := F) c a18 f) ∗ (∃ f, hPt (F := F) c a19 f) ∗ (∃ f, hPt (F := F) c a20 f) ∗ (∃ f, hPt (F := F) c a21 f) ∗ (∃ f, hPt (F := F) c a22 f) ∗ (∃ f, hPt (F := F) c a23 f) ∗ (∃ f, hPt (F := F) c a24 f) ∗ (∃ f, hPt (F := F) c a25 f) ∗ (∃ f, hPt (F := F) c a26 f)) :=
  scopedRest0_eq c

/-- ONE RUN OF THE KERNEL over the buffers as the launch hands them over, each whole: it takes no fault and ends with every
    buffer it reads as it was, every semaphore at zero, and the five results at the values its run computes. -/
theorem core (c : Dev nD) (a0 : Memref sig .tc .vmem S24x2048 .f32) (ha0 : a0.IsWhole) (x0 : HBuf (F := F) c a0) (y8 : HBuf (F := F) c a8) (y9 : HBuf (F := F) c a9) (y10 : HBuf (F := F) c a10) (y11 : HBuf (F := F) c a11) (y12 : HBuf (F := F) c a12)
    (W : Waits sig Unit) (K : PUnit → sProp 𝕄) :
    iprop(Pipeline.scopedRest spec0 c ∗ Pipeline.ownSems0 osem0 c ∗ bigSep H0 (fun b => ((c : Thread nD τ).loc b) ↦{fullShare} V m c b)
      ∗ (hPt c a8 y8 ∗ hPt c a9 y9 ∗ hPt c a10 y10 ∗ hPt c a11 y11 ∗ hPt c a12 y12) ∗ owes (c : Thread nD τ) 0 W ∗ (a0.view.loc (c : Thread nD τ) ↦[a0.view.set]{fullShare} x0)
      ∗ (iprop(Pipeline.scopedRest spec0 c ∗ Pipeline.ownSems0 osem0 c ∗ bigSep H0 (fun b => ((c : Thread nD τ).loc b) ↦{fullShare} V m c b)
          ∗ (∃ x13 x14 x15 x16 x17 x19 x22 x23 x24 x25, hPt c a8 (out8 c a0 x0 (V m c main_v0) (V m c main_arg2) (V m c main_arg3) (V m c main_v1) (V m c main_v2) (V m c main_arg6) (V m c main_v3) x13 x14 x15 x16 x17 x19 y8 x22) ∗ hPt c a9 (out9 c a0 x0 (V m c main_v0) x14 y9 x23) ∗ hPt c a10 (out10 c a0 x0 (V m c main_v0) x14 y10 x25) ∗ hPt c a11 (out11 c a0 x0 (V m c main_v0) (V m c main_arg2) (V m c main_arg3) (V m c main_v1) (V m c main_v2) x13 x14 x15 x16 x19 x24 y11) ∗ hPt c a12 (out12 c a0 x0 (V m c main_v0) (V m c main_arg2) (V m c main_arg3) (V m c main_v1) (V m c main_v2) x13 x14 x15 x16 x19 y12))
          ∗ (∃ W', owes (c : Thread nD τ) 0 W') ∗ (a0.view.loc (c : Thread nD τ) ↦[a0.view.set]{fullShare} x0)) -∗ K ⟨⟩))
    ⊢ wp frame (wpE (defs₀ (F := F)) Variants.none c none) Set.univ (cc0_decode_layer a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16) K := by
  rw [scoped_eq, ownSems00_eq, hPts0_eq, cut2, cut3, cut6]
  iintro ⟨⟨⟨%x13, HS⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, ⟨%x23, H23⟩, ⟨%x24, H24⟩, ⟨%x25, H25⟩, ⟨%x26, H26⟩⟩, ⟨C1, C2, C3, C4, C5, C6, C7, C8, C9, C10, C11, C12, C13, C14, C15, C16, C17, C18, C19, C20, C21, C22, C23, C24, C25, C26, C27⟩, ⟨H1, G, U, H4, H5, D, H7⟩, ⟨H8, H9, H10, H11, H12⟩, HW, H0, Hk⟩
  ihave HS := (Entails.of_eq (cut13 c x13)) $$ HS
  iapply (run0 c a0 ha0 x0 (V m c main_v0) (V m c main_arg2) (V m c main_arg3) (V m c main_v1) (V m c main_v2) (V m c main_arg6) (V m c main_v3) y8 y9 y10 y11 y12 x13 x14 x15 x16 x17 x18 x19 x20 x21 x22 x23 x24 x25 x26 W K)
  isplitl [H0]; · iexact H0
  isplitl [H1]; · iexact H1
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [HS]; · iexact HS
  isplitl [G]; · iexact G
  isplitl [U]; · iexact U
  isplitl [D]; · iexact D
  isplitl [C1 C2 C3 C4 C5 C6 C7 C8 C9 C10 C11 C12 C13 C14 C15 C16 C17 C18]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  isplitl [C21]; · iexact C21
  isplitl [C23 C24 C25 C26 C27]
  · isplitl [C23]; · iexact C23
    isplitl [C24]; · iexact C24
    isplitl [C25]; · iexact C25
    isplitl [C26]; · iexact C26
    iexact C27
  isplitl [HW]; · iexact HW
  iintro ⟨H0, H1, H4, H5, H7, H8, H9, H10, H11, H12, H14, H15, H16, H17, H18, H19, H20, H21, H22, H23, H24, H25, H26, S, G, U, D, ⟨C1, C2, C3, C4, C5, C6, C7, C8, C9, C10, C11, C12, C13, C14, C15, C16, C17, C18⟩, C21, ⟨C23, C24, C25, C26, C27⟩, HW⟩
  ihave HS := (join13 c x13) $$ S
  iapply Hk
  isplitl [HS H14 H15 H16 H17 H18 H19 H20 H21 H22 H23 H24 H25 H26]
  · isplitl [HS]; · iexact HS
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  isplitl [C1 C2 C3 C4 C5 C6 C7 C8 C9 C10 C11 C12 C13 C14 C15 C16 C17 C18 C19 C20 C21 C22 C23 C24 C25 C26 C27]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    iexact C27
  isplitl [H1 G U H4 H5 D H7]
  · isplitl [H1]; · iexact H1
    isplitl [G]; · iexact G
    isplitl [U]; · iexact U
    isplitl [H4]; · iexact H4
    isplitl [H5]; · iexact H5
    isplitl [D]; · iexact D
    iexact H7
  isplitl [H8 H9 H10 H11 H12]
  · iexists x13, x14, x15, x16, x17, x19, x22, x23, x24, x25
    isplitl [H8]; · iexact H8
    isplitl [H9]; · iexact H9
    isplitl [H10]; · iexact H10
    isplitl [H11]; · iexact H11
    iexact H12
  isplitl [HW]; · iexact HW
  iexact H0

end Cert.Kernel.Hand

end
-- ==== Proof.Launched.lean ====
module

public import proofs.«01_k».proof.Proof.Core

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the program terminates, nothing faults, its arguments end unchanged, every semaphore counter ends at zero -/

/-- The proof data of the one launch on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ _ := Pipeline.ΦDR osem0 spec0 H0 R0 (V m) c
  q _ := fullShare
  owed _ := 0

/-- The staged array is the one the launch finds, -/
theorem A_eq (c : Dev nD) (w : Fin cfg0.W) : (dats m 0 c).A w = V m c (Pipeline.arrRef spec0 w) := by dsimp only [dats]
/-- its window is left as it was, -/
theorem after0_0 (c : Dev nD) (t : Fin cfg0.N) : (dats m 0 c).after 0 t = iblk m c 0 t := by dsimp only [dats]
/-- and the body finds the block in it. -/
theorem before_eq (c : Dev nD) (t : Fin cfg0.N) (d) : (dats m 0 c).before 0 t d = iblk m c 0 t :=
  before0_0 m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem PhiDR0_eq (c : Dev nD) :
    (Pipeline.ΦDR osem0 spec0 H0 R0 (V m) c : sProp 𝕄)
      = iprop(Pipeline.scopedRest spec0 c ∗ (∃ r, prngReg c r) ∗ Pipeline.ownSems0 osem0 c
          ∗ (bigSep H0 fun b => ((c : Thread nD τ).loc b) ↦{fullShare} V m c b) ∗ Pipeline.owned R0 c) := by
  first | rfl | exact Pipeline.ΦDR_eq _ _ _ _ _ _

/-- The body, from what it is handed at the point to what it leaves there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦDR osem0 spec0 H0 R0 (V m) c from rfl, PhiDR0_eq, owned0_eq]
  unfold Dat.owesAt Pipeline.owesWithin
  rw [show (dats m 0 c).owed t.castSucc = 0 from rfl, show (dats m 0 c).owed t.succ = 0 from rfl]
  simp only [before_eq]
  unfold owns
  iintro ⟨⟨HS, Hg, HC, HH, ⟨%y8, H8⟩, ⟨%y9, H9⟩, ⟨%y10, H10⟩, ⟨%y11, H11⟩, ⟨%y12, H12⟩⟩, ⟨%W, -, HW⟩, ⟨%d0, %f0, %hf0, H0⟩⟩
  iapply (core m c _ _ f0 y8 y9 y10 y11 y12 W _)
  isplitl [HS]; · iexact HS
  isplitl [HC]; · iexact HC
  isplitl [HH]; · iexact HH
  isplitl [H8 H9 H10 H11 H12]
  · isplitl [H8]; · iexact H8
    isplitl [H9]; · iexact H9
    isplitl [H10]; · iexact H10
    isplitl [H11]; · iexact H11
    iexact H12
  isplitl [HW]; · iexact HW
  isplitl [H0]; · iexact H0
  iintro ⟨HS, HC, HH, ⟨%x13, %x14, %x15, %x16, %x17, %x19, %x22, %x23, %x24, %x25, H8, H9, H10, H11, H12⟩, ⟨%W', HW⟩, H0⟩
  isplitl [HS Hg HC HH H8 H9 H10 H11 H12]
  · isplitl [HS]; · iexact HS
    isplitl [Hg]; · iexact Hg
    isplitl [HC]; · iexact HC
    isplitl [HH]; · iexact HH
    isplitl [H8]; · iexists _; iexact H8
    isplitl [H9]; · iexists _; iexact H9
    isplitl [H10]; · iexists _; iexact H10
    isplitl [H11]; · iexists _; iexact H11
    iexists _; iexact H12
  isplitl [HW]
  · iexists W'; isplitr; · ipureintro; exact fun _ _ => Or.inl trivial
    iexact HW
  iexists f0; isplitr
  · ipureintro; exact hf0
  iexact H0

theorem defs₀_row (t : Fin cfg0.N) : defs₀ (F := F) .tc cfg0.body (cfg0.bodyArgs t (cfg0.slots t)) = bodyAt0 t := by
  unfold defs₀; rw [Defs.onTc_tc]

/-- The body meets what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the program terminates without a fault, its eight arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hs => ⟨fun c => have h := hs.1; ⟨((h c).1 0).trans (((dats m 0 c).arrAt_in 0 rfl _).trans ((A_eq m c 0).trans (V_main_arg0 m c))),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩, hs.2⟩) (run_main m ρ)

end Cert.Kernel.Hand

end
-- ==== Proof.Ideal.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HBuf (c : Dev nD) {sp : Space} {S : Shape} {e : EltTy} (M : Memref sig .tc sp S e) : Type := Buf (Elt F) (M.view.loc (c : Thread nD τ))
abbrev hPt (c : Dev nD) {sp : Space} {S : Shape} {e : EltTy} (M : Memref sig .tc sp S e) (f : HBuf (F := F) c M) : sProp 𝕄 :=
  M.view.loc (c : Thread nD τ) ↦{fullShare} f

abbrev a1 : Memref sig .tc .hbm S1x2048 .f32 := Memref.whole main_v0
abbrev a2 : Memref sig .tc .hbm S1024x16384 .i8 := Memref.whole main_arg2
abbrev a3 : Memref sig .tc .hbm S1024x16384 .i8 := Memref.whole main_arg3
abbrev a4 : Memref sig .tc .hbm S1x16384 .f32 := Memref.whole main_v1
abbrev a5 : Memref sig .tc .hbm S1x16384 .f32 := Memref.whole main_v2
abbrev a6 : Memref sig .tc .hbm S8192x2048 .i8 := Memref.whole main_arg6
abbrev a7 : Memref sig .tc .hbm S1x2048 .f32 := Memref.whole main_v3
abbrev a8 : Memref sig .tc .hbm S24x1x2048 .f32 := Memref.whole main_v4_0
abbrev a9 : Memref sig .tc .hbm S24x2048 .i8 := Memref.whole main_v4_1
abbrev a10 : Memref sig .tc .hbm S1x24 .f32 := Memref.whole main_v4_2
abbrev a11 : Memref sig .tc .hbm S24x16384 .i8 := Memref.whole main_v4_3
abbrev a12 : Memref sig .tc .hbm S1x24 .f32 := Memref.whole main_v4_4
abbrev a13 : Memref sig .tc .vmem S18x1024x2048 .i8 := Memref.whole cc0_scratch0
abbrev a14 : Memref sig .tc .vmem S1x2048 .f32 := Memref.whole cc0_scratch1
abbrev a15 : Memref sig .tc .vmem S1x16384 .f32 := Memref.whole cc0_scratch2
abbrev a16 : Memref sig .tc .vmem S1x16384 .f32 := Memref.whole cc0_scratch3
abbrev a17 : Memref sig .tc .vmem S1x2048 .f32 := Memref.whole cc0_scratch4
abbrev a18 : Memref sig .tc .vmem S24x2048 .bf16 := Memref.whole cc0_scratch5
abbrev a19 : Memref sig .tc .vmem S24x16384 .f32 := Memref.whole cc0_scratch6
abbrev a20 : Memref sig .tc .vmem S24x2048 .bf16 := Memref.whole cc0_scratch7
abbrev a21 : Memref sig .tc .vmem S24x2048 .f32 := Memref.whole cc0_scratch8
abbrev a22 : Memref sig .tc .vmem S24x1x2048 .f32 := Memref.whole cc0_scratch9
abbrev a23 : Memref sig .tc .vmem S24x2048 .i8 := Memref.whole cc0_scratch10
abbrev a24 : Memref sig .tc .vmem S24x16384 .i8 := Memref.whole cc0_scratch11
abbrev a25 : Memref sig .tc .vmem S1x24 .f32 := Memref.whole cc0_scratch12
abbrev a26 : Memref sig .tc .vmem S1x24 .f32 := Memref.whole cc0_scratch13

abbrev cell (c : Dev nD) (i : Fin 28) : sProp 𝕄 := semVal ((c : Thread nD τ), SemLoc.dma i) 0

abbrev A21 : Fin 4 → ℕ := ![256, 2048, 2048, 256]

abbrev dlv (c : Dev nD) {S : Shape} {e : EltTy} (src : Memref sig .tc .hbm S e) (dst : Memref sig .tc .vmem S e)
    (f : HBuf (F := F) c src) (d : HBuf (F := F) c dst) : sProp 𝕄 :=
  iprop((dst.view.loc (c : Thread nD τ) ↦{fullShare}
      View.write (Elt F) dst.view d (ReadAs.same.apply (src.view.read (Elt F) f)) Finset.univ)
    ∗ src.view.loc (c : Thread nD τ) ↦[src.view.set]{fullShare} f)

def deliv21 (c : Dev nD) (x1 : HBuf (F := F) c a1) (x4 : HBuf (F := F) c a4) (x5 : HBuf (F := F) c a5) (x7 : HBuf (F := F) c a7)
    (x14 : HBuf (F := F) c a14) (x15 : HBuf (F := F) c a15) (x16 : HBuf (F := F) c a16) (x17 : HBuf (F := F) c a17) : Fin 4 → sProp 𝕄
  | 0 => dlv c a1 a14 x1 x14
  | 1 => dlv c a4 a15 x4 x15
  | 2 => dlv c a5 a16 x5 x16
  | 3 => dlv c a7 a17 x7 x17
instance deliv21_storable (c : Dev nD) (x1 : HBuf (F := F) c a1) (x4 : HBuf (F := F) c a4) (x5 : HBuf (F := F) c a5) (x7 : HBuf (F := F) c a7)
    (x14 : HBuf (F := F) c a14) (x15 : HBuf (F := F) c a15) (x16 : HBuf (F := F) c a16) (x17 : HBuf (F := F) c a17) (t : Fin 4) :
    Storable (upEmb : UEmb _ 𝕄) (deliv21 c x1 x4 x5 x7 x14 x15 x16 x17 t) := by
  fin_cases t <;> simp only [deliv21] <;> infer_instance

theorem off13_eq : ∀ k : Fin k0_t4_loop.trips, k0_off13 k = ![k.val] := by decide +kernel
instance closedOff_off13 (k : Fin k0_t4_loop.trips) : ClosedOff (k0_off13 k) := ⟨![k.val], off13_eq k⟩
theorem off14_eq : ∀ k : Fin k0_t4_loop.trips, k0_off14 k = ![k.val, 0, 0] := by decide +kernel
instance closedOff_off14 (k : Fin k0_t4_loop.trips) : ClosedOff (k0_off14 k) := ⟨![k.val, 0, 0], off14_eq k⟩
theorem off15_eq : ∀ k : Fin k0_t4_loop.trips, k0_off15 k = ![k.val, 0, 0] := by decide +kernel
instance closedOff_off15 (k : Fin k0_t4_loop.trips) : ClosedOff (k0_off15 k) := ⟨![k.val, 0, 0], off15_eq k⟩

theorem inbSlot (s : ℕ) (h : s < 18) : ∀ a, (![s, 0, 0] : Fin 3 → ℕ) a + S1x1024x2048.size a ≤ S18x1024x2048.size a := by
  intro a; fin_cases a <;> simp <;> omega

/-- Slot `s` of the weight ring, as the kernel names it by the offsets of its slice. -/
abbrev slotO (o : Fin 3 → ℕ) (h : ∀ a, o a + S1x1024x2048.size a ≤ S18x1024x2048.size a) : Memref sig .tc .vmem S1024x2048 .i8 :=
  (a13.slice (Rect.unit (s := S18x1024x2048) o S1x1024x2048.size h) (fun _ => rfl)).squeeze S1024x2048 squeezes_S1x1024x2048_S1024x2048

/-- The semaphore of a slot of the weight ring. -/
abbrev wsemO (o : Fin 1 → ℕ) (h : ∀ a, o a + S1.size a ≤ S18.size a) : SemLoc sig :=
  SemLoc.dma ((cc0_scratch14.slice (Rect.unit (s := S18) o S1.size h)).squeeze S_ squeezes_S1_S_).sem

/-- A slot of the weight ring held at contents `g`. -/
abbrev slotPt (c : Dev nD) (o : Fin 3 → ℕ) (h : ∀ a, o a + S1x1024x2048.size a ≤ S18x1024x2048.size a) (g : HBuf (F := F) c a13) : sProp 𝕄 :=
  (slotO o h).view.loc (c : Thread nD τ) ↦[(slotO o h).view.set]{fullShare} g

/-- What a load of the rectangle at offsets `o` reads of a whole array held at `f`. -/
abbrev rd (c : Dev nD) {sp : Space} {s : Shape} {e : EltTy} (M : Memref sig .tc sp s e) (f : HBuf (F := F) c M) (o : Fin s.rank → ℕ) (sz : Fin s.rank → ℕ)
    (h : ∀ a, o a + sz a ≤ s.size a) :=
  View.readAt (Elt F) M.view (Rect.unit o sz h).toLoadRect f

end Cert.KernelIdeal.Hand

end
-- ==== Proof.Ideal.Trips.lean ====
module

public import proofs.«01_k».proof.Proof.Ideal.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### One trip of each of the four loops -/

/-- The gate block trip `k` computes, before its activation is stored: the int8 rows against 2048 columns of the gate weights, scaled. -/
def gateBlk (c : Dev nD) (v118 : FVec F S24x1 .f32) (xi : HBuf (F := F) c a18) (sg : HBuf (F := F) c a15) (g : HBuf (F := F) c a13) (k : Fin k0_t1_loop.trips) :=
  k0_pay2 v118 (rd c a18 xi ![0, 0] S24x2048.size inb_S24x2048_S24x2048_0_0) (rd c a13 g (k0_off3 k) S1x1024x2048.size (k0_off3_inb k)) (rd c a15 sg (k0_off4 k) S1x2048.size (k0_off4_inb k))
/-- The same block as it is stored. -/
def gateSt (c : Dev nD) (v118 : FVec F S24x1 .f32) (xi : HBuf (F := F) c a18) (sg : HBuf (F := F) c a15) (g : HBuf (F := F) c a13) (k : Fin k0_t1_loop.trips) :=
  k0_pay3 v118 (rd c a18 xi ![0, 0] S24x2048.size inb_S24x2048_S24x2048_0_0) (rd c a13 g (k0_off3 k) S1x1024x2048.size (k0_off3_inb k)) (rd c a15 sg (k0_off4 k) S1x2048.size (k0_off4_inb k))

def gateStep (c : Dev nD) (v118 : FVec F S24x1 .f32) (xi : HBuf (F := F) c a18) (sg : HBuf (F := F) c a15) (g : HBuf (F := F) c a13) (k : Fin k0_t1_loop.trips) (ff : HBuf (F := F) c a19) : HBuf (F := F) c a19 :=
  a19.view.writes (Elt F) ff [⟨Rect.unit (k0_off5 k) S24x2048.size (k0_off5_inb k), gateSt c v118 xi sg g k⟩]

theorem trip1 (c : Dev nD) (a0 : Memref sig .tc .vmem S24x2048 .f32) (ha0 : a0.IsWhole) (v118 : FVec F S24x1 .f32)
    (xi : HBuf (F := F) c a18) (sg : HBuf (F := F) c a15) (ff : HBuf (F := F) c a19) (g : HBuf (F := F) c a13)
    (S : Finset (Idx (a2.view.loc (c : Thread nD τ)))) (f : HBuf (F := F) c a2)
    (k : Fin k0_t1_loop.trips) (acc : FVec F S24x1 .f32) (W : Waits sig Unit) :
    iprop(hPt c a18 xi ∗ hPt c a15 sg ∗ hPt c a19 ff
      ∗ Transfers.Flight countersEmb (c : Thread nD τ) (wsemO (k0_off1 k) (k0_off1_inb k)) default 65536
          iprop(slotPt c (k0_off2 k) (k0_off2_inb k) g ∗ a2.view.loc (c : Thread nD τ) ↦[S]{fullShare} f)
      ∗ owes (c : Thread nD τ) 0 W)
    ⊢ wp frame (wpE (defs₀ (F := F)) Variants.none c none) Set.univ (k0_t1_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 k acc)
      fun r => iprop(⌜r = k0_pay42 acc (gateBlk c v118 xi sg g k)⌝ ∗ hPt c a18 xi ∗ hPt c a15 sg ∗ hPt c a19 (gateStep c v118 xi sg g k ff)
        ∗ (semVal ((c : Thread nD τ), wsemO (k0_off1 k) (k0_off1_inb k)) 0 ∗ slotPt c (k0_off2 k) (k0_off2_inb k) g ∗ a2.view.loc (c : Thread nD τ) ↦[S]{fullShare} f)
        ∗ ∃ W', owes (c : Thread nD τ) 0 W') := by
  have hk : k.val < 8 := Nat.lt_of_lt_of_le k.isLt k0_t1_abs.2.1
  unfold k0_t1_body
  iintro ⟨H18, H15, H19, HF, HW⟩
  sl_exec
  sl_step
  isplitr
  · ipureintro; rfl
  unfold gateStep gateSt
  isplitl [H18]; · iexact H18
  isplitl [H15]; · iexact H15
  isplitl [H19]; · iexact H19
  isplitl [HF HF_dst HF_src]
  · isplitl [HF]; · iexact HF
    isplitl [HF_dst]; · iexact HF_dst
    iexact HF_src
  iexists _; iexact HW

theorem trip2 (c : Dev nD) (a0 : Memref sig .tc .vmem S24x2048 .f32) (ha0 : a0.IsWhole) (v247 : FVec F S24x1 .f32)
    (ff : HBuf (F := F) c a19) (k : Fin k0_t2_loop.trips) (acc : FVec F S24x1 .f32) (W : Waits sig Unit) :
    iprop(hPt c a19 ff ∗ owes (c : Thread nD τ) 0 W)
    ⊢ wp frame (wpE (defs₀ (F := F)) Variants.none c none) Set.univ (k0_t2_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v247 k acc)
      fun r => iprop(⌜r = k0_pay45 v247 acc (rd c a19 ff (k0_off6 k) S24x2048.size (k0_off6_inb k))⌝ ∗ hPt c a19 ff ∗ ∃ W', owes (c : Thread nD τ) 0 W') := by
  have hk : k.val < 8 := Nat.lt_of_lt_of_le k.isLt k0_t2_abs.2.1
  unfold k0_t2_body
  iintro ⟨H19, HW⟩
  sl_exec
  sl_step
  isplitr
  · ipureintro; rfl
  isplitl [H19]; · iexact H19
  iexists _; iexact HW

/-- What trip `k` of the up loop stores: the activated gate block times the up block. -/
def upBlk (c : Dev nD) (v118 v247 v288 : FVec F S24x1 .f32) (xi : HBuf (F := F) c a18) (su : HBuf (F := F) c a16) (ff : HBuf (F := F) c a19) (g : HBuf (F := F) c a13) (k : Fin k0_t3_loop.trips) :=
  k0_pay50 (k0_pay4 v118 (rd c a18 xi ![0, 0] S24x2048.size inb_S24x2048_S24x2048_0_0) (rd c a13 g (k0_off9 k) S1x1024x2048.size (k0_off9_inb k)) (rd c a16 su (k0_off10 k) S1x2048.size (k0_off10_inb k)))
    (k0_pay5 (k0_pay47 v247 v288) (rd c a19 ff (k0_off11 k) S24x2048.size (k0_off11_inb k)))
def upAcc (c : Dev nD) (v118 v247 v288 : FVec F S24x1 .f32) (xi : HBuf (F := F) c a18) (su : HBuf (F := F) c a16) (ff : HBuf (F := F) c a19) (g : HBuf (F := F) c a13) (k : Fin k0_t3_loop.trips) (acc : FVec F S24x1 .f32) :=
  k0_pay51 acc (k0_pay4 v118 (rd c a18 xi ![0, 0] S24x2048.size inb_S24x2048_S24x2048_0_0) (rd c a13 g (k0_off9 k) S1x1024x2048.size (k0_off9_inb k)) (rd c a16 su (k0_off10 k) S1x2048.size (k0_off10_inb k)))
    (k0_pay5 (k0_pay47 v247 v288) (rd c a19 ff (k0_off11 k) S24x2048.size (k0_off11_inb k)))
def upStep (c : Dev nD) (v118 v247 v288 : FVec F S24x1 .f32) (xi : HBuf (F := F) c a18) (su : HBuf (F := F) c a16) (g : HBuf (F := F) c a13) (k : Fin k0_t3_loop.trips) (ff : HBuf (F := F) c a19) : HBuf (F := F) c a19 :=
  a19.view.writes (Elt F) ff [⟨Rect.unit (k0_off11 k) S24x2048.size (k0_off11_inb k), upBlk c v118 v247 v288 xi su ff g k⟩]

theorem trip3 (c : Dev nD) (a0 : Memref sig .tc .vmem S24x2048 .f32) (ha0 : a0.IsWhole) (v118 v247 v288 : FVec F S24x1 .f32)
    (xi : HBuf (F := F) c a18) (su : HBuf (F := F) c a16) (ff : HBuf (F := F) c a19) (g : HBuf (F := F) c a13)
    (S : Finset (Idx (a3.view.loc (c : Thread nD τ)))) (f : HBuf (F := F) c a3)
    (k : Fin k0_t3_loop.trips) (acc : FVec F S24x1 .f32) (W : Waits sig Unit) :
    iprop(hPt c a18 xi ∗ hPt c a16 su ∗ hPt c a19 ff
      ∗ Transfers.Flight countersEmb (c : Thread nD τ) (wsemO (k0_off7 k) (k0_off7_inb k)) default 65536
          iprop(slotPt c (k0_off8 k) (k0_off8_inb k) g ∗ a3.view.loc (c : Thread nD τ) ↦[S]{fullShare} f)
      ∗ owes (c : Thread nD τ) 0 W)
    ⊢ wp frame (wpE (defs₀ (F := F)) Variants.none c none) Set.univ (k0_t3_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 k acc)
      fun r => iprop(⌜r = upAcc c v118 v247 v288 xi su ff g k acc⌝ ∗ hPt c a18 xi ∗ hPt c a16 su ∗ hPt c a19 (upStep c v118 v247 v288 xi su g k ff)
        ∗ (semVal ((c : Thread nD τ), wsemO (k0_off7 k) (k0_off7_inb k)) 0 ∗ slotPt c (k0_off8 k) (k0_off8_inb k) g ∗ a3.view.loc (c : Thread nD τ) ↦[S]{fullShare} f)
        ∗ ∃ W', owes (c : Thread nD τ) 0 W') := by
  have hk : k.val < 8 := Nat.lt_of_lt_of_le k.isLt k0_t3_abs.2.1
  unfold k0_t3_body
  iintro ⟨H18, H16, H19, HF, HW⟩
  sl_exec
  sl_step
  isplitr
  · ipureintro; rfl
  unfold upStep upBlk
  isplitl [H18]; · iexact H18
  isplitl [H16]; · iexact H16
  isplitl [H19]; · iexact H19
  isplitl [HF HF_dst HF_src]
  · isplitl [HF]; · iexact HF
    isplitl [HF_dst]; · iexact HF_dst
    iexact HF_src
  iexists _; iexact HW

/-! The down loop's trip: two blocks of 1024 hidden columns quantised (the columns `1024 k …` and `8192 + 1024 k …`), stored
    as int8, interleaved by a product with a permutation matrix into `a20`, multiplied with the down weights of slot `k` and
    added to the accumulator. -/
def loQ (c : Dev nD) (v295 : FVec F S24x1 .f32) (ff : HBuf (F := F) c a19) (k : Fin k0_t4_loop.trips) : FVec F S24x1024 .f32 :=
  k0_pay6 (k0_pay52 v295) (rd c a19 ff (k0_off12 k 0#32) S24x1024.size (k0_off12_inb k 0))
def hiQ (c : Dev nD) (v295 : FVec F S24x1 .f32) (ff : HBuf (F := F) c a19) (k : Fin k0_t4_loop.trips) : FVec F S24x1024 .f32 :=
  k0_pay8 (k0_pay52 v295) (rd c a19 ff (k0_off12 k 8192#32) S24x1024.size (k0_off12_inb k 1))
def lo128 (c : Dev nD) (v295 : FVec F S24x1 .f32) (ff : HBuf (F := F) c a19) (k : Fin k0_t4_loop.trips) : FVec F S24x128 .f32 :=
  k0_pay10 (k0_pay52 v295) (rd c a19 ff (k0_off12 k 0#32) S24x1024.size (k0_off12_inb k 0))
def perm (c : Dev nD) (v295 : FVec F S24x1 .f32) (ff : HBuf (F := F) c a19) (k : Fin k0_t4_loop.trips) : FVec F S192x256 .f32 :=
  k0_pay11 (loQ c v295 ff k) (hiQ c v295 ff k) (lo128 c v295 ff k)
def hiParts (c : Dev nD) (v295 : FVec F S24x1 .f32) (ff : HBuf (F := F) c a19) (k : Fin k0_t4_loop.trips) : List (View.Piece (Elt F) S24x2048 .bf16) :=
  [⟨Rect.unit ![0, 1792] S24x256.size inb_S24x2048_S24x256_0_1792, k0_pay20 (perm c v295 ff k)⟩,
   ⟨Rect.unit ![0, 1536] S24x256.size inb_S24x2048_S24x256_0_1536, k0_pay19 (perm c v295 ff k)⟩,
   ⟨Rect.unit ![0, 1280] S24x256.size inb_S24x2048_S24x256_0_1280, k0_pay18 (perm c v295 ff k)⟩,
   ⟨Rect.unit ![0, 1024] S24x256.size inb_S24x2048_S24x256_0_1024, k0_pay17 (perm c v295 ff k)⟩,
   ⟨Rect.unit ![0, 768] S24x256.size inb_S24x2048_S24x256_0_768, k0_pay16 (perm c v295 ff k)⟩,
   ⟨Rect.unit ![0, 512] S24x256.size inb_S24x2048_S24x256_0_512, k0_pay15 (perm c v295 ff k)⟩,
   ⟨Rect.unit ![0, 256] S24x256.size inb_S24x2048_S24x256_0_256, k0_pay14 (k0_pay13 (loQ c v295 ff k) (hiQ c v295 ff k) (lo128 c v295 ff k))⟩,
   ⟨Rect.unit ![0, 0] S24x256.size inb_S24x2048_S24x256_0_0, k0_pay12 (loQ c v295 ff k) (hiQ c v295 ff k) (lo128 c v295 ff k)⟩]
def inter (c : Dev nD) (v295 : FVec F S24x1 .f32) (ff : HBuf (F := F) c a19) (k : Fin k0_t4_loop.trips) : Vec F S24x2048 .bf16 :=
  a20.view.readCov (hiParts c v295 ff k) (Rect.unit ![0, 0] S24x2048.size inb_S24x2048_S24x2048_0_0).toLoadRect
def hcStep (c : Dev nD) (v295 : FVec F S24x1 .f32) (ff : HBuf (F := F) c a19) (k : Fin k0_t4_loop.trips) (hc : HBuf (F := F) c a24) : HBuf (F := F) c a24 :=
  a24.view.writes (Elt F) hc
    [⟨Rect.unit (k0_off12 k 8192#32) S24x1024.size (k0_off12_inb k 1), k0_pay9 (k0_pay52 v295) (rd c a19 ff (k0_off12 k 8192#32) S24x1024.size (k0_off12_inb k 1))⟩,
     ⟨Rect.unit (k0_off12 k 0#32) S24x1024.size (k0_off12_inb k 0), k0_pay7 (k0_pay52 v295) (rd c a19 ff (k0_off12 k 0#32) S24x1024.size (k0_off12_inb k 0))⟩]
def faStep (c : Dev nD) (v295 : FVec F S24x1 .f32) (ff : HBuf (F := F) c a19) (g : HBuf (F := F) c a13) (k : Fin k0_t4_loop.trips) (fa : HBuf (F := F) c a21) : HBuf (F := F) c a21 :=
  a21.view.writes (Elt F) fa
    [⟨Rect.unit ![0, 0] S24x2048.size inb_S24x2048_S24x2048_0_0,
      k0_pay21 (rd c a21 fa ![0, 0] S24x2048.size inb_S24x2048_S24x2048_0_0) (inter c v295 ff k) (rd c a13 g (k0_off15 k) S1x1024x2048.size (k0_off15_inb k))⟩]

theorem trip4 (c : Dev nD) (a0 : Memref sig .tc .vmem S24x2048 .f32) (ha0 : a0.IsWhole) (v118 v247 v288 v295 : FVec F S24x1 .f32)
    (hc : HBuf (F := F) c a24) (hi : HBuf (F := F) c a20) (fa : HBuf (F := F) c a21) (ff : HBuf (F := F) c a19) (g : HBuf (F := F) c a13)
    (S : Finset (Idx (a6.view.loc (c : Thread nD τ)))) (f : HBuf (F := F) c a6)
    (k : Fin k0_t4_loop.trips) (acc : Unit) (W : Waits sig Unit) :
    iprop(hPt c a24 hc ∗ hPt c a20 hi ∗ hPt c a21 fa ∗ hPt c a19 ff
      ∗ Transfers.Flight countersEmb (c : Thread nD τ) (wsemO (k0_off13 k) (k0_off13_inb k)) default 65536
          iprop(slotPt c (k0_off14 k) (k0_off14_inb k) g ∗ a6.view.loc (c : Thread nD τ) ↦[S]{fullShare} f)
      ∗ owes (c : Thread nD τ) 0 W)
    ⊢ wp frame (wpE (defs₀ (F := F)) Variants.none c none) Set.univ (k0_t4_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 v295 k acc)
      fun _ => iprop(hPt c a24 (hcStep c v295 ff k hc) ∗ (∃ hi', hPt c a20 hi') ∗ hPt c a21 (faStep c v295 ff g k fa) ∗ hPt c a19 ff
        ∗ (semVal ((c : Thread nD τ), wsemO (k0_off13 k) (k0_off13_inb k)) 0 ∗ slotPt c (k0_off14 k) (k0_off14_inb k) g ∗ a6.view.loc (c : Thread nD τ) ↦[S]{fullShare} f)
        ∗ ∃ W', owes (c : Thread nD τ) 0 W') := by
  have hk : k.val < 8 := Nat.lt_of_lt_of_le k.isLt k0_t4_abs.2.1
  unfold k0_t4_body
  iintro ⟨H24, H20, H21, H19, HF, HW⟩
  sl_exec
  sl_step
  unfold hcStep faStep
  isplitl [H24]; · iexact H24
  isplitl [H20]; · iexists _; iexact H20
  isplitl [H21]; · iexact H21
  isplitl [H19]; · iexact H19
  isplitl [HF HF_dst HF_src]
  · isplitl [HF]; · iexact HF
    isplitl [HF_dst]; · iexact HF_dst
    iexact HF_src
  iexists _; iexact HW

end Cert.KernelIdeal.Hand

end
-- ==== Proof.Ideal.LoopInv.lean ====
module

public import proofs.«01_k».proof.Proof.Ideal.Trips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The four loops, each by its invariant before trip `n` -/

theorem trips1 : k0_t1_loop.trips = 8 := by decide
abbrev tk1 (j : Fin 8) : Fin k0_t1_loop.trips := ⟨j.val, by rw [trips1]; exact j.isLt⟩
theorem trips2 : k0_t2_loop.trips = 8 := by decide
abbrev tk2 (j : Fin 8) : Fin k0_t2_loop.trips := ⟨j.val, by rw [trips2]; exact j.isLt⟩
theorem trips3 : k0_t3_loop.trips = 8 := by decide
abbrev tk3 (j : Fin 8) : Fin k0_t3_loop.trips := ⟨j.val, by rw [trips3]; exact j.isLt⟩
theorem trips4 : k0_t4_loop.trips = 8 := by decide
abbrev tk4 (j : Fin 8) : Fin k0_t4_loop.trips := ⟨j.val, by rw [trips4]; exact j.isLt⟩

/-- A weight copy in flight: its semaphore will hand back the slot of the ring at `g` and the window of the weights it read. -/
abbrev flyAt (c : Dev nD) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) : sProp 𝕄 :=
  Transfers.Flight countersEmb (c : Thread nD τ) (wsemO o1 h1) default 65536 iprop(slotPt c o2 h2 g ∗ P)
/-- The same copy landed and waited for. -/
abbrev landAt (c : Dev nD) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) : sProp 𝕄 :=
  iprop(semVal ((c : Thread nD τ), wsemO o1 h1) 0 ∗ slotPt c o2 h2 g ∗ P)

abbrev fly1 (c : Dev nD) (g : Fin 8 → HBuf (F := F) c a13) (P : Fin 8 → sProp 𝕄) (j : Fin 8) : sProp 𝕄 :=
  flyAt c (k0_off1 (tk1 j)) (k0_off1_inb (tk1 j)) (k0_off2 (tk1 j)) (k0_off2_inb (tk1 j)) (g j) (P j)
abbrev land1 (c : Dev nD) (g : Fin 8 → HBuf (F := F) c a13) (P : Fin 8 → sProp 𝕄) (j : Fin 8) : sProp 𝕄 :=
  landAt c (k0_off1 (tk1 j)) (k0_off1_inb (tk1 j)) (k0_off2 (tk1 j)) (k0_off2_inb (tk1 j)) (g j) (P j)
abbrev fly3 (c : Dev nD) (g : Fin 8 → HBuf (F := F) c a13) (P : Fin 8 → sProp 𝕄) (j : Fin 8) : sProp 𝕄 :=
  flyAt c (k0_off7 (tk3 j)) (k0_off7_inb (tk3 j)) (k0_off8 (tk3 j)) (k0_off8_inb (tk3 j)) (g j) (P j)
abbrev land3 (c : Dev nD) (g : Fin 8 → HBuf (F := F) c a13) (P : Fin 8 → sProp 𝕄) (j : Fin 8) : sProp 𝕄 :=
  landAt c (k0_off7 (tk3 j)) (k0_off7_inb (tk3 j)) (k0_off8 (tk3 j)) (k0_off8_inb (tk3 j)) (g j) (P j)
abbrev fly4 (c : Dev nD) (g : Fin 8 → HBuf (F := F) c a13) (P : Fin 8 → sProp 𝕄) (j : Fin 8) : sProp 𝕄 :=
  flyAt c (k0_off13 (tk4 j)) (k0_off13_inb (tk4 j)) (k0_off14 (tk4 j)) (k0_off14_inb (tk4 j)) (g j) (P j)
abbrev land4 (c : Dev nD) (g : Fin 8 → HBuf (F := F) c a13) (P : Fin 8 → sProp 𝕄) (j : Fin 8) : sProp 𝕄 :=
  landAt c (k0_off13 (tk4 j)) (k0_off13_inb (tk4 j)) (k0_off14 (tk4 j)) (k0_off14_inb (tk4 j)) (g j) (P j)

section Gate
variable (c : Dev nD) (v118 : FVec F S24x1 .f32) (xi : HBuf (F := F) c a18) (sg : HBuf (F := F) c a15) (g : Fin 8 → HBuf (F := F) c a13)

/-- The gate rows before trip `n`. -/
def gateFF (ff0 : HBuf (F := F) c a19) : ℕ → HBuf (F := F) c a19
  | 0 => ff0
  | n + 1 => if h : n < 8 then gateStep c v118 xi sg (g ⟨n, h⟩) (tk1 ⟨n, h⟩) (gateFF ff0 n) else gateFF ff0 n
/-- The row sums of the gate blocks before trip `n`. -/
def gateAcc : ℕ → FVec F S24x1 .f32
  | 0 => k0_pay41
  | n + 1 => if h : n < 8 then k0_pay42 (gateAcc n) (gateBlk c v118 xi sg (g ⟨n, h⟩) (tk1 ⟨n, h⟩)) else gateAcc n

def inv1 (ff0 : HBuf (F := F) c a19) (S : Fin 8 → Finset (Idx (a2.view.loc (c : Thread nD τ)))) (f : HBuf (F := F) c a2) (n : ℕ) (acc : FVec F S24x1 .f32) : sProp 𝕄 :=
  iprop(⌜acc = gateAcc c v118 xi sg g n⌝ ∗ hPt c a18 xi ∗ hPt c a15 sg ∗ hPt c a19 (gateFF c v118 xi sg g ff0 n)
    ∗ bigSep (Ring.rangeSet 8 n 8) (fly1 c g fun j => a2.view.loc (c : Thread nD τ) ↦[S j]{fullShare} f)
    ∗ bigSep (Ring.rangeSet 8 0 n) (land1 c g fun j => a2.view.loc (c : Thread nD τ) ↦[S j]{fullShare} f)
    ∗ ∃ W', owes (c : Thread nD τ) 0 W')

theorem region1 (a0 : Memref sig .tc .vmem S24x2048 .f32) (ha0 : a0.IsWhole)
    (ff0 : HBuf (F := F) c a19) (S : Fin 8 → Finset (Idx (a2.view.loc (c : Thread nD τ)))) (f : HBuf (F := F) c a2) (k : Fin k0_t1_loop.trips) (acc : FVec F S24x1 .f32) :
    inv1 c v118 xi sg g ff0 S f k.val acc
    ⊢ wp frame (wpE (defs₀ (F := F)) Variants.none c none) Set.univ (k0_t1_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 k acc)
        fun r => inv1 c v118 xi sg g ff0 S f (k.val + 1) r := by
  have hk : k.val < 8 := Nat.lt_of_lt_of_le k.isLt k0_t1_abs.2.1
  unfold inv1
  rw [Ring.bigSep_rangeSet_head (NB := 8) hk hk, Ring.bigSep_rangeSet_last (NB := 8) (lo := 0) (hi := k.val + 1) (Nat.succ_pos _) (by omega)]
  iintro ⟨%ha, H18, H15, H19, ⟨HF, Hfly⟩, Hland, %W', HW⟩
  iapply (wp_wand_r Idealize.ShloMosaic.frame (wpE (defs₀ (F := F)) Variants.none c none) Set.univ)
  isplitl [H18 H15 H19 HF HW]
  · iapply (trip1 c a0 ha0 v118 xi sg (gateFF c v118 xi sg g ff0 k.val) (g ⟨k.val, hk⟩) (S ⟨k.val, hk⟩) f k acc W')
    isplitl [H18]; · iexact H18
    isplitl [H15]; · iexact H15
    isplitl [H19]; · iexact H19
    isplitl [HF]; · iexact HF
    iexact HW
  iintro %r ⟨%hr, H18, H15, H19, HL, HW⟩
  isplitr
  · ipureintro; rw [hr, ha]; show _ = dite _ _ _; rw [dif_pos hk]
  isplitl [H18]; · iexact H18
  isplitl [H15]; · iexact H15
  isplitl [H19]
  · rw [show gateFF c v118 xi sg g ff0 (k.val + 1) = gateStep c v118 xi sg (g ⟨k.val, hk⟩) k (gateFF c v118 xi sg g ff0 k.val) from dif_pos hk]
    iexact H19
  isplitl [Hfly]; · iexact Hfly
  isplitl [Hland HL]
  · isplitl [HL]; · iexact HL
    iexact Hland
  iexact HW

end Gate

section Var
variable (c : Dev nD) (v247 : FVec F S24x1 .f32) (ff : HBuf (F := F) c a19)
/-- The row sums of the squared deviations before trip `n`. -/
def varAcc : ℕ → FVec F S24x1 .f32
  | 0 => k0_pay44
  | n + 1 => if h : n < 8 then k0_pay45 v247 (varAcc n) (rd c a19 ff (k0_off6 (tk2 ⟨n, h⟩)) S24x2048.size (k0_off6_inb (tk2 ⟨n, h⟩))) else varAcc n

def inv2 (n : ℕ) (acc : FVec F S24x1 .f32) : sProp 𝕄 :=
  iprop(⌜acc = varAcc c v247 ff n⌝ ∗ hPt c a19 ff ∗ ∃ W', owes (c : Thread nD τ) 0 W')

theorem region2 (a0 : Memref sig .tc .vmem S24x2048 .f32) (ha0 : a0.IsWhole) (k : Fin k0_t2_loop.trips) (acc : FVec F S24x1 .f32) :
    inv2 c v247 ff k.val acc
    ⊢ wp frame (wpE (defs₀ (F := F)) Variants.none c none) Set.univ (k0_t2_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v247 k acc)
        fun r => inv2 c v247 ff (k.val + 1) r := by
  have hk : k.val < 8 := Nat.lt_of_lt_of_le k.isLt k0_t2_abs.2.1
  unfold inv2
  iintro ⟨%ha, H19, %W', HW⟩
  iapply (wp_wand_r Idealize.ShloMosaic.frame (wpE (defs₀ (F := F)) Variants.none c none) Set.univ)
  isplitl [H19 HW]
  · iapply (trip2 c a0 ha0 v247 ff k acc W')
    isplitl [H19]; · iexact H19
    iexact HW
  iintro %r ⟨%hr, H19, HW⟩
  isplitr
  · ipureintro; rw [hr, ha]; show _ = dite _ _ _; rw [dif_pos hk]
  isplitl [H19]; · iexact H19
  iexact HW

end Var

section Up
variable (c : Dev nD) (v118 v247 v288 : FVec F S24x1 .f32) (xi : HBuf (F := F) c a18) (su : HBuf (F := F) c a16) (g : Fin 8 → HBuf (F := F) c a13)

/-- The hidden rows (activated gate times up) before trip `n`; -/
def upFF (ff0 : HBuf (F := F) c a19) : ℕ → HBuf (F := F) c a19
  | 0 => ff0
  | n + 1 => if h : n < 8 then upStep c v118 v247 v288 xi su (g ⟨n, h⟩) (tk3 ⟨n, h⟩) (upFF ff0 n) else upFF ff0 n
/-- the running row maxima of their magnitudes. -/
def upMax (ff0 : HBuf (F := F) c a19) : ℕ → FVec F S24x1 .f32
  | 0 => k0_pay48
  | n + 1 => if h : n < 8 then upAcc c v118 v247 v288 xi su (upFF c v118 v247 v288 xi su g ff0 n) (g ⟨n, h⟩) (tk3 ⟨n, h⟩) (upMax ff0 n) else upMax ff0 n

def inv3 (ff0 : HBuf (F := F) c a19) (S : Fin 8 → Finset (Idx (a3.view.loc (c : Thread nD τ)))) (f : HBuf (F := F) c a3) (n : ℕ) (acc : FVec F S24x1 .f32) : sProp 𝕄 :=
  iprop(⌜acc = upMax c v118 v247 v288 xi su g ff0 n⌝ ∗ hPt c a18 xi ∗ hPt c a16 su ∗ hPt c a19 (upFF c v118 v247 v288 xi su g ff0 n)
    ∗ bigSep (Ring.rangeSet 8 n 8) (fly3 c g fun j => a3.view.loc (c : Thread nD τ) ↦[S j]{fullShare} f)
    ∗ bigSep (Ring.rangeSet 8 0 n) (land3 c g fun j => a3.view.loc (c : Thread nD τ) ↦[S j]{fullShare} f)
    ∗ ∃ W', owes (c : Thread nD τ) 0 W')

theorem region3 (a0 : Memref sig .tc .vmem S24x2048 .f32) (ha0 : a0.IsWhole)
    (ff0 : HBuf (F := F) c a19) (S : Fin 8 → Finset (Idx (a3.view.loc (c : Thread nD τ)))) (f : HBuf (F := F) c a3) (k : Fin k0_t3_loop.trips) (acc : FVec F S24x1 .f32) :
    inv3 c v118 v247 v288 xi su g ff0 S f k.val acc
    ⊢ wp frame (wpE (defs₀ (F := F)) Variants.none c none) Set.univ (k0_t3_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 k acc)
        fun r => inv3 c v118 v247 v288 xi su g ff0 S f (k.val + 1) r := by
  have hk : k.val < 8 := Nat.lt_of_lt_of_le k.isLt k0_t3_abs.2.1
  unfold inv3
  rw [Ring.bigSep_rangeSet_head (NB := 8) hk hk, Ring.bigSep_rangeSet_last (NB := 8) (lo := 0) (hi := k.val + 1) (Nat.succ_pos _) (by omega)]
  iintro ⟨%ha, H18, H16, H19, ⟨HF, Hfly⟩, Hland, %W', HW⟩
  iapply (wp_wand_r Idealize.ShloMosaic.frame (wpE (defs₀ (F := F)) Variants.none c none) Set.univ)
  isplitl [H18 H16 H19 HF HW]
  · iapply (trip3 c a0 ha0 v118 v247 v288 xi su (upFF c v118 v247 v288 xi su g ff0 k.val) (g ⟨k.val, hk⟩) (S ⟨k.val, hk⟩) f k acc W')
    isplitl [H18]; · iexact H18
    isplitl [H16]; · iexact H16
    isplitl [H19]; · iexact H19
    isplitl [HF]; · iexact HF
    iexact HW
  iintro %r ⟨%hr, H18, H16, H19, HL, HW⟩
  isplitr
  · ipureintro; rw [hr, ha]; show _ = dite _ _ _; rw [dif_pos hk]
  isplitl [H18]; · iexact H18
  isplitl [H16]; · iexact H16
  isplitl [H19]
  · rw [show upFF c v118 v247 v288 xi su g ff0 (k.val + 1) = upStep c v118 v247 v288 xi su (g ⟨k.val, hk⟩) k (upFF c v118 v247 v288 xi su g ff0 k.val) from dif_pos hk]
    iexact H19
  isplitl [Hfly]; · iexact Hfly
  isplitl [Hland HL]
  · isplitl [HL]; · iexact HL
    iexact Hland
  iexact HW

end Up

section Down
variable (c : Dev nD) (v295 : FVec F S24x1 .f32) (ff : HBuf (F := F) c a19) (g : Fin 8 → HBuf (F := F) c a13)

/-- The hidden int8 rows before trip `n`; -/
def hcAt (hc0 : HBuf (F := F) c a24) : ℕ → HBuf (F := F) c a24
  | 0 => hc0
  | n + 1 => if h : n < 8 then hcStep c v295 ff (tk4 ⟨n, h⟩) (hcAt hc0 n) else hcAt hc0 n
/-- the accumulator of the down product. -/
def faAt (fa0 : HBuf (F := F) c a21) : ℕ → HBuf (F := F) c a21
  | 0 => fa0
  | n + 1 => if h : n < 8 then faStep c v295 ff (g ⟨n, h⟩) (tk4 ⟨n, h⟩) (faAt fa0 n) else faAt fa0 n

def inv4 (hc0 : HBuf (F := F) c a24) (fa0 : HBuf (F := F) c a21) (S : Fin 8 → Finset (Idx (a6.view.loc (c : Thread nD τ)))) (f : HBuf (F := F) c a6) (n : ℕ) (_ : Unit) : sProp 𝕄 :=
  iprop(hPt c a24 (hcAt c v295 ff hc0 n) ∗ (∃ hi, hPt c a20 hi) ∗ hPt c a21 (faAt c v295 ff g fa0 n) ∗ hPt c a19 ff
    ∗ bigSep (Ring.rangeSet 8 n 8) (fly4 c g fun j => a6.view.loc (c : Thread nD τ) ↦[S j]{fullShare} f)
    ∗ bigSep (Ring.rangeSet 8 0 n) (land4 c g fun j => a6.view.loc (c : Thread nD τ) ↦[S j]{fullShare} f)
    ∗ ∃ W', owes (c : Thread nD τ) 0 W')

theorem region4 (a0 : Memref sig .tc .vmem S24x2048 .f32) (ha0 : a0.IsWhole) (v118 v247 v288 : FVec F S24x1 .f32)
    (hc0 : HBuf (F := F) c a24) (fa0 : HBuf (F := F) c a21) (S : Fin 8 → Finset (Idx (a6.view.loc (c : Thread nD τ)))) (f : HBuf (F := F) c a6) (k : Fin k0_t4_loop.trips) (acc : Unit) :
    inv4 c v295 ff g hc0 fa0 S f k.val acc
    ⊢ wp frame (wpE (defs₀ (F := F)) Variants.none c none) Set.univ (k0_t4_body a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16 v118 v247 v288 v295 k acc)
        fun r => inv4 c v295 ff g hc0 fa0 S f (k.val + 1) r := by
  have hk : k.val < 8 := Nat.lt_of_lt_of_le k.isLt k0_t4_abs.2.1
  unfold inv4
  rw [Ring.bigSep_rangeSet_head (NB := 8) hk hk, Ring.bigSep_rangeSet_last (NB := 8) (lo := 0) (hi := k.val + 1) (Nat.succ_pos _) (by omega)]
  iintro ⟨H24, ⟨%hi, H20⟩, H21, H19, ⟨HF, Hfly⟩, Hland, %W', HW⟩
  iapply (wp_wand_r Idealize.ShloMosaic.frame (wpE (defs₀ (F := F)) Variants.none c none) Set.univ)
  isplitl [H24 H20 H21 H19 HF HW]
  · iapply (trip4 c a0 ha0 v118 v247 v288 v295 (hcAt c v295 ff hc0 k.val) hi (faAt c v295 ff g fa0 k.val) ff (g ⟨k.val, hk⟩) (S ⟨k.val, hk⟩) f k acc W')
    isplitl [H24]; · iexact H24
    isplitl [H20]; · iexact H20
    isplitl [H21]; · iexact H21
    isplitl [H19]; · iexact H19
    isplitl [HF]; · iexact HF
    iexact HW
  iintro %r ⟨H24, H20, H21, H19, HL, HW⟩
  isplitl [H24]
  · rw [show hcAt c v295 ff hc0 (k.val + 1) = hcStep c v295 ff k (hcAt c v295 ff hc0 k.val) from dif_pos hk]
    iexact H24
  isplitl [H20]; · iexact H20
  isplitl [H21]
  · rw [show faAt c v295 ff g fa0 (k.val + 1) = faStep c v295 ff (g ⟨k.val, hk⟩) k (faAt c v295 ff g fa0 k.val) from dif_pos hk]
    iexact H21
  isplitl [H19]; · iexact H19
  isplitl [Hfly]; · iexact Hfly
  isplitl [Hland HL]
  · isplitl [HL]; · iexact HL
    iexact Hland
  iexact HW

end Down

end Cert.KernelIdeal.Hand

end
-- ==== Proof.Ideal.Slots.lean ====
module

public import proofs.«01_k».proof.Proof.Ideal.LoopInv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The kernel body, run as one triple -/

abbrev win2 (o : Fin 2 → ℕ) (h : ∀ a, o a + S1024x2048.size a ≤ S1024x16384.size a) : Memref sig .tc .hbm S1024x2048 .i8 :=
  a2.slice (Rect.unit (s := S1024x16384) o S1024x2048.size h) (fun _ => rfl)
abbrev win3 (o : Fin 2 → ℕ) (h : ∀ a, o a + S1024x2048.size a ≤ S1024x16384.size a) : Memref sig .tc .hbm S1024x2048 .i8 :=
  a3.slice (Rect.unit (s := S1024x16384) o S1024x2048.size h) (fun _ => rfl)
abbrev win6 (o : Fin 2 → ℕ) (h : ∀ a, o a + S1024x2048.size a ≤ S8192x2048.size a) : Memref sig .tc .hbm S1024x2048 .i8 :=
  a6.slice (Rect.unit (s := S8192x2048) o S1024x2048.size h) (fun _ => rfl)
abbrev w2Pt (c : Dev nD) (o : Fin 2 → ℕ) (h : ∀ a, o a + S1024x2048.size a ≤ S1024x16384.size a) (x : HBuf (F := F) c a2) : sProp 𝕄 :=
  (win2 o h).view.loc (c : Thread nD τ) ↦[(win2 o h).view.set]{fullShare} x
abbrev w3Pt (c : Dev nD) (o : Fin 2 → ℕ) (h : ∀ a, o a + S1024x2048.size a ≤ S1024x16384.size a) (x : HBuf (F := F) c a3) : sProp 𝕄 :=
  (win3 o h).view.loc (c : Thread nD τ) ↦[(win3 o h).view.set]{fullShare} x
abbrev w6Pt (c : Dev nD) (o : Fin 2 → ℕ) (h : ∀ a, o a + S1024x2048.size a ≤ S8192x2048.size a) (x : HBuf (F := F) c a6) : sProp 𝕄 :=
  (win6 o h).view.loc (c : Thread nD τ) ↦[(win6 o h).view.set]{fullShare} x

/-- The semaphore of slot `s` is DMA semaphore `1 + s` of the core's pool. -/
theorem wsem_eq : ∀ s : Fin 18, wsemO ![s.val] (fun a => by fin_cases a; simp; omega) = SemLoc.dma (⟨1 + s.val, by omega⟩ : Fin 28) := by decide

abbrev flyS (c : Dev nD) (s : ℕ) (hs : s < 18) (g : HBuf (F := F) c a13) (P : sProp 𝕄) : sProp 𝕄 :=
  Transfers.Flight countersEmb (c : Thread nD τ) (SemLoc.dma (⟨1 + s, by omega⟩ : Fin 28)) default 65536 iprop(slotPt c ![s, 0, 0] (inbSlot s hs) g ∗ P)
abbrev landS (c : Dev nD) (s : ℕ) (hs : s < 18) (g : HBuf (F := F) c a13) (P : sProp 𝕄) : sProp 𝕄 :=
  iprop(semVal ((c : Thread nD τ), SemLoc.dma (⟨1 + s, by omega⟩ : Fin 28)) 0 ∗ slotPt c ![s, 0, 0] (inbSlot s hs) g ∗ P)

theorem flyAt_eq (c : Dev nD) (s : ℕ) (hs : s < 18) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) (e1 : o1 = ![s]) (e2 : o2 = ![s, 0, 0]) : flyAt c o1 h1 o2 h2 g P = flyS c s hs g P := by
  subst e1 e2; unfold flyAt flyS; rw [wsem_eq ⟨s, hs⟩]
theorem landAt_eq (c : Dev nD) (s : ℕ) (hs : s < 18) (o1 : Fin 1 → ℕ) (h1 : ∀ a, o1 a + S1.size a ≤ S18.size a) (o2 : Fin 3 → ℕ) (h2 : ∀ a, o2 a + S1x1024x2048.size a ≤ S18x1024x2048.size a)
    (g : HBuf (F := F) c a13) (P : sProp 𝕄) (e1 : o1 = ![s]) (e2 : o2 = ![s, 0, 0]) : landAt c o1 h1 o2 h2 g P = landS c s hs g P := by
  subst e1 e2; unfold landAt landS; rw [wsem_eq ⟨s, hs⟩]

theorem off1_lit : ∀ j : Fin 8, k0_off1 (tk1 j) = ![2 + j.val] := by decide +kernel
theorem off2_lit : ∀ j : Fin 8, k0_off2 (tk1 j) = ![2 + j.val, 0, 0] := by decide +kernel
theorem off7_lit : ∀ j : Fin 8, k0_off7 (tk3 j) = ![10 + j.val] := by decide +kernel
theorem off8_lit : ∀ j : Fin 8, k0_off8 (tk3 j) = ![10 + j.val, 0, 0] := by decide +kernel
theorem off13_lit : ∀ j : Fin 8, k0_off13 (tk4 j) = ![0 + j.val] := by decide +kernel
theorem off14_lit : ∀ j : Fin 8, k0_off14 (tk4 j) = ![0 + j.val, 0, 0] := by decide +kernel

theorem bigSep8 (Φ : Fin 8 → sProp 𝕄) : bigSep (Ring.rangeSet 8 0 8) Φ = iprop(Φ 0 ∗ Φ 1 ∗ Φ 2 ∗ Φ 3 ∗ Φ 4 ∗ Φ 5 ∗ Φ 6 ∗ Φ 7) := by
  rw [Ring.rangeSet_univ]
  exact bigSep_univ_eq_bigSepL [0, 1, 2, 3, 4, 5, 6, 7] (by decide) (by decide) Φ

theorem fly1_eq (c : Dev nD) (g : Fin 8 → HBuf (F := F) c a13) (P : Fin 8 → sProp 𝕄) (j : Fin 8) :
    fly1 c g P j = flyS c (2 + j.val) (by omega) (g j) (P j) :=
  flyAt_eq c _ _ _ _ _ _ _ _ (off1_lit j) (off2_lit j)
theorem fly1_all (c : Dev nD) (g : Fin 8 → HBuf (F := F) c a13) (P : Fin 8 → sProp 𝕄) :
    bigSep (Ring.rangeSet 8 0 8) (fly1 c g P) = iprop(flyS c (2) (by decide) (g 0) (P 0) ∗ flyS c (3) (by decide) (g 1) (P 1) ∗ flyS c (4) (by decide) (g 2) (P 2) ∗ flyS c (5) (by decide) (g 3) (P 3) ∗ flyS c (6) (by decide) (g 4) (P 4) ∗ flyS c (7) (by decide) (g 5) (P 5) ∗ flyS c (8) (by decide) (g 6) (P 6) ∗ flyS c (9) (by decide) (g 7) (P 7)) := by
  rw [show fly1 c g P = fun j => flyS c (2 + j.val) (by omega) (g j) (P j) from funext fun j => fly1_eq c g P j, bigSep8]
  rfl
theorem land1_eq (c : Dev nD) (g : Fin 8 → HBuf (F := F) c a13) (P : Fin 8 → sProp 𝕄) (j : Fin 8) :
    land1 c g P j = landS c (2 + j.val) (by omega) (g j) (P j) :=
  landAt_eq c _ _ _ _ _ _ _ _ (off1_lit j) (off2_lit j)
theorem land1_all (c : Dev nD) (g : Fin 8 → HBuf (F := F) c a13) (P : Fin 8 → sProp 𝕄) :
    bigSep (Ring.rangeSet 8 0 8) (land1 c g P) = iprop(landS c (2) (by decide) (g 0) (P 0) ∗ landS c (3) (by decide) (g 1) (P 1) ∗ landS c (4) (by decide) (g 2) (P 2) ∗ landS c (5) (by decide) (g 3) (P 3) ∗ landS c (6) (by decide) (g 4) (P 4) ∗ landS c (7) (by decide) (g 5) (P 5) ∗ landS c (8) (by decide) (g 6) (P 6) ∗ landS c (9) (by decide) (g 7) (P 7)) := by
  rw [show land1 c g P = fun j => landS c (2 + j.val) (by omega) (g j) (P j) from funext fun j => land1_eq c g P j, bigSep8]
  rfl
theorem fly3_eq (c : Dev nD) (g : Fin 8 → HBuf (F := F) c a13) (P : Fin 8 → sProp 𝕄) (j : Fin 8) :
    fly3 c g P j = flyS c (10 + j.val) (by omega) (g j) (P j) :=
  flyAt_eq c _ _ _ _ _ _ _ _ (off7_lit j) (off8_lit j)
theorem fly3_all (c : Dev nD) (g : Fin 8 → HBuf (F := F) c a13) (P : Fin 8 → sProp 𝕄) :
    bigSep (Ring.rangeSet 8 0 8) (fly3 c g P) = iprop(flyS c (10) (by decide) (g 0) (P 0) ∗ flyS c (11) (by decide) (g 1) (P 1) ∗ flyS c (12) (by decide) (g 2) (P 2) ∗ flyS c (13) (by decide) (g 3) (P 3) ∗ flyS c (14) (by decide) (g 4) (P 4) ∗ flyS c (15) (by decide) (g 5) (P 5) ∗ flyS c (16) (by decide) (g 6) (P 6) ∗ flyS c (17) (by decide) (g 7) (P 7)) := by
  rw [show fly3 c g P = fun j => flyS c (10 + j.val) (by omega) (g j) (P j) from funext fun j => fly3_eq c g P j, bigSep8]
  rfl
theorem land3_eq (c : Dev nD) (g : Fin 8 → HBuf (F := F) c a13) (P : Fin 8 → sProp 𝕄) (j : Fin 8) :
    land3 c g P j = landS c (10 + j.val) (by omega) (g j) (P j) :=
  landAt_eq c _ _ _ _ _ _ _ _ (off7_lit j) (off8_lit j)
theorem land3_all (c : Dev nD) (g : Fin 8 → HBuf (F := F) c a13) (P : Fin 8 → sProp 𝕄) :
    bigSep (Ring.rangeSet 8 0 8) (land3 c g P) = iprop(landS c (10) (by decide) (g 0) (P 0) ∗ landS c (11) (by decide) (g 1) (P 1) ∗ landS c (12) (by decide) (g 2) (P 2) ∗ landS c (13) (by decide) (g 3) (P 3) ∗ landS c (14) (by decide) (g 4) (P 4) ∗ landS c (15) (by decide) (g 5) (P 5) ∗ landS c (16) (by decide) (g 6) (P 6) ∗ landS c (17) (by decide) (g 7) (P 7)) := by
  rw [show land3 c g P = fun j => landS c (10 + j.val) (by omega) (g j) (P j) from funext fun j => land3_eq c g P j, bigSep8]
  rfl
theorem fly4_eq (c : Dev nD) (g : Fin 8 → HBuf (F := F) c a13) (P : Fin 8 → sProp 𝕄) (j : Fin 8) :
    fly4 c g P j = flyS c (0 + j.val) (by omega) (g j) (P j) :=
  flyAt_eq c _ _ _ _ _ _ _ _ (off13_lit j) (off14_lit j)
theorem fly4_all (c : Dev nD) (g : Fin 8 → HBuf (F := F) c a13) (P : Fin 8 → sProp 𝕄) :
    bigSep (Ring.rangeSet 8 0 8) (fly4 c g P) = iprop(flyS c (0) (by decide) (g 0) (P 0) ∗ flyS c (1) (by decide) (g 1) (P 1) ∗ flyS c (2) (by decide) (g 2) (P 2) ∗ flyS c (3) (by decide) (g 3) (P 3) ∗ flyS c (4) (by decide) (g 4) (P 4) ∗ flyS c (5) (by decide) (g 5) (P 5) ∗ flyS c (6) (by decide) (g 6) (P 6) ∗ flyS c (7) (by decide) (g 7) (P 7)) := by
  rw [show fly4 c g P = fun j => flyS c (0 + j.val) (by omega) (g j) (P j) from funext fun j => fly4_eq c g P j, bigSep8]
  rfl
theorem land4_eq (c : Dev nD) (g : Fin 8 → HBuf (F := F) c a13) (P : Fin 8 → sProp 𝕄) (j : Fin 8) :
    land4 c g P j = landS c (0 + j.val) (by omega) (g j) (P j) :=
  landAt_eq c _ _ _ _ _ _ _ _ (off13_lit j) (off14_lit j)
theorem land4_all (c : Dev nD) (g : Fin 8 → HBuf (F := F) c a13) (P : Fin 8 → sProp 𝕄) :
    bigSep (Ring.rangeSet 8 0 8) (land4 c g P) = iprop(landS c (0) (by decide) (g 0) (P 0) ∗ landS c (1) (by decide) (g 1) (P 1) ∗ landS c (2) (by decide) (g 2) (P 2) ∗ landS c (3) (by decide) (g 3) (P 3) ∗ landS c (4) (by decide) (g 4) (P 4) ∗ landS c (5) (by decide) (g 5) (P 5) ∗ landS c (6) (by decide) (g 6) (P 6) ∗ landS c (7) (by decide) (g 7) (P 7)) := by
  rw [show land4 c g P = fun j => landS c (0 + j.val) (by omega) (g j) (P j) from funext fun j => land4_eq c g P j, bigSep8]
  rfl

theorem inbG : ∀ j : Fin 8, ∀ a, (![0, 2048 * j.val] : Fin 2 → ℕ) a + S1024x2048.size a ≤ S1024x16384.size a := by decide
theorem inbD : ∀ j : Fin 8, ∀ a, (![1024 * j.val, 0] : Fin 2 → ℕ) a + S1024x2048.size a ≤ S8192x2048.size a := by decide

/-- The ring's contents where slot `s` has just received the block `d`. -/
def gotSlot (c : Dev nD) (x : HBuf (F := F) c a13) (s : ℕ) (hs : s < 18) (d : Vec F S1024x2048 .i8) : HBuf (F := F) c a13 :=
  (slotO ![s, 0, 0] (inbSlot s hs)).view.writes (Elt F) x [⟨Rect.whole S1024x2048, d⟩]
def blk2 (c : Dev nD) (x : HBuf (F := F) c a2) (j : Fin 8) : Vec F S1024x2048 .i8 :=
  ReadAs.same.apply ((win2 ![0, 2048 * j.val] (inbG j)).view.read (Elt F) x)
def blk3 (c : Dev nD) (x : HBuf (F := F) c a3) (j : Fin 8) : Vec F S1024x2048 .i8 :=
  ReadAs.same.apply ((win3 ![0, 2048 * j.val] (inbG j)).view.read (Elt F) x)
def blk6 (c : Dev nD) (x : HBuf (F := F) c a6) (j : Fin 8) : Vec F S1024x2048 .i8 :=
  ReadAs.same.apply ((win6 ![1024 * j.val, 0] (inbD j)).view.read (Elt F) x)
def g1 (c : Dev nD) (x13 : HBuf (F := F) c a13) (x2 : HBuf (F := F) c a2) (j : Fin 8) : HBuf (F := F) c a13 :=
  gotSlot c x13 (2 + j.val) (by omega) (blk2 c x2 j)
def g3 (c : Dev nD) (x13 : HBuf (F := F) c a13) (x3 : HBuf (F := F) c a3) (j : Fin 8) : HBuf (F := F) c a13 :=
  gotSlot c x13 (10 + j.val) (by omega) (blk3 c x3 j)

/-- What the kernel reads of `act1`, and of the norm's weights once they have landed. -/
def actRd (c : Dev nD) (a0 : Memref sig .tc .vmem S24x2048 .f32) (x0 : HBuf (F := F) c a0) : Vec F S24x2048 .f32 :=
  rd c a0 x0 ![0, 0] S24x2048.size inb_S24x2048_S24x2048_0_0
def nrmRd (c : Dev nD) (x1 : HBuf (F := F) c a1) (x14 : HBuf (F := F) c a14) : Vec F S1x2048 .f32 :=
  rd c a14 (View.write (Elt F) a14.view x14 (ReadAs.same.apply (View.read (Elt F) a1.view x1)) Finset.univ) ![0, 0] S1x2048.size inb_S1x2048_S1x2048_0_0
/-- The row scale of the int8 quantisation of the normalised rows. -/
def mScale (c : Dev nD) (a0 : Memref sig .tc .vmem S24x2048 .f32) (x0 : HBuf (F := F) c a0) (x1 : HBuf (F := F) c a1) (x14 : HBuf (F := F) c a14) : FVec F S24x1 .f32 :=
  k0_pay24 (actRd c a0 x0) (nrmRd c x1 x14) (k0_pay22 (actRd c a0 x0))
/-- The permuted int8 rows (as bf16), from the four values the permutation product takes. -/
def xiPerm (c : Dev nD) (a0 : Memref sig .tc .vmem S24x2048 .f32) (x0 : HBuf (F := F) c a0) (x1 : HBuf (F := F) c a1) (x14 : HBuf (F := F) c a14) : FVec F S192x256 .f32 :=
  k0_pay32 (k0_pay28 (actRd c a0 x0) (nrmRd c x1 x14) (k0_pay22 (actRd c a0 x0))) (k0_pay29 (actRd c a0 x0) (nrmRd c x1 x14) (k0_pay22 (actRd c a0 x0)))
    (k0_pay30 (actRd c a0 x0) (nrmRd c x1 x14) (k0_pay22 (actRd c a0 x0))) (k0_pay31 (actRd c a0 x0) (nrmRd c x1 x14) (k0_pay22 (actRd c a0 x0)))
def xiParts (c : Dev nD) (a0 : Memref sig .tc .vmem S24x2048 .f32) (x0 : HBuf (F := F) c a0) (x1 : HBuf (F := F) c a1) (x14 : HBuf (F := F) c a14) : List (View.Piece (Elt F) S24x2048 .bf16) :=
  [⟨Rect.unit ![0, 1792] S24x256.size inb_S24x2048_S24x256_0_1792, k0_pay40 (xiPerm c a0 x0 x1 x14)⟩,
   ⟨Rect.unit ![0, 1536] S24x256.size inb_S24x2048_S24x256_0_1536, k0_pay39 (xiPerm c a0 x0 x1 x14)⟩,
   ⟨Rect.unit ![0, 1280] S24x256.size inb_S24x2048_S24x256_0_1280, k0_pay38 (xiPerm c a0 x0 x1 x14)⟩,
   ⟨Rect.unit ![0, 1024] S24x256.size inb_S24x2048_S24x256_0_1024, k0_pay37 (xiPerm c a0 x0 x1 x14)⟩,
   ⟨Rect.unit ![0, 768] S24x256.size inb_S24x2048_S24x256_0_768, k0_pay36 (xiPerm c a0 x0 x1 x14)⟩,
   ⟨Rect.unit ![0, 512] S24x256.size inb_S24x2048_S24x256_0_512, k0_pay35 (xiPerm c a0 x0 x1 x14)⟩,
   ⟨Rect.unit ![0, 256] S24x256.size inb_S24x2048_S24x256_0_256,
     k0_pay34 (k0_pay28 (actRd c a0 x0) (nrmRd c x1 x14) (k0_pay22 (actRd c a0 x0))) (k0_pay29 (actRd c a0 x0) (nrmRd c x1 x14) (k0_pay22 (actRd c a0 x0)))
       (k0_pay30 (actRd c a0 x0) (nrmRd c x1 x14) (k0_pay22 (actRd c a0 x0))) (k0_pay31 (actRd c a0 x0) (nrmRd c x1 x14) (k0_pay22 (actRd c a0 x0)))⟩,
   ⟨Rect.unit ![0, 0] S24x256.size inb_S24x2048_S24x256_0_0,
     k0_pay33 (k0_pay28 (actRd c a0 x0) (nrmRd c x1 x14) (k0_pay22 (actRd c a0 x0))) (k0_pay29 (actRd c a0 x0) (nrmRd c x1 x14) (k0_pay22 (actRd c a0 x0)))
       (k0_pay30 (actRd c a0 x0) (nrmRd c x1 x14) (k0_pay22 (actRd c a0 x0))) (k0_pay31 (actRd c a0 x0) (nrmRd c x1 x14) (k0_pay22 (actRd c a0 x0)))⟩]

def g4 (c : Dev nD) (x13 : HBuf (F := F) c a13) (x2 : HBuf (F := F) c a2) (x6 : HBuf (F := F) c a6) (j : Fin 8) : HBuf (F := F) c a13 :=
  gotSlot c ((![x13, x13, g1 c x13 x2 0, g1 c x13 x2 1, g1 c x13 x2 2, g1 c x13 x2 3, g1 c x13 x2 4, g1 c x13 x2 5] : Fin 8 → HBuf (F := F) c a13) j)
    (0 + j.val) (by omega) (blk6 c x6 j)

/-! The ring's contents when each down block is on its way, one by one. -/
theorem vec8_0 {A : Type} (b0 b1 b2 b3 b4 b5 b6 b7 : A) : (![b0, b1, b2, b3, b4, b5, b6, b7] : Fin 8 → A) 0 = b0 := rfl
theorem vec8_1 {A : Type} (b0 b1 b2 b3 b4 b5 b6 b7 : A) : (![b0, b1, b2, b3, b4, b5, b6, b7] : Fin 8 → A) 1 = b1 := rfl
theorem vec8_2 {A : Type} (b0 b1 b2 b3 b4 b5 b6 b7 : A) : (![b0, b1, b2, b3, b4, b5, b6, b7] : Fin 8 → A) 2 = b2 := rfl
theorem vec8_3 {A : Type} (b0 b1 b2 b3 b4 b5 b6 b7 : A) : (![b0, b1, b2, b3, b4, b5, b6, b7] : Fin 8 → A) 3 = b3 := rfl
theorem vec8_4 {A : Type} (b0 b1 b2 b3 b4 b5 b6 b7 : A) : (![b0, b1, b2, b3, b4, b5, b6, b7] : Fin 8 → A) 4 = b4 := rfl
theorem vec8_5 {A : Type} (b0 b1 b2 b3 b4 b5 b6 b7 : A) : (![b0, b1, b2, b3, b4, b5, b6, b7] : Fin 8 → A) 5 = b5 := rfl
theorem vec8_6 {A : Type} (b0 b1 b2 b3 b4 b5 b6 b7 : A) : (![b0, b1, b2, b3, b4, b5, b6, b7] : Fin 8 → A) 6 = b6 := rfl
theorem vec8_7 {A : Type} (b0 b1 b2 b3 b4 b5 b6 b7 : A) : (![b0, b1, b2, b3, b4, b5, b6, b7] : Fin 8 → A) 7 = b7 := rfl
theorem g4_0 (c : Dev nD) (x13 : HBuf (F := F) c a13) (x2 : HBuf (F := F) c a2) (x6 : HBuf (F := F) c a6) :
    g4 c x13 x2 x6 0 = gotSlot c x13 (0) (by decide) (blk6 c x6 0) := by
  rw [g4, show (![x13, x13, g1 c x13 x2 0, g1 c x13 x2 1, g1 c x13 x2 2, g1 c x13 x2 3, g1 c x13 x2 4, g1 c x13 x2 5] : Fin 8 → HBuf (F := F) c a13) 0 = x13 from vec8_0 _ _ _ _ _ _ _ _]
  rfl
theorem g4_1 (c : Dev nD) (x13 : HBuf (F := F) c a13) (x2 : HBuf (F := F) c a2) (x6 : HBuf (F := F) c a6) :
    g4 c x13 x2 x6 1 = gotSlot c x13 (1) (by decide) (blk6 c x6 1) := by
  rw [g4, show (![x13, x13, g1 c x13 x2 0, g1 c x13 x2 1, g1 c x13 x2 2, g1 c x13 x2 3, g1 c x13 x2 4, g1 c x13 x2 5] : Fin 8 → HBuf (F := F) c a13) 1 = x13 from vec8_1 _ _ _ _ _ _ _ _]
  rfl
theorem g4_2 (c : Dev nD) (x13 : HBuf (F := F) c a13) (x2 : HBuf (F := F) c a2) (x6 : HBuf (F := F) c a6) :
    g4 c x13 x2 x6 2 = gotSlot c (g1 c x13 x2 0) (2) (by decide) (blk6 c x6 2) := by
  rw [g4, show (![x13, x13, g1 c x13 x2 0, g1 c x13 x2 1, g1 c x13 x2 2, g1 c x13 x2 3, g1 c x13 x2 4, g1 c x13 x2 5] : Fin 8 → HBuf (F := F) c a13) 2 = (g1 c x13 x2 0) from vec8_2 _ _ _ _ _ _ _ _]
  rfl
theorem g4_3 (c : Dev nD) (x13 : HBuf (F := F) c a13) (x2 : HBuf (F := F) c a2) (x6 : HBuf (F := F) c a6) :
    g4 c x13 x2 x6 3 = gotSlot c (g1 c x13 x2 1) (3) (by decide) (blk6 c x6 3) := by
  rw [g4, show (![x13, x13, g1 c x13 x2 0, g1 c x13 x2 1, g1 c x13 x2 2, g1 c x13 x2 3, g1 c x13 x2 4, g1 c x13 x2 5] : Fin 8 → HBuf (F := F) c a13) 3 = (g1 c x13 x2 1) from vec8_3 _ _ _ _ _ _ _ _]
  rfl
theorem g4_4 (c : Dev nD) (x13 : HBuf (F := F) c a13) (x2 : HBuf (F := F) c a2) (x6 : HBuf (F := F) c a6) :
    g4 c x13 x2 x6 4 = gotSlot c (g1 c x13 x2 2) (4) (by decide) (blk6 c x6 4) := by
  rw [g4, show (![x13, x13, g1 c x13 x2 0, g1 c x13 x2 1, g1 c x13 x2 2, g1 c x13 x2 3, g1 c x13 x2 4, g1 c x13 x2 5] : Fin 8 → HBuf (F := F) c a13) 4 = (g1 c x13 x2 2) from vec8_4 _ _ _ _ _ _ _ _]
  rfl
theorem g4_5 (c : Dev nD) (x13 : HBuf (F := F) c a13) (x2 : HBuf (F := F) c a2) (x6 : HBuf (F := F) c a6) :
    g4 c x13 x2 x6 5 = gotSlot c (g1 c x13 x2 3) (5) (by decide) (blk6 c x6 5) := by
  rw [g4, show (![x13, x13, g1 c x13 x2 0, g1 c x13 x2 1, g1 c x13 x2 2, g1 c x13 x2 3, g1 c x13 x2 4, g1 c x13 x2 5] : Fin 8 → HBuf (F := F) c a13) 5 = (g1 c x13 x2 3) from vec8_5 _ _ _ _ _ _ _ _]
  rfl
theorem g4_6 (c : Dev nD) (x13 : HBuf (F := F) c a13) (x2 : HBuf (F := F) c a2) (x6 : HBuf (F := F) c a6) :
    g4 c x13 x2 x6 6 = gotSlot c (g1 c x13 x2 4) (6) (by decide) (blk6 c x6 6) := by
  rw [g4, show (![x13, x13, g1 c x13 x2 0, g1 c x13 x2 1, g1 c x13 x2 2, g1 c x13 x2 3, g1 c x13 x2 4, g1 c x13 x2 5] : Fin 8 → HBuf (F := F) c a13) 6 = (g1 c x13 x2 4) from vec8_6 _ _ _ _ _ _ _ _]
  rfl
theorem g4_7 (c : Dev nD) (x13 : HBuf (F := F) c a13) (x2 : HBuf (F := F) c a2) (x6 : HBuf (F := F) c a6) :
    g4 c x13 x2 x6 7 = gotSlot c (g1 c x13 x2 5) (7) (by decide) (blk6 c x6 7) := by
  rw [g4, show (![x13, x13, g1 c x13 x2 0, g1 c x13 x2 1, g1 c x13 x2 2, g1 c x13 x2 3, g1 c x13 x2 4, g1 c x13 x2 5] : Fin 8 → HBuf (F := F) c a13) 7 = (g1 c x13 x2 5) from vec8_7 _ _ _ _ _ _ _ _]
  rfl

/-! The values the body holds between its loops, of what the arrays and the scratch buffers held before. -/
section Vals
variable (c : Dev nD) (a0 : Memref sig .tc .vmem S24x2048 .f32) (x0 : HBuf (F := F) c a0) (x1 : HBuf (F := F) c a1) (x2 : HBuf (F := F) c a2) (x3 : HBuf (F := F) c a3)
  (x4 : HBuf (F := F) c a4) (x5 : HBuf (F := F) c a5) (x6 : HBuf (F := F) c a6) (x7 : HBuf (F := F) c a7)
  (x13 : HBuf (F := F) c a13) (x14 : HBuf (F := F) c a14) (x15 : HBuf (F := F) c a15) (x16 : HBuf (F := F) c a16) (x17 : HBuf (F := F) c a17)
  (x19 : HBuf (F := F) c a19) (x24 : HBuf (F := F) c a24)

def xiA : HBuf (F := F) c a18 := a18.view.writes (Elt F) a18.view.junk (xiParts c a0 x0 x1 x14)
def sgA : HBuf (F := F) c a15 := View.write (Elt F) a15.view x15 (ReadAs.same.apply (View.read (Elt F) a4.view x4)) Finset.univ
def suA : HBuf (F := F) c a16 := View.write (Elt F) a16.view x16 (ReadAs.same.apply (View.read (Elt F) a5.view x5)) Finset.univ
def sdA : HBuf (F := F) c a17 := View.write (Elt F) a17.view x17 (ReadAs.same.apply (View.read (Elt F) a7.view x7)) Finset.univ
/-- The gate rows after the gate loop, their mean, their deviation. -/
def ff1 : HBuf (F := F) c a19 := gateFF c (mScale c a0 x0 x1 x14) (xiA c a0 x0 x1 x14) (sgA c x4 x15) (g1 c x13 x2) x19 8
def muV : FVec F S24x1 .f32 := k0_pay43 (gateAcc c (mScale c a0 x0 x1 x14) (xiA c a0 x0 x1 x14) (sgA c x4 x15) (g1 c x13 x2) 8)
def sdV : FVec F S24x1 .f32 := k0_pay46 (varAcc c (muV c a0 x0 x1 x2 x4 x13 x14 x15) (ff1 c a0 x0 x1 x2 x4 x13 x14 x15 x19) 8)
/-- The hidden rows after the up loop and their largest magnitudes. -/
def ff2 : HBuf (F := F) c a19 := upFF c (mScale c a0 x0 x1 x14) (muV c a0 x0 x1 x2 x4 x13 x14 x15) (sdV c a0 x0 x1 x2 x4 x13 x14 x15 x19)
  (xiA c a0 x0 x1 x14) (suA c x5 x16) (g3 c x13 x3) (ff1 c a0 x0 x1 x2 x4 x13 x14 x15 x19) 8
def mxV : FVec F S24x1 .f32 := upMax c (mScale c a0 x0 x1 x14) (muV c a0 x0 x1 x2 x4 x13 x14 x15) (sdV c a0 x0 x1 x2 x4 x13 x14 x15 x19)
  (xiA c a0 x0 x1 x14) (suA c x5 x16) (g3 c x13 x3) (ff1 c a0 x0 x1 x2 x4 x13 x14 x15 x19) 8
/-- The accumulator of the down product, zeroed; the accumulator and the hidden int8 rows after the down loop. -/
def fa0 : HBuf (F := F) c a21 := a21.view.writes (Elt F) a21.view.junk [⟨Rect.unit ![0, 0] S24x2048.size inb_S24x2048_S24x2048_0_0, k0_pay54⟩]
def faV : HBuf (F := F) c a21 := faAt c (mxV c a0 x0 x1 x2 x3 x4 x5 x13 x14 x15 x16 x19) (ff2 c a0 x0 x1 x2 x3 x4 x5 x13 x14 x15 x16 x19) (g4 c x13 x2 x6) (fa0 c) 8
def hcV : HBuf (F := F) c a24 := hcAt c (mxV c a0 x0 x1 x2 x3 x4 x5 x13 x14 x15 x16 x19) (ff2 c a0 x0 x1 x2 x3 x4 x5 x13 x14 x15 x16 x19) x24 8

/-! What the five result arrays hold after their copies out: each written whole with what the copy's source held, itself
    written whole by one store (the int8 rows of the hidden block by the down loop's sixteen). -/
def out8 (x8 : HBuf (F := F) c a8) (x22 : HBuf (F := F) c a22) : HBuf (F := F) c a8 :=
  View.write (Elt F) a8.view x8 (ReadAs.same.apply (View.read (Elt F) a22.view (a22.view.writes (Elt F) x22
    [⟨Rect.unit ![0, 0, 0] S24x1x2048.size inb_S24x1x2048_S24x1x2048_0_0_0,
      k0_pay1 (k0_pay55 (mxV c a0 x0 x1 x2 x3 x4 x5 x13 x14 x15 x16 x19) (rd c a21 (faV c a0 x0 x1 x2 x3 x4 x5 x6 x13 x14 x15 x16 x19) ![0, 0] S24x2048.size inb_S24x2048_S24x2048_0_0))
        (rd c a17 (sdA c x7 x17) ![0, 0] S1x2048.size inb_S1x2048_S1x2048_0_0)⟩]))) Finset.univ
def out9 (x9 : HBuf (F := F) c a9) (x23 : HBuf (F := F) c a23) : HBuf (F := F) c a9 :=
  View.write (Elt F) a9.view x9 (ReadAs.same.apply (View.read (Elt F) a23.view (a23.view.writes (Elt F) x23
    [⟨Rect.unit ![0, 0] S24x2048.size inb_S24x2048_S24x2048_0_0, k0_pay26 (actRd c a0 x0) (nrmRd c x1 x14) (k0_pay22 (actRd c a0 x0))⟩]))) Finset.univ
def out10 (x10 : HBuf (F := F) c a10) (x25 : HBuf (F := F) c a25) : HBuf (F := F) c a10 :=
  View.write (Elt F) a10.view x10 (ReadAs.same.apply (View.read (Elt F) a25.view (a25.view.writes (Elt F) x25
    [⟨Rect.unit ![0, 0] S1x24.size inb_S1x24_S1x24_0_0, k0_pay27 (actRd c a0 x0) (nrmRd c x1 x14) (k0_pay22 (actRd c a0 x0))⟩]))) Finset.univ
def out11 (x11 : HBuf (F := F) c a11) : HBuf (F := F) c a11 :=
  View.write (Elt F) a11.view x11 (ReadAs.same.apply (View.read (Elt F) a24.view (hcV c a0 x0 x1 x2 x3 x4 x5 x13 x14 x15 x16 x19 x24))) Finset.univ
def out12 (x12 : HBuf (F := F) c a12) : HBuf (F := F) c a12 :=
  View.write (Elt F) a12.view x12 (ReadAs.same.apply (View.read (Elt F) a26.view (a26.view.writes (Elt F) a26.view.junk
    [⟨Rect.unit ![0, 0] S1x24.size inb_S1x24_S1x24_0_0, k0_pay53 (mxV c a0 x0 x1 x2 x3 x4 x5 x13 x14 x15 x16 x19)⟩]))) Finset.univ

end Vals

end Cert.KernelIdeal.Hand

end
-- ==== Proof.Ideal.Body.lean ====
module

public import proofs.«01_k».proof.Proof.Ideal.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 800000 in
/-- The body, from its operands to the continuation: the arrays it reads come back unchanged, the five results hold `out8` … `out12`, the
    scratch buffers and the ring's slots hold something, every semaphore is at zero again. -/
theorem run0 (c : Dev nD) (a0 : Memref sig .tc .vmem S24x2048 .f32) (ha0 : a0.IsWhole)
    (x0 : HBuf (F := F) c a0) (x1 : HBuf (F := F) c a1) (x2 : HBuf (F := F) c a2) (x3 : HBuf (F := F) c a3) (x4 : HBuf (F := F) c a4) (x5 : HBuf (F := F) c a5) (x6 : HBuf (F := F) c a6) (x7 : HBuf (F := F) c a7) (x8 : HBuf (F := F) c a8) (x9 : HBuf (F := F) c a9) (x10 : HBuf (F := F) c a10) (x11 : HBuf (F := F) c a11) (x12 : HBuf (F := F) c a12) (x13 : HBuf (F := F) c a13) (x14 : HBuf (F := F) c a14) (x15 : HBuf (F := F) c a15) (x16 : HBuf (F := F) c a16) (x17 : HBuf (F := F) c a17) (x18 : HBuf (F := F) c a18) (x19 : HBuf (F := F) c a19) (x20 : HBuf (F := F) c a20) (x21 : HBuf (F := F) c a21) (x22 : HBuf (F := F) c a22) (x23 : HBuf (F := F) c a23) (x24 : HBuf (F := F) c a24) (x25 : HBuf (F := F) c a25) (x26 : HBuf (F := F) c a26)
    (W : Waits sig Unit) (K : PUnit → sProp 𝕄) :
    iprop((a0.view.loc (c : Thread nD τ) ↦[a0.view.set]{fullShare} x0)
      ∗ hPt c a1 x1 ∗ hPt c a4 x4 ∗ hPt c a5 x5 ∗ hPt c a7 x7
      ∗ hPt c a8 x8 ∗ hPt c a9 x9 ∗ hPt c a10 x10 ∗ hPt c a11 x11 ∗ hPt c a12 x12
      ∗ hPt c a14 x14 ∗ hPt c a15 x15 ∗ hPt c a16 x16 ∗ hPt c a17 x17 ∗ hPt c a18 x18 ∗ hPt c a19 x19
      ∗ hPt c a20 x20 ∗ hPt c a21 x21 ∗ hPt c a22 x22 ∗ hPt c a23 x23 ∗ hPt c a24 x24 ∗ hPt c a25 x25 ∗ hPt c a26 x26
      ∗ (slotPt c ![0, 0, 0] (inbSlot 0 (by decide)) x13 ∗ slotPt c ![1, 0, 0] (inbSlot 1 (by decide)) x13 ∗ slotPt c ![2, 0, 0] (inbSlot 2 (by decide)) x13 ∗ slotPt c ![3, 0, 0] (inbSlot 3 (by decide)) x13 ∗ slotPt c ![4, 0, 0] (inbSlot 4 (by decide)) x13 ∗ slotPt c ![5, 0, 0] (inbSlot 5 (by decide)) x13 ∗ slotPt c ![6, 0, 0] (inbSlot 6 (by decide)) x13 ∗ slotPt c ![7, 0, 0] (inbSlot 7 (by decide)) x13 ∗ slotPt c ![8, 0, 0] (inbSlot 8 (by decide)) x13 ∗ slotPt c ![9, 0, 0] (inbSlot 9 (by decide)) x13 ∗ slotPt c ![10, 0, 0] (inbSlot 10 (by decide)) x13 ∗ slotPt c ![11, 0, 0] (inbSlot 11 (by decide)) x13 ∗ slotPt c ![12, 0, 0] (inbSlot 12 (by decide)) x13 ∗ slotPt c ![13, 0, 0] (inbSlot 13 (by decide)) x13 ∗ slotPt c ![14, 0, 0] (inbSlot 14 (by decide)) x13 ∗ slotPt c ![15, 0, 0] (inbSlot 15 (by decide)) x13 ∗ slotPt c ![16, 0, 0] (inbSlot 16 (by decide)) x13 ∗ slotPt c ![17, 0, 0] (inbSlot 17 (by decide)) x13)
      ∗ (w2Pt c ![0, 0] inb_S1024x16384_S1024x2048_0_0 x2 ∗ w2Pt c ![0, 2048] inb_S1024x16384_S1024x2048_0_2048 x2 ∗ w2Pt c ![0, 4096] inb_S1024x16384_S1024x2048_0_4096 x2 ∗ w2Pt c ![0, 6144] inb_S1024x16384_S1024x2048_0_6144 x2 ∗ w2Pt c ![0, 8192] inb_S1024x16384_S1024x2048_0_8192 x2 ∗ w2Pt c ![0, 10240] inb_S1024x16384_S1024x2048_0_10240 x2 ∗ w2Pt c ![0, 12288] inb_S1024x16384_S1024x2048_0_12288 x2 ∗ w2Pt c ![0, 14336] inb_S1024x16384_S1024x2048_0_14336 x2)
      ∗ (w3Pt c ![0, 0] inb_S1024x16384_S1024x2048_0_0 x3 ∗ w3Pt c ![0, 2048] inb_S1024x16384_S1024x2048_0_2048 x3 ∗ w3Pt c ![0, 4096] inb_S1024x16384_S1024x2048_0_4096 x3 ∗ w3Pt c ![0, 6144] inb_S1024x16384_S1024x2048_0_6144 x3 ∗ w3Pt c ![0, 8192] inb_S1024x16384_S1024x2048_0_8192 x3 ∗ w3Pt c ![0, 10240] inb_S1024x16384_S1024x2048_0_10240 x3 ∗ w3Pt c ![0, 12288] inb_S1024x16384_S1024x2048_0_12288 x3 ∗ w3Pt c ![0, 14336] inb_S1024x16384_S1024x2048_0_14336 x3)
      ∗ (w6Pt c ![0, 0] inb_S8192x2048_S1024x2048_0_0 x6 ∗ w6Pt c ![1024, 0] inb_S8192x2048_S1024x2048_1024_0 x6 ∗ w6Pt c ![2048, 0] inb_S8192x2048_S1024x2048_2048_0 x6 ∗ w6Pt c ![3072, 0] inb_S8192x2048_S1024x2048_3072_0 x6 ∗ w6Pt c ![4096, 0] inb_S8192x2048_S1024x2048_4096_0 x6 ∗ w6Pt c ![5120, 0] inb_S8192x2048_S1024x2048_5120_0 x6 ∗ w6Pt c ![6144, 0] inb_S8192x2048_S1024x2048_6144_0 x6 ∗ w6Pt c ![7168, 0] inb_S8192x2048_S1024x2048_7168_0 x6)
      ∗ (cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18)
      ∗ cell c 21 ∗ (cell c 23 ∗ cell c 24 ∗ cell c 25 ∗ cell c 26 ∗ cell c 27)
      ∗ owes (c : Thread nD τ) 0 W
      ∗ (iprop((a0.view.loc (c : Thread nD τ) ↦[a0.view.set]{fullShare} x0)
      ∗ hPt c a1 x1 ∗ hPt c a4 x4 ∗ hPt c a5 x5 ∗ hPt c a7 x7
      ∗ hPt c a8 (out8 c a0 x0 x1 x2 x3 x4 x5 x6 x7 x13 x14 x15 x16 x17 x19 x8 x22) ∗ hPt c a9 (out9 c a0 x0 x1 x14 x9 x23) ∗ hPt c a10 (out10 c a0 x0 x1 x14 x10 x25)
      ∗ hPt c a11 (out11 c a0 x0 x1 x2 x3 x4 x5 x13 x14 x15 x16 x19 x24 x11) ∗ hPt c a12 (out12 c a0 x0 x1 x2 x3 x4 x5 x13 x14 x15 x16 x19 x12)
      ∗ (∃ f, hPt (F := F) c a14 f) ∗ (∃ f, hPt (F := F) c a15 f) ∗ (∃ f, hPt (F := F) c a16 f) ∗ (∃ f, hPt (F := F) c a17 f) ∗ (∃ f, hPt (F := F) c a18 f) ∗ (∃ f, hPt (F := F) c a19 f) ∗ (∃ f, hPt (F := F) c a20 f) ∗ (∃ f, hPt (F := F) c a21 f) ∗ (∃ f, hPt (F := F) c a22 f) ∗ (∃ f, hPt (F := F) c a23 f) ∗ (∃ f, hPt (F := F) c a24 f) ∗ (∃ f, hPt (F := F) c a25 f) ∗ (∃ f, hPt (F := F) c a26 f)
      ∗ ((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f))
      ∗ (w2Pt c ![0, 0] inb_S1024x16384_S1024x2048_0_0 x2 ∗ w2Pt c ![0, 2048] inb_S1024x16384_S1024x2048_0_2048 x2 ∗ w2Pt c ![0, 4096] inb_S1024x16384_S1024x2048_0_4096 x2 ∗ w2Pt c ![0, 6144] inb_S1024x16384_S1024x2048_0_6144 x2 ∗ w2Pt c ![0, 8192] inb_S1024x16384_S1024x2048_0_8192 x2 ∗ w2Pt c ![0, 10240] inb_S1024x16384_S1024x2048_0_10240 x2 ∗ w2Pt c ![0, 12288] inb_S1024x16384_S1024x2048_0_12288 x2 ∗ w2Pt c ![0, 14336] inb_S1024x16384_S1024x2048_0_14336 x2)
      ∗ (w3Pt c ![0, 0] inb_S1024x16384_S1024x2048_0_0 x3 ∗ w3Pt c ![0, 2048] inb_S1024x16384_S1024x2048_0_2048 x3 ∗ w3Pt c ![0, 4096] inb_S1024x16384_S1024x2048_0_4096 x3 ∗ w3Pt c ![0, 6144] inb_S1024x16384_S1024x2048_0_6144 x3 ∗ w3Pt c ![0, 8192] inb_S1024x16384_S1024x2048_0_8192 x3 ∗ w3Pt c ![0, 10240] inb_S1024x16384_S1024x2048_0_10240 x3 ∗ w3Pt c ![0, 12288] inb_S1024x16384_S1024x2048_0_12288 x3 ∗ w3Pt c ![0, 14336] inb_S1024x16384_S1024x2048_0_14336 x3)
      ∗ (w6Pt c ![0, 0] inb_S8192x2048_S1024x2048_0_0 x6 ∗ w6Pt c ![1024, 0] inb_S8192x2048_S1024x2048_1024_0 x6 ∗ w6Pt c ![2048, 0] inb_S8192x2048_S1024x2048_2048_0 x6 ∗ w6Pt c ![3072, 0] inb_S8192x2048_S1024x2048_3072_0 x6 ∗ w6Pt c ![4096, 0] inb_S8192x2048_S1024x2048_4096_0 x6 ∗ w6Pt c ![5120, 0] inb_S8192x2048_S1024x2048_5120_0 x6 ∗ w6Pt c ![6144, 0] inb_S8192x2048_S1024x2048_6144_0 x6 ∗ w6Pt c ![7168, 0] inb_S8192x2048_S1024x2048_7168_0 x6)
      ∗ (cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18)
      ∗ cell c 21 ∗ (cell c 23 ∗ cell c 24 ∗ cell c 25 ∗ cell c 26 ∗ cell c 27)
      ∗ ∃ W', owes (c : Thread nD τ) 0 W') -∗ K ⟨⟩))
    ⊢ wp frame (wpE (defs₀ (F := F)) Variants.none c none) Set.univ
        (cc0_decode_layer a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16) K := by
  simp only [cc0_decode_layer_eq_skeleton]; unfold cc0_decode_layer_skel
  iintro ⟨H0, H1, H4, H5, H7, H8, H9, H10, H11, H12, H14, H15, H16, H17, H18, H19, H20, H21, H22, H23, H24, H25, H26,
    ⟨S0, S1, S2, S3, S4, S5, S6, S7, S8, S9, S10, S11, S12, S13, S14, S15, S16, S17⟩, ⟨G0, G1, G2, G3, G4, G5, G6, G7⟩, ⟨U0, U1, U2, U3, U4, U5, U6, U7⟩, ⟨D0, D1, D2, D3, D4, D5, D6, D7⟩,
    ⟨C1, C2, C3, C4, C5, C6, C7, C8, C9, C10, C11, C12, C13, C14, C15, C16, C17, C18⟩, C21, ⟨C23, C24, C25, C26, C27⟩, HW, Hk⟩
  imod (Transfers.mixedBatch_alloc' (Lvl := ℕ) (countersEmb (U := Pipeline.UD sig nD τ)) (c : Thread nD τ) () A21
      (deliv21 c x1 x4 x5 x7 x14 x15 x16 x17) (sm := SemLoc.dma 21) (E := Set.univ)) $$ C21 with HB
  unfold deliv21
  sl_exec
  sl_for (inv1 c (mScale c a0 x0 x1 x14) (xiA c a0 x0 x1 x14) (sgA c x4 x15) (g1 c x13 x2) x19
      (fun j => (win2 ![0, 2048 * j.val] (inbG j)).view.set) x2) $$ [H18 HB_dst1 H19 C3 C4 C5 C6 C7 C8 C9 C10 HW]
  case region => exact region1 c _ _ _ _ a0 ha0 _ _ _
  · unfold inv1
    irw [fly1_all, Ring.bigSep_rangeSet_empty (NB := 8) (le_refl 0)]
    isplitr; · ipureintro; rfl
    isplitl [H18]; · iexact H18
    isplitl [HB_dst1]; · iexact HB_dst1
    isplitl [H19]; · iexact H19
    isplitl [C3 C4 C5 C6 C7 C8 C9 C10]
    · isplitl [C3]; · iexact C3
      isplitl [C4]; · iexact C4
      isplitl [C5]; · iexact C5
      isplitl [C6]; · iexact C6
      isplitl [C7]; · iexact C7
      isplitl [C8]; · iexact C8
      isplitl [C9]; · iexact C9
      iexact C10
    isplitr; · iempintro
    iexists _; iexact HW
  unfold inv1
  irw [show Scf.trips k0_t1_loop.lb k0_t1_loop.ub k0_t1_loop.st = 8 from trips1, land1_all, Ring.bigSep_rangeSet_empty (NB := 8) (le_refl 8)]
  iintro %v245 ⟨%hv245, H18, HB_dst1, H19, -, ⟨⟨C3, S2, G0⟩, ⟨C4, S3, G1⟩, ⟨C5, S4, G2⟩, ⟨C6, S5, G3⟩, ⟨C7, S6, G4⟩, ⟨C8, S7, G5⟩, ⟨C9, S8, G6⟩, ⟨C10, S9, G7⟩⟩, %W1, HW⟩
  subst hv245
  sl_exec
  sl_for (inv2 c (muV c a0 x0 x1 x2 x4 x13 x14 x15) (ff1 c a0 x0 x1 x2 x4 x13 x14 x15 x19)) $$ [H19 HW]
  case region => exact region2 c (muV c a0 x0 x1 x2 x4 x13 x14 x15) (ff1 c a0 x0 x1 x2 x4 x13 x14 x15 x19) a0 ha0
  · unfold inv2
    isplitr; · ipureintro; rfl
    isplitl [H19]; · iexact H19
    iexists _; iexact HW
  unfold inv2
  irw [show Scf.trips k0_t2_loop.lb k0_t2_loop.ub k0_t2_loop.st = 8 from trips2]
  iintro %v286 ⟨%hv286, H19, %W2, HW⟩
  subst hv286
  sl_exec
  sl_for (inv3 c (mScale c a0 x0 x1 x14) (muV c a0 x0 x1 x2 x4 x13 x14 x15) (sdV c a0 x0 x1 x2 x4 x13 x14 x15 x19)
      (xiA c a0 x0 x1 x14) (suA c x5 x16) (g3 c x13 x3) (ff1 c a0 x0 x1 x2 x4 x13 x14 x15 x19)
      (fun j => (win3 ![0, 2048 * j.val] (inbG j)).view.set) x3) $$ [H18 HB_dst2 H19 C11 C12 C13 C14 C15 C16 C17 C18 HW]
  case region => exact region3 c (mScale c a0 x0 x1 x14) (muV c a0 x0 x1 x2 x4 x13 x14 x15) (sdV c a0 x0 x1 x2 x4 x13 x14 x15 x19) (xiA c a0 x0 x1 x14) (suA c x5 x16) (g3 c x13 x3) a0 ha0 (ff1 c a0 x0 x1 x2 x4 x13 x14 x15 x19) (fun j => (win3 ![0, 2048 * j.val] (inbG j)).view.set) x3
  · unfold inv3
    irw [fly3_all, Ring.bigSep_rangeSet_empty (NB := 8) (le_refl 0)]
    isplitr; · ipureintro; rfl
    isplitl [H18]; · iexact H18
    isplitl [HB_dst2]; · iexact HB_dst2
    isplitl [H19]; · iexact H19
    isplitl [C11 C12 C13 C14 C15 C16 C17 C18]
    · isplitl [C11]; · iexact C11
      isplitl [C12]; · iexact C12
      isplitl [C13]; · iexact C13
      isplitl [C14]; · iexact C14
      isplitl [C15]; · iexact C15
      isplitl [C16]; · iexact C16
      isplitl [C17]; · iexact C17
      iexact C18
    isplitr; · iempintro
    iexists _; iexact HW
  unfold inv3
  irw [show Scf.trips k0_t3_loop.lb k0_t3_loop.ub k0_t3_loop.st = 8 from trips3, land3_all, Ring.bigSep_rangeSet_empty (NB := 8) (le_refl 8)]
  iintro %v295 ⟨%hv295, H18, HB_dst2, H19, -, ⟨⟨C11, S10, U0⟩, ⟨C12, S11, U1⟩, ⟨C13, S12, U2⟩, ⟨C14, S13, U3⟩, ⟨C15, S14, U4⟩, ⟨C16, S15, U5⟩, ⟨C17, S16, U6⟩, ⟨C18, S17, U7⟩⟩, %W3, HW⟩
  subst hv295
  sl_exec
  sl_for (inv4 c (mxV c a0 x0 x1 x2 x3 x4 x5 x13 x14 x15 x16 x19) (ff2 c a0 x0 x1 x2 x3 x4 x5 x13 x14 x15 x16 x19) (g4 c x13 x2 x6) x24 (fa0 c)
      (fun j => (win6 ![1024 * j.val, 0] (inbD j)).view.set) x6) $$ [H24 H20 H21 H19 C1 C2 C3 C4 C5 C6 C7 C8 HW]
  case region => exact region4 c (mxV c a0 x0 x1 x2 x3 x4 x5 x13 x14 x15 x16 x19) (ff2 c a0 x0 x1 x2 x3 x4 x5 x13 x14 x15 x16 x19) (g4 c x13 x2 x6) a0 ha0 (mScale c a0 x0 x1 x14) (muV c a0 x0 x1 x2 x4 x13 x14 x15) (sdV c a0 x0 x1 x2 x4 x13 x14 x15 x19) x24 (fa0 c) (fun j => (win6 ![1024 * j.val, 0] (inbD j)).view.set) x6
  · unfold inv4
    irw [fly4_all, Ring.bigSep_rangeSet_empty (NB := 8) (le_refl 0), g4_0, g4_1, g4_2, g4_3, g4_4, g4_5, g4_6, g4_7]
    isplitl [H24]; · iexact H24
    isplitl [H20]; · iexists _; iexact H20
    isplitl [H21]; · iexact H21
    isplitl [H19]; · iexact H19
    isplitl [C1 C2 C3 C4 C5 C6 C7 C8]
    · isplitl [C1]; · iexact C1
      isplitl [C2]; · iexact C2
      isplitl [C3]; · iexact C3
      isplitl [C4]; · iexact C4
      isplitl [C5]; · iexact C5
      isplitl [C6]; · iexact C6
      isplitl [C7]; · iexact C7
      iexact C8
    isplitr; · iempintro
    iexists _; iexact HW
  unfold inv4
  irw [show Scf.trips k0_t4_loop.lb k0_t4_loop.ub k0_t4_loop.st = 8 from trips4, land4_all, Ring.bigSep_rangeSet_empty (NB := 8) (le_refl 8)]
  iintro %_ ⟨H24, ⟨%hi, H20⟩, H21, H19, -, ⟨⟨C1, S0, D0⟩, ⟨C2, S1, D1⟩, ⟨C3, S2, D2⟩, ⟨C4, S3, D3⟩, ⟨C5, S4, D4⟩, ⟨C6, S5, D5⟩, ⟨C7, S6, D6⟩, ⟨C8, S7, D7⟩⟩, %W4, HW⟩
  sl_exec
  sl_step
  iapply Hk
  isplitl [H0]; · iexact H0
  isplitl [H1]; · iexact H1
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [HB_dst0]; · iexists _; iexact HB_dst0
  isplitl [HB_dst1]; · iexists _; iexact HB_dst1
  isplitl [HB_dst2]; · iexists _; iexact HB_dst2
  isplitl [HB_dst3]; · iexists _; iexact HB_dst3
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [S0 S1 S2 S3 S4 S5 S6 S7 S8 S9 S10 S11 S12 S13 S14 S15 S16 S17]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    iexists _; iexact S17
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [U0 U1 U2 U3 U4 U5 U6 U7]
  · isplitl [U0]; · iexact U0
    isplitl [U1]; · iexact U1
    isplitl [U2]; · iexact U2
    isplitl [U3]; · iexact U3
    isplitl [U4]; · iexact U4
    isplitl [U5]; · iexact U5
    isplitl [U6]; · iexact U6
    iexact U7
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [C1 C2 C3 C4 C5 C6 C7 C8 C9 C10 C11 C12 C13 C14 C15 C16 C17 C18]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  isplitl [HB]; · iexact HB
  isplitl [C23 C24 C25 C26 C27]
  · isplitl [C23]; · iexact C23
    isplitl [C24]; · iexact C24
    isplitl [C25]; · iexact C25
    isplitl [C26]; · iexact C26
    iexact C27
  iexists _; iexact HW

end Cert.KernelIdeal.Hand

end
-- ==== Proof.Ideal.Cut.lean ====
module

public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The buffers the kernel copies in pieces, cut into those pieces and put together again: the two up-going weight matrices and
    the down-going one into eight blocks each, the weight ring into its eighteen slots. -/

theorem inbW (s : Fin 18) : ∀ a, (![s.val, 0, 0] : Fin 3 → ℕ) a + S1x1024x2048.size a ≤ S18x1024x2048.size a := inbSlot s.val s.isLt

theorem set2 (j : Fin 8) : (win2 ![0, 2048 * j.val] (inbG j)).view.set = (Rect.unit (s := S1024x16384) ![0, 2048 * j.val] S1024x2048.size (inbG j)).set :=
  View.set_slice_whole _ _
theorem set3 (j : Fin 8) : (win3 ![0, 2048 * j.val] (inbG j)).view.set = (Rect.unit (s := S1024x16384) ![0, 2048 * j.val] S1024x2048.size (inbG j)).set :=
  View.set_slice_whole _ _
theorem set6 (j : Fin 8) : (win6 ![1024 * j.val, 0] (inbD j)).view.set = (Rect.unit (s := S8192x2048) ![1024 * j.val, 0] S1024x2048.size (inbD j)).set :=
  View.set_slice_whole _ _
theorem set13 (s : Fin 18) : (slotO ![s.val, 0, 0] (inbW s)).view.set = (Rect.unit (s := S18x1024x2048) ![s.val, 0, 0] S1x1024x2048.size (inbW s)).set :=
  (View.set_reshape _ _).trans (View.set_slice_whole _ _)

theorem dG (b b' : Fin 8) (h : b ≠ b') : Disjoint (Rect.unit (s := S1024x16384) ![0, 2048 * b.val] S1024x2048.size (inbG b)).set (Rect.unit (s := S1024x16384) ![0, 2048 * b'.val] S1024x2048.size (inbG b')).set :=
  Ring.lead_disjoint (s := S1024x16384) (NB := 8) (1 : Fin 2) 2048 (fun j => ![0, 2048 * j.val]) S1024x2048.size inbG (fun _ => rfl) rfl b b' h
theorem cG : Finset.univ.biUnion (fun b : Fin 8 => (Rect.unit (s := S1024x16384) ![0, 2048 * b.val] S1024x2048.size (inbG b)).set) = Finset.univ :=
  Ring.lead_cover (s := S1024x16384) (NB := 8) (1 : Fin 2) 2048 (fun j => ![0, 2048 * j.val]) S1024x2048.size inbG (fun _ => rfl) (by decide) rfl (by decide) rfl
theorem dD (b b' : Fin 8) (h : b ≠ b') : Disjoint (Rect.unit (s := S8192x2048) ![1024 * b.val, 0] S1024x2048.size (inbD b)).set (Rect.unit (s := S8192x2048) ![1024 * b'.val, 0] S1024x2048.size (inbD b')).set :=
  Ring.lead_disjoint (s := S8192x2048) (NB := 8) (0 : Fin 2) 1024 (fun j => ![1024 * j.val, 0]) S1024x2048.size inbD (fun _ => rfl) rfl b b' h
theorem cD : Finset.univ.biUnion (fun b : Fin 8 => (Rect.unit (s := S8192x2048) ![1024 * b.val, 0] S1024x2048.size (inbD b)).set) = Finset.univ :=
  Ring.lead_cover (s := S8192x2048) (NB := 8) (0 : Fin 2) 1024 (fun j => ![1024 * j.val, 0]) S1024x2048.size inbD (fun _ => rfl) (by decide) rfl (by decide) rfl
theorem dW (b b' : Fin 18) (h : b ≠ b') : Disjoint (Rect.unit (s := S18x1024x2048) ![b.val, 0, 0] S1x1024x2048.size (inbW b)).set (Rect.unit (s := S18x1024x2048) ![b'.val, 0, 0] S1x1024x2048.size (inbW b')).set :=
  Ring.lead_disjoint (s := S18x1024x2048) (NB := 18) (0 : Fin 3) 1 (fun j => ![j.val, 0, 0]) S1x1024x2048.size inbW (fun b => (Nat.one_mul b.val).symm) rfl b b' h
theorem cW : Finset.univ.biUnion (fun b : Fin 18 => (Rect.unit (s := S18x1024x2048) ![b.val, 0, 0] S1x1024x2048.size (inbW b)).set) = Finset.univ :=
  Ring.lead_cover (s := S18x1024x2048) (NB := 18) (0 : Fin 3) 1 (fun j => ![j.val, 0, 0]) S1x1024x2048.size inbW (fun b => (Nat.one_mul b.val).symm) (by decide) rfl (by decide) rfl

def setsG (j : Fin 8) : Finset (S1024x16384.Idx) := (Rect.unit (s := S1024x16384) ![0, 2048 * j.val] S1024x2048.size (inbG j)).set
theorem setsG_d (b b' : Fin 8) (h : b ≠ b') : Disjoint (setsG b) (setsG b') := dG b b' h
theorem setsG_c : Finset.univ.biUnion setsG = Finset.univ := cG

def setsD (j : Fin 8) : Finset (S8192x2048.Idx) := (Rect.unit (s := S8192x2048) ![1024 * j.val, 0] S1024x2048.size (inbD j)).set
theorem setsD_d (b b' : Fin 8) (h : b ≠ b') : Disjoint (setsD b) (setsD b') := dD b b' h
theorem setsD_c : Finset.univ.biUnion setsD = Finset.univ := cD

def setsW (j : Fin 18) : Finset (S18x1024x2048.Idx) := (Rect.unit (s := S18x1024x2048) ![j.val, 0, 0] S1x1024x2048.size (inbW j)).set
theorem setsW_d (b b' : Fin 18) (h : b ≠ b') : Disjoint (setsW b) (setsW b') := dW b b' h
theorem setsW_c : Finset.univ.biUnion setsW = Finset.univ := cW

theorem cut2g (c : Dev nD) (f : HBuf (F := F) c a2) : (hPt c a2 f : sProp 𝕄) = bigSep Finset.univ (fun j : Fin 8 => ((a2.view.loc (c : Thread nD τ)) ↦[setsG j]{fullShare} f)) :=
  Ring.pointsTo_blocks (Ix := Unit) (Name := ℕ) (U := Pipeline.UD sig nD τ) (Lvl := ℕ) (q := fullShare) (ℓ := (c : Thread nD τ).loc main_arg2) setsG setsG_d setsG_c f
theorem cut2s (c : Dev nD) (f : HBuf (F := F) c a2) (j : Fin 8) : ((a2.view.loc (c : Thread nD τ)) ↦[setsG j]{fullShare} f : sProp 𝕄) = w2Pt c ![0, 2048 * j.val] (inbG j) f := by
  unfold setsG; rw [← set2 j]
theorem cut2b (c : Dev nD) (f : HBuf (F := F) c a2) : (bigSep Finset.univ (fun j : Fin 8 => w2Pt c ![0, 2048 * j.val] (inbG j) f) : sProp 𝕄) = iprop(w2Pt c ![0, 0] inb_S1024x16384_S1024x2048_0_0 f ∗ w2Pt c ![0, 2048] inb_S1024x16384_S1024x2048_0_2048 f ∗ w2Pt c ![0, 4096] inb_S1024x16384_S1024x2048_0_4096 f ∗ w2Pt c ![0, 6144] inb_S1024x16384_S1024x2048_0_6144 f ∗ w2Pt c ![0, 8192] inb_S1024x16384_S1024x2048_0_8192 f ∗ w2Pt c ![0, 10240] inb_S1024x16384_S1024x2048_0_10240 f ∗ w2Pt c ![0, 12288] inb_S1024x16384_S1024x2048_0_12288 f ∗ w2Pt c ![0, 14336] inb_S1024x16384_S1024x2048_0_14336 f) := by
  rw [bigSep_univ_eq_bigSepL [0, 1, 2, 3, 4, 5, 6, 7] (by decide) (by decide)]; rfl
/-- The gate weights, held whole, are their eight blocks. -/
theorem cut2 (c : Dev nD) (f : HBuf (F := F) c a2) : (hPt c a2 f : sProp 𝕄) = iprop(w2Pt c ![0, 0] inb_S1024x16384_S1024x2048_0_0 f ∗ w2Pt c ![0, 2048] inb_S1024x16384_S1024x2048_0_2048 f ∗ w2Pt c ![0, 4096] inb_S1024x16384_S1024x2048_0_4096 f ∗ w2Pt c ![0, 6144] inb_S1024x16384_S1024x2048_0_6144 f ∗ w2Pt c ![0, 8192] inb_S1024x16384_S1024x2048_0_8192 f ∗ w2Pt c ![0, 10240] inb_S1024x16384_S1024x2048_0_10240 f ∗ w2Pt c ![0, 12288] inb_S1024x16384_S1024x2048_0_12288 f ∗ w2Pt c ![0, 14336] inb_S1024x16384_S1024x2048_0_14336 f) := by
  rw [← cut2b, cut2g, show (fun j : Fin 8 => ((a2.view.loc (c : Thread nD τ)) ↦[setsG j]{fullShare} f : sProp 𝕄)) = fun j => w2Pt c ![0, 2048 * j.val] (inbG j) f from funext (cut2s c f)]

theorem cut3g (c : Dev nD) (f : HBuf (F := F) c a3) : (hPt c a3 f : sProp 𝕄) = bigSep Finset.univ (fun j : Fin 8 => ((a3.view.loc (c : Thread nD τ)) ↦[setsG j]{fullShare} f)) :=
  Ring.pointsTo_blocks (Ix := Unit) (Name := ℕ) (U := Pipeline.UD sig nD τ) (Lvl := ℕ) (q := fullShare) (ℓ := (c : Thread nD τ).loc main_arg3) setsG setsG_d setsG_c f
theorem cut3s (c : Dev nD) (f : HBuf (F := F) c a3) (j : Fin 8) : ((a3.view.loc (c : Thread nD τ)) ↦[setsG j]{fullShare} f : sProp 𝕄) = w3Pt c ![0, 2048 * j.val] (inbG j) f := by
  unfold setsG; rw [← set3 j]
theorem cut3b (c : Dev nD) (f : HBuf (F := F) c a3) : (bigSep Finset.univ (fun j : Fin 8 => w3Pt c ![0, 2048 * j.val] (inbG j) f) : sProp 𝕄) = iprop(w3Pt c ![0, 0] inb_S1024x16384_S1024x2048_0_0 f ∗ w3Pt c ![0, 2048] inb_S1024x16384_S1024x2048_0_2048 f ∗ w3Pt c ![0, 4096] inb_S1024x16384_S1024x2048_0_4096 f ∗ w3Pt c ![0, 6144] inb_S1024x16384_S1024x2048_0_6144 f ∗ w3Pt c ![0, 8192] inb_S1024x16384_S1024x2048_0_8192 f ∗ w3Pt c ![0, 10240] inb_S1024x16384_S1024x2048_0_10240 f ∗ w3Pt c ![0, 12288] inb_S1024x16384_S1024x2048_0_12288 f ∗ w3Pt c ![0, 14336] inb_S1024x16384_S1024x2048_0_14336 f) := by
  rw [bigSep_univ_eq_bigSepL [0, 1, 2, 3, 4, 5, 6, 7] (by decide) (by decide)]; rfl
/-- The up weights, held whole, are their eight blocks. -/
theorem cut3 (c : Dev nD) (f : HBuf (F := F) c a3) : (hPt c a3 f : sProp 𝕄) = iprop(w3Pt c ![0, 0] inb_S1024x16384_S1024x2048_0_0 f ∗ w3Pt c ![0, 2048] inb_S1024x16384_S1024x2048_0_2048 f ∗ w3Pt c ![0, 4096] inb_S1024x16384_S1024x2048_0_4096 f ∗ w3Pt c ![0, 6144] inb_S1024x16384_S1024x2048_0_6144 f ∗ w3Pt c ![0, 8192] inb_S1024x16384_S1024x2048_0_8192 f ∗ w3Pt c ![0, 10240] inb_S1024x16384_S1024x2048_0_10240 f ∗ w3Pt c ![0, 12288] inb_S1024x16384_S1024x2048_0_12288 f ∗ w3Pt c ![0, 14336] inb_S1024x16384_S1024x2048_0_14336 f) := by
  rw [← cut3b, cut3g, show (fun j : Fin 8 => ((a3.view.loc (c : Thread nD τ)) ↦[setsG j]{fullShare} f : sProp 𝕄)) = fun j => w3Pt c ![0, 2048 * j.val] (inbG j) f from funext (cut3s c f)]

theorem cut6g (c : Dev nD) (f : HBuf (F := F) c a6) : (hPt c a6 f : sProp 𝕄) = bigSep Finset.univ (fun j : Fin 8 => ((a6.view.loc (c : Thread nD τ)) ↦[setsD j]{fullShare} f)) :=
  Ring.pointsTo_blocks (Ix := Unit) (Name := ℕ) (U := Pipeline.UD sig nD τ) (Lvl := ℕ) (q := fullShare) (ℓ := (c : Thread nD τ).loc main_arg6) setsD setsD_d setsD_c f
theorem cut6s (c : Dev nD) (f : HBuf (F := F) c a6) (j : Fin 8) : ((a6.view.loc (c : Thread nD τ)) ↦[setsD j]{fullShare} f : sProp 𝕄) = w6Pt c ![1024 * j.val, 0] (inbD j) f := by
  unfold setsD; rw [← set6 j]
theorem cut6b (c : Dev nD) (f : HBuf (F := F) c a6) : (bigSep Finset.univ (fun j : Fin 8 => w6Pt c ![1024 * j.val, 0] (inbD j) f) : sProp 𝕄) = iprop(w6Pt c ![0, 0] inb_S8192x2048_S1024x2048_0_0 f ∗ w6Pt c ![1024, 0] inb_S8192x2048_S1024x2048_1024_0 f ∗ w6Pt c ![2048, 0] inb_S8192x2048_S1024x2048_2048_0 f ∗ w6Pt c ![3072, 0] inb_S8192x2048_S1024x2048_3072_0 f ∗ w6Pt c ![4096, 0] inb_S8192x2048_S1024x2048_4096_0 f ∗ w6Pt c ![5120, 0] inb_S8192x2048_S1024x2048_5120_0 f ∗ w6Pt c ![6144, 0] inb_S8192x2048_S1024x2048_6144_0 f ∗ w6Pt c ![7168, 0] inb_S8192x2048_S1024x2048_7168_0 f) := by
  rw [bigSep_univ_eq_bigSepL [0, 1, 2, 3, 4, 5, 6, 7] (by decide) (by decide)]; rfl
/-- The down weights, held whole, are their eight blocks. -/
theorem cut6 (c : Dev nD) (f : HBuf (F := F) c a6) : (hPt c a6 f : sProp 𝕄) = iprop(w6Pt c ![0, 0] inb_S8192x2048_S1024x2048_0_0 f ∗ w6Pt c ![1024, 0] inb_S8192x2048_S1024x2048_1024_0 f ∗ w6Pt c ![2048, 0] inb_S8192x2048_S1024x2048_2048_0 f ∗ w6Pt c ![3072, 0] inb_S8192x2048_S1024x2048_3072_0 f ∗ w6Pt c ![4096, 0] inb_S8192x2048_S1024x2048_4096_0 f ∗ w6Pt c ![5120, 0] inb_S8192x2048_S1024x2048_5120_0 f ∗ w6Pt c ![6144, 0] inb_S8192x2048_S1024x2048_6144_0 f ∗ w6Pt c ![7168, 0] inb_S8192x2048_S1024x2048_7168_0 f) := by
  rw [← cut6b, cut6g, show (fun j : Fin 8 => ((a6.view.loc (c : Thread nD τ)) ↦[setsD j]{fullShare} f : sProp 𝕄)) = fun j => w6Pt c ![1024 * j.val, 0] (inbD j) f from funext (cut6s c f)]

theorem cut13g (c : Dev nD) (f : HBuf (F := F) c a13) : (hPt c a13 f : sProp 𝕄) = bigSep Finset.univ (fun j : Fin 18 => ((a13.view.loc (c : Thread nD τ)) ↦[setsW j]{fullShare} f)) :=
  Ring.pointsTo_blocks (Ix := Unit) (Name := ℕ) (U := Pipeline.UD sig nD τ) (Lvl := ℕ) (q := fullShare) (ℓ := (c : Thread nD τ).loc cc0_scratch0) setsW setsW_d setsW_c f
theorem cut13s (c : Dev nD) (f : HBuf (F := F) c a13) (j : Fin 18) : ((a13.view.loc (c : Thread nD τ)) ↦[setsW j]{fullShare} f : sProp 𝕄) = slotPt c ![j.val, 0, 0] (inbW j) f := by
  unfold setsW; rw [← set13 j]
theorem cut13b (c : Dev nD) (f : HBuf (F := F) c a13) : (bigSep Finset.univ (fun j : Fin 18 => slotPt c ![j.val, 0, 0] (inbW j) f) : sProp 𝕄) = iprop(slotPt c ![0, 0, 0] (inbSlot 0 (by decide)) f ∗ slotPt c ![1, 0, 0] (inbSlot 1 (by decide)) f ∗ slotPt c ![2, 0, 0] (inbSlot 2 (by decide)) f ∗ slotPt c ![3, 0, 0] (inbSlot 3 (by decide)) f ∗ slotPt c ![4, 0, 0] (inbSlot 4 (by decide)) f ∗ slotPt c ![5, 0, 0] (inbSlot 5 (by decide)) f ∗ slotPt c ![6, 0, 0] (inbSlot 6 (by decide)) f ∗ slotPt c ![7, 0, 0] (inbSlot 7 (by decide)) f ∗ slotPt c ![8, 0, 0] (inbSlot 8 (by decide)) f ∗ slotPt c ![9, 0, 0] (inbSlot 9 (by decide)) f ∗ slotPt c ![10, 0, 0] (inbSlot 10 (by decide)) f ∗ slotPt c ![11, 0, 0] (inbSlot 11 (by decide)) f ∗ slotPt c ![12, 0, 0] (inbSlot 12 (by decide)) f ∗ slotPt c ![13, 0, 0] (inbSlot 13 (by decide)) f ∗ slotPt c ![14, 0, 0] (inbSlot 14 (by decide)) f ∗ slotPt c ![15, 0, 0] (inbSlot 15 (by decide)) f ∗ slotPt c ![16, 0, 0] (inbSlot 16 (by decide)) f ∗ slotPt c ![17, 0, 0] (inbSlot 17 (by decide)) f) := by
  rw [bigSep_univ_eq_bigSepL [0, 1, 2, 3, 4, 5, 6, 7, 8, 9, 10, 11, 12, 13, 14, 15, 16, 17] (by decide) (by decide)]; rfl
/-- The weight ring, held whole, is its eighteen slots. -/
theorem cut13 (c : Dev nD) (f : HBuf (F := F) c a13) : (hPt c a13 f : sProp 𝕄) = iprop(slotPt c ![0, 0, 0] (inbSlot 0 (by decide)) f ∗ slotPt c ![1, 0, 0] (inbSlot 1 (by decide)) f ∗ slotPt c ![2, 0, 0] (inbSlot 2 (by decide)) f ∗ slotPt c ![3, 0, 0] (inbSlot 3 (by decide)) f ∗ slotPt c ![4, 0, 0] (inbSlot 4 (by decide)) f ∗ slotPt c ![5, 0, 0] (inbSlot 5 (by decide)) f ∗ slotPt c ![6, 0, 0] (inbSlot 6 (by decide)) f ∗ slotPt c ![7, 0, 0] (inbSlot 7 (by decide)) f ∗ slotPt c ![8, 0, 0] (inbSlot 8 (by decide)) f ∗ slotPt c ![9, 0, 0] (inbSlot 9 (by decide)) f ∗ slotPt c ![10, 0, 0] (inbSlot 10 (by decide)) f ∗ slotPt c ![11, 0, 0] (inbSlot 11 (by decide)) f ∗ slotPt c ![12, 0, 0] (inbSlot 12 (by decide)) f ∗ slotPt c ![13, 0, 0] (inbSlot 13 (by decide)) f ∗ slotPt c ![14, 0, 0] (inbSlot 14 (by decide)) f ∗ slotPt c ![15, 0, 0] (inbSlot 15 (by decide)) f ∗ slotPt c ![16, 0, 0] (inbSlot 16 (by decide)) f ∗ slotPt c ![17, 0, 0] (inbSlot 17 (by decide)) f) := by
  rw [← cut13b, cut13g, show (fun j : Fin 18 => ((a13.view.loc (c : Thread nD τ)) ↦[setsW j]{fullShare} f : sProp 𝕄)) = fun j => slotPt c ![j.val, 0, 0] (inbW j) f from funext (cut13s c f)]

/-- The slots, each at some contents, are the ring whole at some contents. -/
theorem join13 (c : Dev nD) (f₀ : HBuf (F := F) c a13) : iprop((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f)) ⊢ (iprop(∃ f, hPt (F := F) c a13 f) : sProp 𝕄) := by
  have e : (bigSep Finset.univ (fun j : Fin 18 => (iprop(∃ f, ((a13.view.loc (c : Thread nD τ)) ↦[setsW j]{fullShare} f)) : sProp 𝕄))) = iprop((∃ f, slotPt (F := F) c ![0, 0, 0] (inbSlot 0 (by decide)) f) ∗ (∃ f, slotPt (F := F) c ![1, 0, 0] (inbSlot 1 (by decide)) f) ∗ (∃ f, slotPt (F := F) c ![2, 0, 0] (inbSlot 2 (by decide)) f) ∗ (∃ f, slotPt (F := F) c ![3, 0, 0] (inbSlot 3 (by decide)) f) ∗ (∃ f, slotPt (F := F) c ![4, 0, 0] (inbSlot 4 (by decide)) f) ∗ (∃ f, slotPt (F := F) c ![5, 0, 0] (inbSlot 5 (by decide)) f) ∗ (∃ f, slotPt (F := F) c ![6, 0, 0] (inbSlot 6 (by decide)) f) ∗ (∃ f, slotPt (F := F) c ![7, 0, 0] (inbSlot 7 (by decide)) f) ∗ (∃ f, slotPt (F := F) c ![8, 0, 0] (inbSlot 8 (by decide)) f) ∗ (∃ f, slotPt (F := F) c ![9, 0, 0] (inbSlot 9 (by decide)) f) ∗ (∃ f, slotPt (F := F) c ![10, 0, 0] (inbSlot 10 (by decide)) f) ∗ (∃ f, slotPt (F := F) c ![11, 0, 0] (inbSlot 11 (by decide)) f) ∗ (∃ f, slotPt (F := F) c ![12, 0, 0] (inbSlot 12 (by decide)) f) ∗ (∃ f, slotPt (F := F) c ![13, 0, 0] (inbSlot 13 (by decide)) f) ∗ (∃ f, slotPt (F := F) c ![14, 0, 0] (inbSlot 14 (by decide)) f) ∗ (∃ f, slotPt (F := F) c ![15, 0, 0] (inbSlot 15 (by decide)) f) ∗ (∃ f, slotPt (F := F) c ![16, 0, 0] (inbSlot 16 (by decide)) f) ∗ (∃ f, slotPt (F := F) c ![17, 0, 0] (inbSlot 17 (by decide)) f)) := by
    rw [show (fun j : Fin 18 => (iprop(∃ f, ((a13.view.loc (c : Thread nD τ)) ↦[setsW j]{fullShare} f)) : sProp 𝕄)) = fun j => iprop(∃ f, slotPt (F := F) c ![j.val, 0, 0] (inbW j) f) from
      funext fun j => congrArg (fun P : HBuf (F := F) c a13 → sProp 𝕄 => iprop(∃ f, P f)) (funext fun f => cut13s c f j)]
    rw [bigSep_univ_eq_bigSepL [0, 1, 2, 3, 4, 5, 6, 7, 8, 9, 10, 11, 12, 13, 14, 15, 16, 17] (by decide) (by decide)]; rfl
  rw [← e]
  exact Ring.pointsTo_blocks_join_exists (Ix := Unit) (Name := ℕ) (U := Pipeline.UD sig nD τ) (Lvl := ℕ) (q := fullShare) (ℓ := (c : Thread nD τ).loc cc0_scratch0) setsW setsW_d setsW_c f₀

end Cert.KernelIdeal.Hand

end
-- ==== Proof.Ideal.Core.lean ====
module

public import proofs.«01_k».proof.Proof.Ideal.Cut
public import proofs.«01_k».proof.Proof.Gen.KernelIdeal.Frame
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the kernel, at this algebra -/

set_option maxHeartbeats 800000 in
/-- The program up to the kernel: the host reshapes of the four vectors. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores, the buffers it reads, the buffers it writes -/

/-- The kernel's own semaphore cells: eighteen of the weight ring, four of the other copies in, five of the copies out. -/
def osem0 : Fin 27 → SemLoc sig := fun i => SemLoc.dma (⟨1 + i.val, by omega⟩ : Fin 28)

theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl
/-- What the body reads in the large memory, and -/
def H0 : Finset (Ref sig .tc) := {main_v0, main_arg2, main_arg3, main_v1, main_v2, main_arg6, main_v3}
theorem H0_sub : H0 ⊆ Pipeline.restRefs sig spec0 := by decide
theorem hPts0_eq (c : Dev nD) :
    (bigSep H0 (fun b => ((c : Thread nD τ).loc b) ↦{fullShare} V m c b) : sProp 𝕄) = iprop(hPt c a1 (V m c main_v0) ∗ hPt c a2 (V m c main_arg2) ∗ hPt c a3 (V m c main_arg3) ∗ hPt c a4 (V m c main_v1) ∗ hPt c a5 (V m c main_v2) ∗ hPt c a6 (V m c main_arg6) ∗ hPt c a7 (V m c main_v3)) := by
  rw [BI.bigSep_eq_bigSepL_of_eq [main_v0, main_arg2, main_arg3, main_v1, main_v2, main_arg6, main_v3] (by decide) (by decide)]; rfl
/-- the five results it writes there. -/
def R0 : Finset (Ref sig .tc) := {main_v4_0, main_v4_1, main_v4_2, main_v4_3, main_v4_4}
theorem R0_sub : R0 ⊆ Pipeline.restRefs sig spec0 \ H0 := by decide
theorem routed0_eq (c : Dev nD) (W : (b : Ref sig .tc) → Buf (Elt F) ((c : Thread nD τ).loc b)) :
    (Pipeline.routed R0 c W : sProp 𝕄) = iprop(hPt c a8 (W main_v4_0) ∗ hPt c a9 (W main_v4_1) ∗ hPt c a10 (W main_v4_2) ∗ hPt c a11 (W main_v4_3) ∗ hPt c a12 (W main_v4_4)) := by
  unfold Pipeline.routed; rw [BI.bigSep_eq_bigSepL_of_eq [main_v4_0, main_v4_1, main_v4_2, main_v4_3, main_v4_4] (by decide) (by decide)]; rfl
theorem owned0_eq (c : Dev nD) :
    (Pipeline.owned R0 c : sProp 𝕄) = iprop((∃ f, hPt (F := F) c a8 f) ∗ (∃ f, hPt (F := F) c a9 f) ∗ (∃ f, hPt (F := F) c a10 f) ∗ (∃ f, hPt (F := F) c a11 f) ∗ (∃ f, hPt (F := F) c a12 f)) := by
  unfold Pipeline.owned; rw [BI.bigSep_eq_bigSepL_of_eq [main_v4_0, main_v4_1, main_v4_2, main_v4_3, main_v4_4] (by decide) (by decide)]; rfl
theorem scoped_eq (c : Dev nD) :
    (Pipeline.scopedRest (Ix := Unit) (Name := ℕ) (U := Pipeline.UD sig nD τ) (Lvl := ℕ) (Val := Elt F) spec0 c : sProp 𝕄) = iprop((∃ f, hPt (F := F) c a13 f) ∗ (∃ f, hPt (F := F) c a14 f) ∗ (∃ f, hPt (F := F) c a15 f) ∗ (∃ f, hPt (F := F) c a16 f) ∗ (∃ f, hPt (F := F) c a17 f) ∗ (∃ f, hPt (F := F) c a18 f) ∗ (∃ f, hPt (F := F) c a19 f) ∗ (∃ f, hPt (F := F) c a20 f) ∗ (∃ f, hPt (F := F) c a21 f) ∗ (∃ f, hPt (F := F) c a22 f) ∗ (∃ f, hPt (F := F) c a23 f) ∗ (∃ f, hPt (F := F) c a24 f) ∗ (∃ f, hPt (F := F) c a25 f) ∗ (∃ f, hPt (F := F) c a26 f)) :=
  scopedRest0_eq c

/-- ONE RUN OF THE KERNEL over the buffers as the launch hands them over, each whole: it takes no fault and ends with every
    buffer it reads as it was, every semaphore at zero, and the five results at the values its run computes. -/
theorem core (c : Dev nD) (a0 : Memref sig .tc .vmem S24x2048 .f32) (ha0 : a0.IsWhole) (x0 : HBuf (F := F) c a0) (y8 : HBuf (F := F) c a8) (y9 : HBuf (F := F) c a9) (y10 : HBuf (F := F) c a10) (y11 : HBuf (F := F) c a11) (y12 : HBuf (F := F) c a12)
    (W : Waits sig Unit) (K : PUnit → sProp 𝕄) :
    iprop(Pipeline.scopedRest spec0 c ∗ Pipeline.ownSems0 osem0 c ∗ bigSep H0 (fun b => ((c : Thread nD τ).loc b) ↦{fullShare} V m c b)
      ∗ (hPt c a8 y8 ∗ hPt c a9 y9 ∗ hPt c a10 y10 ∗ hPt c a11 y11 ∗ hPt c a12 y12) ∗ owes (c : Thread nD τ) 0 W ∗ (a0.view.loc (c : Thread nD τ) ↦[a0.view.set]{fullShare} x0)
      ∗ (iprop(Pipeline.scopedRest spec0 c ∗ Pipeline.ownSems0 osem0 c ∗ bigSep H0 (fun b => ((c : Thread nD τ).loc b) ↦{fullShare} V m c b)
          ∗ (∃ x13 x14 x15 x16 x17 x19 x22 x23 x24 x25, hPt c a8 (out8 c a0 x0 (V m c main_v0) (V m c main_arg2) (V m c main_arg3) (V m c main_v1) (V m c main_v2) (V m c main_arg6) (V m c main_v3) x13 x14 x15 x16 x17 x19 y8 x22) ∗ hPt c a9 (out9 c a0 x0 (V m c main_v0) x14 y9 x23) ∗ hPt c a10 (out10 c a0 x0 (V m c main_v0) x14 y10 x25) ∗ hPt c a11 (out11 c a0 x0 (V m c main_v0) (V m c main_arg2) (V m c main_arg3) (V m c main_v1) (V m c main_v2) x13 x14 x15 x16 x19 x24 y11) ∗ hPt c a12 (out12 c a0 x0 (V m c main_v0) (V m c main_arg2) (V m c main_arg3) (V m c main_v1) (V m c main_v2) x13 x14 x15 x16 x19 y12))
          ∗ (∃ W', owes (c : Thread nD τ) 0 W') ∗ (a0.view.loc (c : Thread nD τ) ↦[a0.view.set]{fullShare} x0)) -∗ K ⟨⟩))
    ⊢ wp frame (wpE (defs₀ (F := F)) Variants.none c none) Set.univ (cc0_decode_layer a0 ha0 a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) cc0_scratch14 cc0_scratch15 cc0_scratch16) K := by
  rw [scoped_eq, ownSems00_eq, hPts0_eq, cut2, cut3, cut6]
  iintro ⟨⟨⟨%x13, HS⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, ⟨%x23, H23⟩, ⟨%x24, H24⟩, ⟨%x25, H25⟩, ⟨%x26, H26⟩⟩, ⟨C1, C2, C3, C4, C5, C6, C7, C8, C9, C10, C11, C12, C13, C14, C15, C16, C17, C18, C19, C20, C21, C22, C23, C24, C25, C26, C27⟩, ⟨H1, G, U, H4, H5, D, H7⟩, ⟨H8, H9, H10, H11, H12⟩, HW, H0, Hk⟩
  ihave HS := (Entails.of_eq (cut13 c x13)) $$ HS
  iapply (run0 c a0 ha0 x0 (V m c main_v0) (V m c main_arg2) (V m c main_arg3) (V m c main_v1) (V m c main_v2) (V m c main_arg6) (V m c main_v3) y8 y9 y10 y11 y12 x13 x14 x15 x16 x17 x18 x19 x20 x21 x22 x23 x24 x25 x26 W K)
  isplitl [H0]; · iexact H0
  isplitl [H1]; · iexact H1
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [HS]; · iexact HS
  isplitl [G]; · iexact G
  isplitl [U]; · iexact U
  isplitl [D]; · iexact D
  isplitl [C1 C2 C3 C4 C5 C6 C7 C8 C9 C10 C11 C12 C13 C14 C15 C16 C17 C18]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  isplitl [C21]; · iexact C21
  isplitl [C23 C24 C25 C26 C27]
  · isplitl [C23]; · iexact C23
    isplitl [C24]; · iexact C24
    isplitl [C25]; · iexact C25
    isplitl [C26]; · iexact C26
    iexact C27
  isplitl [HW]; · iexact HW
  iintro ⟨H0, H1, H4, H5, H7, H8, H9, H10, H11, H12, H14, H15, H16, H17, H18, H19, H20, H21, H22, H23, H24, H25, H26, S, G, U, D, ⟨C1, C2, C3, C4, C5, C6, C7, C8, C9, C10, C11, C12, C13, C14, C15, C16, C17, C18⟩, C21, ⟨C23, C24, C25, C26, C27⟩, HW⟩
  ihave HS := (join13 c x13) $$ S
  iapply Hk
  isplitl [HS H14 H15 H16 H17 H18 H19 H20 H21 H22 H23 H24 H25 H26]
  · isplitl [HS]; · iexact HS
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  isplitl [C1 C2 C3 C4 C5 C6 C7 C8 C9 C10 C11 C12 C13 C14 C15 C16 C17 C18 C19 C20 C21 C22 C23 C24 C25 C26 C27]
  · isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    iexact C27
  isplitl [H1 G U H4 H5 D H7]
  · isplitl [H1]; · iexact H1
    isplitl [G]; · iexact G
    isplitl [U]; · iexact U
    isplitl [H4]; · iexact H4
    isplitl [H5]; · iexact H5
    isplitl [D]; · iexact D
    iexact H7
  isplitl [H8 H9 H10 H11 H12]
  · iexists x13, x14, x15, x16, x17, x19, x22, x23, x24, x25
    isplitl [H8]; · iexact H8
    isplitl [H9]; · iexact H9
    isplitl [H10]; · iexact H10
    isplitl [H11]; · iexact H11
    iexact H12
  isplitl [HW]; · iexact HW
  iexact H0

end Cert.KernelIdeal.Hand

end
-- ==== Proof.Ideal.Launched.lean ====
module

public import proofs.«01_k».proof.Proof.Ideal.Core

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: the program terminates, nothing faults, its arguments end unchanged, every semaphore counter ends at zero -/

/-- The proof data of the one launch on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ _ := Pipeline.ΦDR osem0 spec0 H0 R0 (V m) c
  q _ := fullShare
  owed _ := 0

/-- The staged array is the one the launch finds, -/
theorem A_eq (c : Dev nD) (w : Fin cfg0.W) : (dats m 0 c).A w = V m c (Pipeline.arrRef spec0 w) := by dsimp only [dats]
/-- its window is left as it was, -/
theorem after0_0 (c : Dev nD) (t : Fin cfg0.N) : (dats m 0 c).after 0 t = iblk m c 0 t := by dsimp only [dats]
/-- and the body finds the block in it. -/
theorem before_eq (c : Dev nD) (t : Fin cfg0.N) (d) : (dats m 0 c).before 0 t d = iblk m c 0 t :=
  before0_0 m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem PhiDR0_eq (c : Dev nD) :
    (Pipeline.ΦDR osem0 spec0 H0 R0 (V m) c : sProp 𝕄)
      = iprop(Pipeline.scopedRest spec0 c ∗ (∃ r, prngReg c r) ∗ Pipeline.ownSems0 osem0 c
          ∗ (bigSep H0 fun b => ((c : Thread nD τ).loc b) ↦{fullShare} V m c b) ∗ Pipeline.owned R0 c) := by
  first | rfl | exact Pipeline.ΦDR_eq _ _ _ _ _ _

/-- The body, from what it is handed at the point to what it leaves there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦDR osem0 spec0 H0 R0 (V m) c from rfl, PhiDR0_eq, owned0_eq]
  unfold Dat.owesAt Pipeline.owesWithin
  rw [show (dats m 0 c).owed t.castSucc = 0 from rfl, show (dats m 0 c).owed t.succ = 0 from rfl]
  simp only [before_eq]
  unfold owns
  iintro ⟨⟨HS, Hg, HC, HH, ⟨%y8, H8⟩, ⟨%y9, H9⟩, ⟨%y10, H10⟩, ⟨%y11, H11⟩, ⟨%y12, H12⟩⟩, ⟨%W, -, HW⟩, ⟨%d0, %f0, %hf0, H0⟩⟩
  iapply (core m c _ _ f0 y8 y9 y10 y11 y12 W _)
  isplitl [HS]; · iexact HS
  isplitl [HC]; · iexact HC
  isplitl [HH]; · iexact HH
  isplitl [H8 H9 H10 H11 H12]
  · isplitl [H8]; · iexact H8
    isplitl [H9]; · iexact H9
    isplitl [H10]; · iexact H10
    isplitl [H11]; · iexact H11
    iexact H12
  isplitl [HW]; · iexact HW
  isplitl [H0]; · iexact H0
  iintro ⟨HS, HC, HH, ⟨%x13, %x14, %x15, %x16, %x17, %x19, %x22, %x23, %x24, %x25, H8, H9, H10, H11, H12⟩, ⟨%W', HW⟩, H0⟩
  isplitl [HS Hg HC HH H8 H9 H10 H11 H12]
  · isplitl [HS]; · iexact HS
    isplitl [Hg]; · iexact Hg
    isplitl [HC]; · iexact HC
    isplitl [HH]; · iexact HH
    isplitl [H8]; · iexists _; iexact H8
    isplitl [H9]; · iexists _; iexact H9
    isplitl [H10]; · iexists _; iexact H10
    isplitl [H11]; · iexists _; iexact H11
    iexists _; iexact H12
  isplitl [HW]
  · iexists W'; isplitr; · ipureintro; exact fun _ _ => Or.inl trivial
    iexact HW
  iexists f0; isplitr
  · ipureintro; exact hf0
  iexact H0

theorem defs₀_row (t : Fin cfg0.N) : defs₀ (F := F) .tc cfg0.body (cfg0.bodyArgs t (cfg0.slots t)) = bodyAt0 t := by
  unfold defs₀; rw [Defs.onTc_tc]

/-- The body meets what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the program terminates without a fault, its eight arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hs => ⟨fun c => have h := hs.1; ⟨((h c).1 0).trans (((dats m 0 c).arrAt_in 0 rfl _).trans ((A_eq m c 0).trans (V_main_arg0 m c))),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩, hs.2⟩) (run_main m ρ)

end Cert.KernelIdeal.Hand

end
-- ==== Proof.Value.Mlp.lean ====
module

public import Idealize.ShloMosaic.Lib.Pointwise
public import Idealize.ShloMosaic.Lib.KernelVsHost.DropoutScale

@[expose] public section

set_option maxRecDepth 16384

noncomputable section

/-! # The mathematics both programs compute

One row-wise MLP block with int8 activations and int4 weights, written over the extended reals. Everything here is a plain
function of the eight arguments; the kernel and the reference are each shown to leave exactly these values. -/
namespace Cert.Mlp
open Idealize.ShloMosaic Idealize.ShloMosaic.TcCoe

/-- The low four bits of a weight byte as a signed number, -/
def lo (b : BitVec 8) : EReal :=
  FloatOps.sitofp (F := Ideal) .bf16 (IntOp.shrsi .vector (IntOp.shli .vector (BitVec.setWidth 32 b) 28#32) 28#32)
/-- and the high four. -/
def hi (b : BitVec 8) : EReal :=
  FloatOps.sitofp (F := Ideal) .bf16 (IntOp.shrsi .vector (IntOp.shli .vector (BitVec.setWidth 32 b) 24#32) 28#32)

/-- The largest magnitude of a row. -/
def rowMax {n : ℕ} (v : Fin n → EReal) : EReal :=
  Finset.fold max (Ideal.ofBits .f32 4286578688#32) (fun k => FloatOps.absf (F := Ideal) (φ := .f32) (v k)) Finset.univ
/-- The quantisation scale of a row whose largest magnitude is `a`: `a / 127`, or 1 for a zero row. -/
def scaleOf (a : EReal) : EReal := if a = 0 then 1 else Ideal.div a (Ideal.ofBits .f32 1123942400#32)
/-- A value's code at scale `s`: divided, rounded half to even, clipped to [-127, 127]. -/
def code (v s : EReal) : EReal :=
  min (Ideal.ofBits .f32 1123942400#32) (max (Ideal.ofBits .f32 3271426048#32) (Ideal.liftRound Ideal.roundHalfEven (Ideal.div v s)))
/-- A dot product of codes with packed weights: the first half of the codes against the low nibbles, the second against the high. -/
def dot {n : ℕ} (cl ch : Fin n → EReal) (W : Fin n → BitVec 8) : EReal := ∑ x, cl x * lo (W x) + ∑ x, ch x * hi (W x)
/-- `gelu (max z 0)`, in the tanh form. -/
def act (z : EReal) : EReal :=
  max z 0 * (Ideal.ofBits .f32 1056964608#32 * (1 + Ideal.tanh (Ideal.ofBits .f32 1061962282#32 *
    (max z 0 + Ideal.ofBits .f32 1027024659#32 * (max z 0 * (max z 0 * max z 0))))))

/-- The arguments of the block. -/
structure In where
  X : Fin 24 → Fin 2048 → EReal
  w : Fin 2048 → EReal
  Wg : Fin 1024 → Fin 16384 → BitVec 8
  Wu : Fin 1024 → Fin 16384 → BitVec 8
  sg : Fin 16384 → EReal
  su : Fin 16384 → EReal
  Wd : Fin 8192 → Fin 2048 → BitVec 8
  sd : Fin 2048 → EReal

variable (A : In)

/-- The root-mean-square normalised rows, -/
def nrm (r : Fin 24) (l : Fin 2048) : EReal :=
  Ideal.div (A.X r l) (Ideal.sqrt (Ideal.div (∑ k, A.X r k * A.X r k) (Ideal.ofBits .f32 0x45000000#32) + Ideal.ofBits .f32 0x358637BD#32)) * A.w l
/-- their scales -/
def ms (r : Fin 24) : EReal := scaleOf (rowMax (nrm A r))
/-- and codes. -/
def mc (r : Fin 24) (l : Fin 2048) : EReal := code (nrm A r l) (ms A r)
/-- The gate product, -/
def gate (r : Fin 24) (n : Fin 16384) : EReal :=
  dot (fun x : Fin 1024 => mc A r ⟨x.val, by omega⟩) (fun x => mc A r ⟨1024 + x.val, by omega⟩) (fun x => A.Wg x n) * ms A r * A.sg n
/-- the up product, -/
def up (r : Fin 24) (n : Fin 16384) : EReal :=
  dot (fun x : Fin 1024 => mc A r ⟨x.val, by omega⟩) (fun x => mc A r ⟨1024 + x.val, by omega⟩) (fun x => A.Wu x n) * ms A r * A.su n
/-- the mean of a gate row -/
def mu (r : Fin 24) : EReal := Ideal.div (∑ n, gate A r n) (Ideal.ofBits .f32 0x46800000#32)
/-- and its variance. -/
def va (r : Fin 24) : EReal := Ideal.div (∑ n, (gate A r n - mu A r) * (gate A r n - mu A r)) (Ideal.ofBits .f32 0x46800000#32)
/-- The cutoff: the mean plus a multiple of the deviation. -/
def cut (r : Fin 24) : EReal := mu A r + Ideal.ofBits .f32 0x3FD28A90#32 * Ideal.sqrt (va A r)
/-- The hidden rows, -/
def hid (r : Fin 24) (n : Fin 16384) : EReal := act (gate A r n - cut A r) * up A r n
/-- their scales -/
def hs (r : Fin 24) : EReal := scaleOf (rowMax (hid A r))
/-- and codes. -/
def hc (r : Fin 24) (n : Fin 16384) : EReal := code (hid A r n) (hs A r)
/-- The down product. -/
def dn (r : Fin 24) (l : Fin 2048) : EReal :=
  dot (fun x : Fin 8192 => hc A r ⟨x.val, by omega⟩) (fun x => hc A r ⟨8192 + x.val, by omega⟩) (fun x => A.Wd x l) * hs A r * A.sd l

/-! ### Constants and small laws -/

theorem c127 : Ideal.ofBits .f32 1123942400#32 = ((127 : ℝ) : EReal) := by simp [Ideal.ofBits, Ideal.ieee, -EReal.coe_mul]; norm_num
theorem cm127 : Ideal.ofBits .f32 3271426048#32 = ((-127 : ℝ) : EReal) := by simp [Ideal.ofBits, Ideal.ieee, -EReal.coe_mul]; norm_num
theorem c2048 : Ideal.ofBits .f32 0x45000000#32 = ((2048 : ℝ) : EReal) := by simp [Ideal.ofBits, Ideal.ieee, -EReal.coe_mul]; norm_num
theorem c16384 : Ideal.ofBits .f32 0x46800000#32 = ((16384 : ℝ) : EReal) := by simp [Ideal.ofBits, Ideal.ieee, -EReal.coe_mul]; norm_num
theorem r2048 : Ideal.ofBits .f32 0x3A000000#32 = ((1 / 2048 : ℝ) : EReal) := by simp [Ideal.ofBits, Ideal.ieee, -EReal.coe_mul]; norm_num
theorem r16384 : Ideal.ofBits .f32 0x38800000#32 = ((1 / 16384 : ℝ) : EReal) := by simp [Ideal.ofBits, Ideal.ieee, -EReal.coe_mul]; norm_num

/-- Multiplying by the reciprocal of 2048, or of 16384, is dividing by it. -/
theorem mul_r2048 (x : EReal) : x * Ideal.ofBits .f32 0x3A000000#32 = Ideal.div x (Ideal.ofBits .f32 0x45000000#32) := by
  rw [r2048, c2048, Ideal.div_coe (by norm_num)]
theorem mul_r16384 (x : EReal) : x * Ideal.ofBits .f32 0x38800000#32 = Ideal.div x (Ideal.ofBits .f32 0x46800000#32) := by
  rw [r16384, c16384, Ideal.div_coe (by norm_num)]

/-- A code is an integer of [-127, 127]. -/
theorem code_int (v s : EReal) : ∃ z : ℤ, -127 ≤ z ∧ z ≤ 127 ∧ code v s = ((z : ℝ) : EReal) := by
  unfold code
  rw [c127, cm127]
  induction h : Ideal.div v s using EReal.rec with
  | bot => exact ⟨-127, by norm_num, by norm_num, by
      rw [Ideal.liftRound_bot, max_eq_left bot_le, min_eq_right (by exact_mod_cast (by norm_num : (-127 : ℝ) ≤ 127))]; norm_num⟩
  | top => exact ⟨127, by norm_num, by norm_num, by
      rw [Ideal.liftRound_top, max_eq_right le_top, min_eq_left le_top]; norm_num⟩
  | coe t =>
    refine ⟨min 127 (max (-127) (Ideal.roundHalfEven t)), by omega, by omega, ?_⟩
    rw [Ideal.liftRound_coe]
    rcases le_total (Ideal.roundHalfEven t) (-127) with h1 | h1
    · rw [max_eq_left (by exact_mod_cast h1), min_eq_right (by exact_mod_cast (by norm_num : (-127 : ℝ) ≤ 127)),
        max_eq_left h1, min_eq_right (by norm_num)]; norm_num
    · rw [max_eq_right (by exact_mod_cast h1), max_eq_right h1]
      rcases le_total (Ideal.roundHalfEven t) 127 with h2 | h2
      · rw [min_eq_right (by exact_mod_cast h2), min_eq_right h2]
      · rw [min_eq_left (by exact_mod_cast h2), min_eq_left h2]; norm_num

/-- So storing it as int8 and reading it back changes nothing. -/
theorem code_back (φ : FTy) (v s : EReal) : FloatOps.sitofp (F := Ideal) φ (Ideal.fptosi 8 (code v s)) = code v s := by
  obtain ⟨z, h1, h2, h⟩ := code_int v s
  rw [h]
  have e : Ideal.fptosi 8 ((z : ℝ) : EReal) = BitVec.ofInt 8 z := by
    rw [Ideal.fptosi, Ideal.toIntClamped_coe]
    have : (if (0 : ℝ) ≤ (z : ℝ) then ⌊(z : ℝ)⌋ else ⌈(z : ℝ)⌉) = z := by split_ifs <;> simp
    rw [this]
    congr 1
    norm_num
    omega
  rw [e]
  show (((BitVec.ofInt 8 z).toInt : ℝ) : EReal) = _
  rw [BitVec.toInt_ofInt]
  have : z.bmod (2 ^ 8) = z := by
    have h3 : (2 ^ 8 : ℕ) = 256 := by norm_num
    rw [h3, Int.bmod_eq_of_le (by omega) (by omega)]
  rw [this]

theorem abs_nonneg' (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

/-- The largest magnitude of a row is the least bound of the magnitudes. -/
theorem rowMax_le {n : ℕ} (v : Fin n → EReal) (b : EReal) :
    rowMax v ≤ b ↔ Ideal.ofBits .f32 4286578688#32 ≤ b ∧ ∀ k, FloatOps.absf (F := Ideal) (φ := .f32) (v k) ≤ b := by
  unfold rowMax
  rw [Finset.fold_max_le]
  simp
theorem ninf : Ideal.ofBits .f32 4286578688#32 = ⊥ := by simp [Ideal.ofBits, Ideal.ieee]

end Cert.Mlp
end
-- ==== Proof.Value.Pays.lean ====
module

public import proofs.«01_k».proof.Proof.Gen.KernelIdeal.Skeleton
public import proofs.«01_k».proof.Proof.Value.Mlp

@[expose] public section

set_option maxRecDepth 16384

noncomputable section
namespace Cert.KernelIdeal.Hand
open Cert.KernelIdeal Cert.KernelIdeal.Gen
open Idealize.ShloMosaic Idealize.ShloMosaic.TcCoe Idealize.SL.Sem

open Cert.Mlp

/-! ### What each stored value of the kernel is, read at one index -/

variable (x y : Vec Ideal S24x2048 .f32) (w : Vec Ideal S1x2048 .f32) (q p : FVec Ideal S24x1 .f32) (r : Fin 24) (l : Fin 2048)

/-- The mean square plus epsilon of a row. -/
theorem pay22_at : k0_pay22 x (ix2 r 0) = Ideal.div (∑ k, x (ix2 r k) * x (ix2 r k)) (Ideal.ofBits .f32 0x45000000#32) + Ideal.ofBits .f32 0x358637BD#32 := by
  pointwise [k0_pay22]
  exact congrArg (· + _) (mul_r2048 _)
theorem pay23_at : k0_pay23 x w q (ix2 r l) = Ideal.div (x (ix2 r l)) (Ideal.sqrt (q (ix2 r 0))) * w (ix2 0 l) := by pointwise [k0_pay23]
theorem pay24_at : k0_pay24 x w q (ix2 r 0) = scaleOf (rowMax fun k => k0_pay23 x w q (ix2 r k)) := by pointwise [k0_pay24]; rfl
theorem pay25_at : k0_pay25 x w q (ix2 r l) = code (k0_pay23 x w q (ix2 r l)) (k0_pay24 x w q (ix2 r 0)) := by pointwise [k0_pay25]; rfl
theorem pay26_at : k0_pay26 x w q (ix2 r l) = Ideal.fptosi 8 (k0_pay25 x w q (ix2 r l)) := by pointwise [k0_pay26]; rfl

/-- Summing a column masked to its own row's entry picks that entry. -/
theorem pick (f : Fin 24 → EReal) (r : Fin 24) :
    ∑ x : Fin 24, Scalar.select (IntOp.cmpi CmpIPredicate.eq (BitVec.ofNat 32 x.val) (BitVec.ofNat 32 r.val)) (f x) 0 = f r := by
  have h : ∀ x r : Fin 24, IntOp.cmpi CmpIPredicate.eq (BitVec.ofNat 32 x.val) (BitVec.ofNat 32 r.val) = if x = r then 1#1 else 0#1 := by decide +kernel
  rw [Finset.sum_eq_single r]
  · rw [h, if_pos rfl]; rfl
  · intro b _ hb; rw [h, if_neg hb]; rfl
  · intro hr; exact absurd (Finset.mem_univ r) hr
theorem pay27_at : k0_pay27 x w q (ix2 0 r) = k0_pay24 x w q (ix2 r 0) := by
  pointwise [k0_pay27]; exact pick (fun x_1 => k0_pay24 x w q (ix2 x_1 0)) r
theorem pay53_at : k0_pay53 q (ix2 0 r) = k0_pay52 q (ix2 r 0) := by
  pointwise [k0_pay53]; exact pick (fun x_1 => k0_pay52 q (ix2 x_1 0)) r
theorem pay52_at : k0_pay52 q (ix2 r 0) = scaleOf (q (ix2 r 0)) := by pointwise [k0_pay52]; rfl

/-- The int4 product's contraction: position `x` of the interleaved codes meets the low nibble of weight row `x / 2` when `x` is
    even, the high nibble when it is odd. -/
theorem contract (xi : Fin 2048 → EReal) (cl ch : Fin 1024 → EReal) (W : Fin 1024 → BitVec 8)
    (hl : ∀ i : Fin 1024, xi ⟨2 * i.val, by omega⟩ = cl i) (hh : ∀ i : Fin 1024, xi ⟨2 * i.val + 1, by omega⟩ = ch i) :
    ∑ x : Fin 2048, xi x * FloatOps.sitofp (F := Ideal) FTy.bf16
        (if h : x.val % 2 < 1 then
          IntOp.shrsi ArithUnit.vector (IntOp.shli ArithUnit.vector (BitVec.setWidth 32 (W ⟨x.val / 2, by omega⟩)) 28#32) 28#32
        else IntOp.shrsi ArithUnit.vector (IntOp.shli ArithUnit.vector (BitVec.setWidth 32 (W ⟨x.val / 2, by omega⟩)) 24#32) 28#32)
      = dot cl ch W := by
  unfold dot
  rw [Fin.sum_univ_tiles 1024 2 rfl, ← Finset.sum_add_distrib]
  refine Finset.sum_congr rfl fun i _ => ?_
  rw [Fin.sum_univ_two]
  refine congrArg₂ (· + ·) ?_ ?_
  · rw [dif_pos (by show (i.val * 2 + 0) % 2 < 1; omega), ← hl i]
    refine congrArg₂ (· * ·) (congrArg xi (Fin.ext (by show i.val * 2 + 0 = 2 * i.val; omega))) ?_
    exact congrArg (fun j => lo (W j)) (Fin.ext (by show (i.val * 2 + 0) / 2 = i.val; omega))
  · rw [dif_neg (by show ¬ (i.val * 2 + 1) % 2 < 1; omega), ← hh i]
    refine congrArg₂ (· * ·) (congrArg xi (Fin.ext (by show i.val * 2 + 1 = 2 * i.val + 1; omega))) ?_
    exact congrArg (fun j => hi (W j)) (Fin.ext (by show (i.val * 2 + 1) / 2 = i.val; omega))

section Prod
variable (xi : Vec Ideal S24x2048 .bf16) (g : Vec Ideal S1x1024x2048 .i8) (cl ch : Fin 1024 → EReal)
  (hl : ∀ i : Fin 1024, xi (ix2 r ⟨2 * i.val, by omega⟩) = cl i) (hh : ∀ i : Fin 1024, xi (ix2 r ⟨2 * i.val + 1, by omega⟩) = ch i)
include hl hh

/-- A block of the gate (or up) product. -/
theorem pay2_at : k0_pay2 q xi g w (ix2 r l) = dot cl ch (fun i => g (ix3 0 i l)) * q (ix2 r 0) * w (ix2 0 l) := by
  pointwise [k0_pay2]
  exact congrArg (fun z : EReal => z * q (ix2 r 0) * w (ix2 0 l)) (contract (fun x => xi (ix2 r x)) cl ch (fun i => g (ix3 0 i l)) hl hh)
theorem pay4_at : k0_pay4 q xi g w (ix2 r l) = dot cl ch (fun i => g (ix3 0 i l)) * q (ix2 r 0) * w (ix2 0 l) := pay2_at w q r l xi g cl ch hl hh
theorem pay3_at : k0_pay3 q xi g w (ix2 r l) = dot cl ch (fun i => g (ix3 0 i l)) * q (ix2 r 0) * w (ix2 0 l) := by
  pointwise [k0_pay3]; exact pay2_at w q r l xi g cl ch hl hh
/-- One block of the down product added to the accumulator. -/
theorem pay21_at : k0_pay21 x xi g (ix2 r l) = x (ix2 r l) + dot cl ch (fun i => g (ix3 0 i l)) := by
  pointwise [k0_pay21]
  exact congrArg (fun z : EReal => x (ix2 r l) + z) (contract (fun x => xi (ix2 r x)) cl ch (fun i => g (ix3 0 i l)) hl hh)
end Prod

theorem pay5_at : k0_pay5 q x (ix2 r l) = x (ix2 r l) - q (ix2 r 0) := by pointwise [k0_pay5]
theorem pay42_at : k0_pay42 q x (ix2 r 0) = q (ix2 r 0) + ∑ k, x (ix2 r k) := by pointwise [k0_pay42]
theorem pay41_at : k0_pay41 (F := Ideal) (ix2 r 0) = 0 := by pointwise [k0_pay41]
theorem pay44_at : k0_pay44 (F := Ideal) (ix2 r 0) = 0 := by pointwise [k0_pay44]
theorem pay48_at : k0_pay48 (F := Ideal) (ix2 r 0) = 0 := by pointwise [k0_pay48]
theorem pay54_at : k0_pay54 (F := Ideal) (ix2 r l) = 0 := by pointwise [k0_pay54]
theorem pay43_at : k0_pay43 q (ix2 r 0) = Ideal.div (q (ix2 r 0)) (Ideal.ofBits .f32 0x46800000#32) := by
  pointwise [k0_pay43]; exact mul_r16384 _
theorem pay46_at : k0_pay46 q (ix2 r 0) = Ideal.div (q (ix2 r 0)) (Ideal.ofBits .f32 0x46800000#32) := by
  pointwise [k0_pay46]; exact mul_r16384 _
theorem pay45_at : k0_pay45 p q x (ix2 r 0) = q (ix2 r 0) + ∑ k, (x (ix2 r k) - p (ix2 r 0)) * (x (ix2 r k) - p (ix2 r 0)) := by pointwise [k0_pay45]
theorem pay47_at : k0_pay47 p q (ix2 r 0) = p (ix2 r 0) + Ideal.ofBits .f32 0x3FD28A90#32 * Ideal.sqrt (q (ix2 r 0)) := by pointwise [k0_pay47]
theorem pay49_at : k0_pay49 (F := Ideal) x y (ix2 r l) = act (y (ix2 r l)) * x (ix2 r l) := by pointwise [k0_pay49]; rfl
theorem pay50_at : k0_pay50 (F := Ideal) x y (ix2 r l) = act (y (ix2 r l)) * x (ix2 r l) := by pointwise [k0_pay50]; exact pay49_at x y r l
theorem pay51_at : k0_pay51 q x y (ix2 r 0) = max (q (ix2 r 0)) (rowMax fun k => act (y (ix2 r k)) * x (ix2 r k)) := by
  pointwise [k0_pay51]
  simp only [pay49_at]; rfl
theorem pay55_at : k0_pay55 q x (ix2 r l) = x (ix2 r l) * scaleOf (q (ix2 r 0)) := by
  pointwise [k0_pay55]; exact congrArg (fun z : EReal => x (ix2 r l) * z) (pay52_at q r)
theorem pay1_at : k0_pay1 x w (ix3 r 0 l) = x (ix2 r l) * w (ix2 0 l) := by pointwise [k0_pay1]

section Down
variable (v : Vec Ideal S24x1024 .f32) (i : Fin 1024)
theorem pay6_at : k0_pay6 q v (ix2 r i) = code (v (ix2 r i)) (q (ix2 r 0)) := by pointwise [k0_pay6]; rfl
theorem pay8_at : k0_pay8 q v (ix2 r i) = code (v (ix2 r i)) (q (ix2 r 0)) := by pointwise [k0_pay8]; rfl
theorem pay7_at : k0_pay7 q v (ix2 r i) = Ideal.fptosi 8 (code (v (ix2 r i)) (q (ix2 r 0))) := by
  pointwise [k0_pay7]; exact congrArg (Ideal.fptosi 8) (pay6_at q r v i)
theorem pay9_at : k0_pay9 q v (ix2 r i) = Ideal.fptosi 8 (code (v (ix2 r i)) (q (ix2 r 0))) := by
  pointwise [k0_pay9]; exact congrArg (Ideal.fptosi 8) (pay8_at q r v i)
end Down
theorem pay28_at (i : Fin 1024) : k0_pay28 x w q (ix2 r i) = k0_pay25 x w q (ix2 r ⟨i.val, by omega⟩) := by pointwise [k0_pay28]
theorem pay29_at (i : Fin 1024) : k0_pay29 x w q (ix2 r i) = k0_pay25 x w q (ix2 r ⟨1024 + i.val, by omega⟩) := by pointwise [k0_pay29]

end Cert.KernelIdeal.Hand
end
-- ==== Proof.Value.Perm.lean ====
module

public import proofs.«01_k».proof.Proof.Gen.KernelIdeal.Skeleton
public import proofs.«01_k».proof.Proof.Value.Mlp

@[expose] public section

set_option maxRecDepth 16384

noncomputable section
namespace Cert.KernelIdeal.Hand
open Cert.KernelIdeal Cert.KernelIdeal.Gen
open Idealize.ShloMosaic Idealize.ShloMosaic.TcCoe Idealize.SL.Sem

open Cert.Mlp

/-! ### Interleaving two rows of codes by a product with a permutation matrix -/

/-- The permutation matrix: column `2 i` picks position `i` of the first 128, column `2 i + 1` position `i` of the second 128. -/
def permM : FVec Ideal S256x256 .bf16 :=
  have v411 : IVec S256x256 32 := iota .tc S256x256 32 [0] iota_S256x256_d0_w32
  have v412 : IVec S256x256 32 := iota .tc S256x256 32 [1] iota_S256x256_d1_w32
  have v413 : IVec S256x256 32 := broadcast S256x256 128#32
  have v414 : IVec S256x256 1 := cmpi .slt v411 v413
  have v415 : IVec S256x256 32 := broadcast S256x256 2#32
  have v416 : IVec S256x256 32 := muli v415 v411
  have v417 : IVec S256x256 32 := broadcast S256x256 128#32
  have v418 : IVec S256x256 32 := subi v411 v417
  have v419 : IVec S256x256 32 := broadcast S256x256 2#32
  have v420 : IVec S256x256 32 := muli v419 v418
  have v421 : IVec S256x256 32 := broadcast S256x256 1#32
  have v422 : IVec S256x256 32 := addi v420 v421
  have v423 : IVec S256x256 32 := select v414 v416 v422
  have v424 : IVec S256x256 1 := cmpi .eq v412 v423
  have v425 : IVec S256x256 32 := extui 32 v424 natLt_1_32
  have v426 : FVec Ideal S256x256 .f32 := sitofp .f32 v425
  truncf .bf16 v426 bitsLt_bf16_f32

/-- Where column `c` of the product comes from. -/
def src (c : Fin 256) : Fin 256 := ⟨c.val / 2 + 128 * (c.val % 2), by omega⟩

theorem permM_word : ∀ y c : Fin 256, BitVec.setWidth 32
        (IntOp.cmpi CmpIPredicate.eq (BitVec.ofNat 32 c.val)
          (Scalar.select (IntOp.cmpi CmpIPredicate.slt (BitVec.ofNat 32 y.val) 128#32)
            (IntOp.muli (2#32) (BitVec.ofNat 32 y.val))
            (IntOp.addi (IntOp.muli (2#32) (IntOp.subi (BitVec.ofNat 32 y.val) 128#32)) 1#32)))
      = if y = src c then 1#32 else 0#32 := by decide +kernel

theorem permM_at (y c : Fin 256) : permM (ix2 y c) = if y = src c then 1 else 0 := by
  pointwise [permM]
  rw [permM_word y c]
  split
  · show ((((1#32 : BitVec 32).toInt : ℝ)) : EReal) = 1
    norm_num
  · show ((((0#32 : BitVec 32).toInt : ℝ)) : EReal) = 0
    norm_num

variable (v0 v1 v2 v3 v4 v5 v6 v7 : FVec Ideal S24x256 .f32) (r : Fin 24) (y c : Fin 256)

/-- Eight blocks of 24 rows, one on top of the other. -/
def stack : FVec Ideal S192x256 .f32 :=
  concatenate S192x256 0 [⟨S24x256, v0⟩, ⟨S24x256, v1⟩, ⟨S24x256, v2⟩, ⟨S24x256, v3⟩, ⟨S24x256, v4⟩, ⟨S24x256, v5⟩, ⟨S24x256, v6⟩, ⟨S24x256, v7⟩]
    concatenates_S24x256_S24x256_S24x256_S24x256_S24x256_S24x256_S24x256_S24x256_S192x256_d0
theorem stack_at (n : ℕ) (hn : n < 192) : stack v0 v1 v2 v3 v4 v5 v6 v7 (ix2 ⟨n, hn⟩ y)
    = if h : n < 24 then v0 (ix2 ⟨n, h⟩ y) else if h : n - 24 < 24 then v1 (ix2 ⟨n - 24, h⟩ y)
      else if h : n - 24 - 24 < 24 then v2 (ix2 ⟨n - 24 - 24, h⟩ y) else if h : n - 24 - 24 - 24 < 24 then v3 (ix2 ⟨n - 24 - 24 - 24, h⟩ y)
      else if h : n - 24 - 24 - 24 - 24 < 24 then v4 (ix2 ⟨n - 24 - 24 - 24 - 24, h⟩ y)
      else if h : n - 24 - 24 - 24 - 24 - 24 < 24 then v5 (ix2 ⟨n - 24 - 24 - 24 - 24 - 24, h⟩ y)
      else if h : n - 24 - 24 - 24 - 24 - 24 - 24 < 24 then v6 (ix2 ⟨n - 24 - 24 - 24 - 24 - 24 - 24, h⟩ y)
      else v7 (ix2 ⟨n - 24 - 24 - 24 - 24 - 24 - 24 - 24, by omega⟩ y) := by pointwise [stack]
theorem stack_0 : stack v0 v1 v2 v3 v4 v5 v6 v7 (ix2 ⟨0 + r.val, by omega⟩ y) = v0 (ix2 r y) := by
  rw [stack_at, dif_pos (by omega)]; exact congrArg (fun i => v0 (ix2 i y)) (Fin.ext (by simp only; omega))
theorem stack_1 : stack v0 v1 v2 v3 v4 v5 v6 v7 (ix2 ⟨24 + r.val, by omega⟩ y) = v1 (ix2 r y) := by
  rw [stack_at, dif_neg (by omega), dif_pos (by omega)]; exact congrArg (fun i => v1 (ix2 i y)) (Fin.ext (by simp only; omega))
theorem stack_2 : stack v0 v1 v2 v3 v4 v5 v6 v7 (ix2 ⟨48 + r.val, by omega⟩ y) = v2 (ix2 r y) := by
  rw [stack_at, dif_neg (by omega), dif_neg (by omega), dif_pos (by omega)]; exact congrArg (fun i => v2 (ix2 i y)) (Fin.ext (by simp only; omega))
theorem stack_3 : stack v0 v1 v2 v3 v4 v5 v6 v7 (ix2 ⟨72 + r.val, by omega⟩ y) = v3 (ix2 r y) := by
  rw [stack_at, dif_neg (by omega), dif_neg (by omega), dif_neg (by omega), dif_pos (by omega)]; exact congrArg (fun i => v3 (ix2 i y)) (Fin.ext (by simp only; omega))
theorem stack_4 : stack v0 v1 v2 v3 v4 v5 v6 v7 (ix2 ⟨96 + r.val, by omega⟩ y) = v4 (ix2 r y) := by
  rw [stack_at, dif_neg (by omega), dif_neg (by omega), dif_neg (by omega), dif_neg (by omega), dif_pos (by omega)]; exact congrArg (fun i => v4 (ix2 i y)) (Fin.ext (by simp only; omega))
theorem stack_5 : stack v0 v1 v2 v3 v4 v5 v6 v7 (ix2 ⟨120 + r.val, by omega⟩ y) = v5 (ix2 r y) := by
  rw [stack_at, dif_neg (by omega), dif_neg (by omega), dif_neg (by omega), dif_neg (by omega), dif_neg (by omega), dif_pos (by omega)]; exact congrArg (fun i => v5 (ix2 i y)) (Fin.ext (by simp only; omega))
theorem stack_6 : stack v0 v1 v2 v3 v4 v5 v6 v7 (ix2 ⟨144 + r.val, by omega⟩ y) = v6 (ix2 r y) := by
  rw [stack_at, dif_neg (by omega), dif_neg (by omega), dif_neg (by omega), dif_neg (by omega), dif_neg (by omega), dif_neg (by omega), dif_pos (by omega)]; exact congrArg (fun i => v6 (ix2 i y)) (Fin.ext (by simp only; omega))
theorem stack_7 : stack v0 v1 v2 v3 v4 v5 v6 v7 (ix2 ⟨168 + r.val, by omega⟩ y) = v7 (ix2 r y) := by
  rw [stack_at, dif_neg (by omega), dif_neg (by omega), dif_neg (by omega), dif_neg (by omega), dif_neg (by omega), dif_neg (by omega), dif_neg (by omega)]; exact congrArg (fun i => v7 (ix2 i y)) (Fin.ext (by simp only; omega))

section
variable (lw hw : FVec Ideal S24x1024 .f32) (p : FVec Ideal S24x128 .f32) (ρ : Fin 192)
/-- Block `b` of the matrix permuted: 128 columns of the low codes beside the same 128 columns of the high codes. -/
def side (o : Fin 2 → ℕ) (h : S24x1024.Slices o S24x128) : FVec Ideal S24x256 .f32 :=
  concatenate S24x256 1 [⟨S24x128, extractStridedSlice S24x128 o lw h⟩, ⟨S24x128, extractStridedSlice S24x128 o hw h⟩] concatenates_S24x128_S24x128_S24x256_d1
theorem side_at (b : Fin 8) (h : S24x1024.Slices ![0, 128 * b.val] S24x128) : side lw hw ![0, 128 * b.val] h (ix2 r (src c))
    = if c.val % 2 = 0 then lw (ix2 r ⟨128 * b.val + c.val / 2, by omega⟩) else hw (ix2 r ⟨128 * b.val + c.val / 2, by omega⟩) := by
  pointwise [side]
  by_cases hc : c.val % 2 = 0
  · rw [dif_pos (by show c.val / 2 + 128 * (c.val % 2) < 128; omega), if_pos hc]
    exact congrArg (fun i => lw (ix2 r i)) (Fin.ext (by show 128 * b.val + (c.val / 2 + 128 * (c.val % 2)) = 128 * b.val + c.val / 2; omega))
  · rw [dif_neg (by show ¬ c.val / 2 + 128 * (c.val % 2) < 128; omega), if_neg hc]
    exact congrArg (fun i => hw (ix2 r i)) (Fin.ext (by show 128 * b.val + (c.val / 2 + 128 * (c.val % 2) - 128) = 128 * b.val + c.val / 2; omega))
def tower : FVec Ideal S192x256 .f32 :=
  stack (side lw hw ![0, 0] slices_S24x1024_o0_0_S24x128) (side lw hw ![0, 128] slices_S24x1024_o0_128_S24x128)
    (side lw hw ![0, 256] slices_S24x1024_o0_256_S24x128) (side lw hw ![0, 384] slices_S24x1024_o0_384_S24x128)
    (side lw hw ![0, 512] slices_S24x1024_o0_512_S24x128) (side lw hw ![0, 640] slices_S24x1024_o0_640_S24x128)
    (side lw hw ![0, 768] slices_S24x1024_o0_768_S24x128) (side lw hw ![0, 896] slices_S24x1024_o0_896_S24x128)
def permP : FVec Ideal S192x256 .f32 :=
  matmul (F := Ideal) dot_S192x256_S256x256_S192x256_1_0_0_1_n_n none (truncf .bf16 (tower lw hw) bitsLt_bf16_f32) permM (constant S192x256 .f32 0x00000000#32)
theorem pay11_eq : k0_pay11 lw hw (extractStridedSlice S24x128 ![0, 0] lw slices_S24x1024_o0_0_S24x128) = permP lw hw := rfl
/-- The product puts at column `c` what stood at the column it comes from. -/
theorem permP_at : permP lw hw (ix2 ρ c) = tower lw hw (ix2 ρ (src c)) := by
  pointwise [permP]
  rw [Finset.sum_eq_single (src c)]
  · rw [permM_at, if_pos rfl, mul_one]
  · intro y _ hy; rw [permM_at, if_neg hy, mul_zero]
  · intro h; exact absurd (Finset.mem_univ _) h

/-- Position `n` of the two rows interleaved. -/
def woven (r : Fin 24) (n : ℕ) (hn : n < 2048) : EReal :=
  if n % 2 = 0 then lw (ix2 r ⟨n / 2, by omega⟩) else hw (ix2 r ⟨n / 2, by omega⟩)
theorem side_woven (b : Fin 8) (h : S24x1024.Slices ![0, 128 * b.val] S24x128) :
    side lw hw ![0, 128 * b.val] h (ix2 r (src c)) = woven lw hw r (256 * b.val + c.val) (by omega) := by
  rw [side_at, woven]
  by_cases hc : c.val % 2 = 0
  · rw [if_pos hc, if_pos (by omega)]
    exact congrArg (fun i => lw (ix2 r i)) (Fin.ext (by simp only; omega))
  · rw [if_neg hc, if_neg (by omega)]
    exact congrArg (fun i => hw (ix2 r i)) (Fin.ext (by simp only; omega))
theorem permP_0 : permP lw hw (ix2 ⟨0 + r.val, by omega⟩ c) = woven lw hw r (0 + c.val) (by omega) := by
  rw [permP_at, tower, stack_0]; exact side_woven r c lw hw 0 _
theorem permP_1 : permP lw hw (ix2 ⟨24 + r.val, by omega⟩ c) = woven lw hw r (256 + c.val) (by omega) := by
  rw [permP_at, tower, stack_1]; exact side_woven r c lw hw 1 _
theorem permP_2 : permP lw hw (ix2 ⟨48 + r.val, by omega⟩ c) = woven lw hw r (512 + c.val) (by omega) := by
  rw [permP_at, tower, stack_2]; exact side_woven r c lw hw 2 _
theorem permP_3 : permP lw hw (ix2 ⟨72 + r.val, by omega⟩ c) = woven lw hw r (768 + c.val) (by omega) := by
  rw [permP_at, tower, stack_3]; exact side_woven r c lw hw 3 _
theorem permP_4 : permP lw hw (ix2 ⟨96 + r.val, by omega⟩ c) = woven lw hw r (1024 + c.val) (by omega) := by
  rw [permP_at, tower, stack_4]; exact side_woven r c lw hw 4 _
theorem permP_5 : permP lw hw (ix2 ⟨120 + r.val, by omega⟩ c) = woven lw hw r (1280 + c.val) (by omega) := by
  rw [permP_at, tower, stack_5]; exact side_woven r c lw hw 5 _
theorem permP_6 : permP lw hw (ix2 ⟨144 + r.val, by omega⟩ c) = woven lw hw r (1536 + c.val) (by omega) := by
  rw [permP_at, tower, stack_6]; exact side_woven r c lw hw 6 _
theorem permP_7 : permP lw hw (ix2 ⟨168 + r.val, by omega⟩ c) = woven lw hw r (1792 + c.val) (by omega) := by
  rw [permP_at, tower, stack_7]; exact side_woven r c lw hw 7 _
end

section
variable (P : FVec Ideal S192x256 .f32)
theorem pay15_at : k0_pay15 P (ix2 r c) = P (ix2 ⟨48 + r.val, by omega⟩ c) := by pointwise [k0_pay15]
theorem pay16_at : k0_pay16 P (ix2 r c) = P (ix2 ⟨72 + r.val, by omega⟩ c) := by pointwise [k0_pay16]
theorem pay17_at : k0_pay17 P (ix2 r c) = P (ix2 ⟨96 + r.val, by omega⟩ c) := by pointwise [k0_pay17]
theorem pay18_at : k0_pay18 P (ix2 r c) = P (ix2 ⟨120 + r.val, by omega⟩ c) := by pointwise [k0_pay18]
theorem pay19_at : k0_pay19 P (ix2 r c) = P (ix2 ⟨144 + r.val, by omega⟩ c) := by pointwise [k0_pay19]
theorem pay20_at : k0_pay20 P (ix2 r c) = P (ix2 ⟨168 + r.val, by omega⟩ c) := by pointwise [k0_pay20]
theorem pay35_at : k0_pay35 P (ix2 r c) = P (ix2 ⟨48 + r.val, by omega⟩ c) := by pointwise [k0_pay35]
theorem pay36_at : k0_pay36 P (ix2 r c) = P (ix2 ⟨72 + r.val, by omega⟩ c) := by pointwise [k0_pay36]
theorem pay37_at : k0_pay37 P (ix2 r c) = P (ix2 ⟨96 + r.val, by omega⟩ c) := by pointwise [k0_pay37]
theorem pay38_at : k0_pay38 P (ix2 r c) = P (ix2 ⟨120 + r.val, by omega⟩ c) := by pointwise [k0_pay38]
theorem pay39_at : k0_pay39 P (ix2 r c) = P (ix2 ⟨144 + r.val, by omega⟩ c) := by pointwise [k0_pay39]
theorem pay40_at : k0_pay40 P (ix2 r c) = P (ix2 ⟨168 + r.val, by omega⟩ c) := by pointwise [k0_pay40]
end

section
variable (lw hw : FVec Ideal S24x1024 .f32)
theorem pay12_at : k0_pay12 lw hw (extractStridedSlice S24x128 ![0, 0] lw slices_S24x1024_o0_0_S24x128) (ix2 r c) = permP lw hw (ix2 ⟨0 + r.val, by omega⟩ c) := by
  pointwise [k0_pay12]; rw [pay11_eq]
theorem pay14_at : k0_pay14 (k0_pay13 lw hw (extractStridedSlice S24x128 ![0, 0] lw slices_S24x1024_o0_0_S24x128)) (ix2 r c) = permP lw hw (ix2 ⟨24 + r.val, by omega⟩ c) := by
  pointwise [k0_pay14, k0_pay13]; rw [pay11_eq]
theorem pay32_eq : k0_pay32 lw hw (side lw hw ![0, 0] slices_S24x1024_o0_0_S24x128) (side lw hw ![0, 128] slices_S24x1024_o0_128_S24x128) = permP lw hw := rfl
theorem pay33_at : k0_pay33 lw hw (side lw hw ![0, 0] slices_S24x1024_o0_0_S24x128) (side lw hw ![0, 128] slices_S24x1024_o0_128_S24x128) (ix2 r c)
    = permP lw hw (ix2 ⟨0 + r.val, by omega⟩ c) := by
  pointwise [k0_pay33]; rw [pay32_eq]
theorem pay34_at : k0_pay34 lw hw (side lw hw ![0, 0] slices_S24x1024_o0_0_S24x128) (side lw hw ![0, 128] slices_S24x1024_o0_128_S24x128) (ix2 r c)
    = permP lw hw (ix2 ⟨24 + r.val, by omega⟩ c) := by
  pointwise [k0_pay34]; rw [pay32_eq]
end

end Cert.KernelIdeal.Hand
end
-- ==== Proof.Value.Reads.lean ====
module

public import proofs.«01_k».proof.Proof.Value.Mlp
public import proofs.«01_k».proof.Proof.Ideal.Slots
public import Idealize.ShloMosaic.Lib.VecWindow
public import Idealize.ShloMosaic.Lib.ValueLayout

@[expose] public section

set_option maxRecDepth 16384

noncomputable section
namespace Cert.KernelIdeal.Hand
open Cert.KernelIdeal Cert.KernelIdeal.Gen
open Idealize.ShloMosaic Idealize.ShloMosaic.TcCoe Idealize.SL.Sem

open Cert.Mlp

/-! ### What the loads of the body read, at one index -/
variable (c : Dev nD)

section Read
variable (M : Memref sig .tc .vmem S24x16384 .f32) (f : HBuf (F := Ideal) c M)
/-- A load of 2048, or of 1024, columns. -/
theorem rd_wide (b : ℕ) (o : Fin 2 → ℕ) (e : o = ![0, b]) (h : ∀ a, o a + S24x2048.size a ≤ S24x16384.size a) (r : Fin 24) (l : Fin 2048) (hb : b + l.val < 16384) :
    rd c M f o S24x2048.size h (ix2 r l) = M.view.read (Elt Ideal) f (ix2 r ⟨b + l.val, hb⟩) := by
  subst e
  refine congrArg (M.view.read (Elt Ideal) f) (funext fun a => Fin.ext ?_)
  match a with
  | 0 => show 0 + 1 * r.val = r.val; omega
  | 1 => show b + 1 * l.val = b + l.val; omega
theorem rd_half (b : ℕ) (o : Fin 2 → ℕ) (e : o = ![0, b]) (h : ∀ a, o a + S24x1024.size a ≤ S24x16384.size a) (r : Fin 24) (l : Fin 1024) (hb : b + l.val < 16384) :
    rd c M f o S24x1024.size h (ix2 r l) = M.view.read (Elt Ideal) f (ix2 r ⟨b + l.val, hb⟩) := by
  subst e
  refine congrArg (M.view.read (Elt Ideal) f) (funext fun a => Fin.ext ?_)
  match a with
  | 0 => show 0 + 1 * r.val = r.val; omega
  | 1 => show b + 1 * l.val = b + l.val; omega
end Read
theorem rd_row (M : Memref sig .tc .vmem S1x16384 .f32) (f : HBuf (F := Ideal) c M) (b : ℕ) (o : Fin 2 → ℕ) (e : o = ![0, b])
    (h : ∀ a, o a + S1x2048.size a ≤ S1x16384.size a) (l : Fin 2048) (hb : b + l.val < 16384) :
    rd c M f o S1x2048.size h (ix2 0 l) = M.view.read (Elt Ideal) f (ix2 0 ⟨b + l.val, hb⟩) := by
  subst e
  refine congrArg (M.view.read (Elt Ideal) f) (funext fun a => Fin.ext ?_)
  match a with
  | 0 => rfl
  | 1 => show b + 1 * l.val = b + l.val; omega

/-- A store of 2048 columns at column `b`, read back. -/
theorem put_wide {e : EltTy} (M : Memref sig .tc .vmem S24x16384 e) (f : HBuf (F := Ideal) c M) (b : ℕ) (o : Fin 2 → ℕ) (eo : o = ![0, b])
    (h : ∀ a, o a + S24x2048.size a ≤ S24x16384.size a) (w : Vec Ideal S24x2048 e) (r : Fin 24) (n : Fin 16384) :
    M.view.read (Elt Ideal) (M.view.writes (Elt Ideal) f [⟨Rect.unit o S24x2048.size h, w⟩]) (ix2 r n)
      = if hn : b ≤ n.val ∧ n.val < b + 2048 then w (ix2 r ⟨n.val - b, by omega⟩) else M.view.read (Elt Ideal) f (ix2 r n) := by
  subst eo
  split
  · next hn =>
    refine View.read_writes_cons_unit_of_mem M.view f h w [] (ix2 r n) (ix2 r ⟨n.val - b, by omega⟩) rfl ?_
    intro a
    match a with
    | 0 => show r.val = 0 + r.val; omega
    | 1 => show n.val = b + (n.val - b); omega
  · next hn =>
    refine View.read_writes_cons_unit_of_not_mem M.view f h w [] (ix2 r n) rfl 1 ?_
    show n.val < b ∨ b + 2048 ≤ n.val
    omega
/-- One store of 1024 columns among several, read back. -/
theorem put_half {e : EltTy} (M : Memref sig .tc .vmem S24x16384 e) (f : HBuf (F := Ideal) c M) (b : ℕ) (o : Fin 2 → ℕ) (eo : o = ![0, b])
    (h : ∀ a, o a + S24x1024.size a ≤ S24x16384.size a) (w : Vec Ideal S24x1024 e) (L : List (View.Piece (Elt Ideal) S24x16384 e)) (r : Fin 24) (n : Fin 16384) :
    M.view.read (Elt Ideal) (M.view.writes (Elt Ideal) f (⟨Rect.unit o S24x1024.size h, w⟩ :: L)) (ix2 r n)
      = if hn : b ≤ n.val ∧ n.val < b + 1024 then w (ix2 r ⟨n.val - b, by omega⟩) else M.view.read (Elt Ideal) (M.view.writes (Elt Ideal) f L) (ix2 r n) := by
  subst eo
  split
  · next hn =>
    refine View.read_writes_cons_unit_of_mem M.view f h w L (ix2 r n) (ix2 r ⟨n.val - b, by omega⟩) rfl ?_
    intro a
    match a with
    | 0 => show r.val = 0 + r.val; omega
    | 1 => show n.val = b + (n.val - b); omega
  · next hn =>
    refine View.read_writes_cons_unit_of_not_mem M.view f h w L (ix2 r n) rfl 1 ?_
    show n.val < b ∨ b + 1024 ≤ n.val
    omega

/-- The ring's slot `s` reads the block it received. -/
theorem rd_slot (x : HBuf (F := Ideal) c a13) (s : ℕ) (hs : s < 18) (d : Vec Ideal S1024x2048 .i8) (o : Fin 3 → ℕ) (e : o = ![s, 0, 0])
    (h : ∀ a, o a + S1x1024x2048.size a ≤ S18x1024x2048.size a) (i : Fin 1024) (l : Fin 2048) :
    rd c a13 (gotSlot c x s hs d) o S1x1024x2048.size h (ix3 0 i l) = d (ix2 i l) := by
  subst e
  refine Eq.trans ?_ (congrFun (View.read_writes_whole (slotO ![s, 0, 0] (inbSlot s hs)).view x d) (ix2 i l))
  exact congrArg (fun z => a13.view.read (Elt Ideal) (gotSlot c x s hs d) ((Rect.unit (s := S18x1024x2048) ![s, 0, 0] S1x1024x2048.size h).emb z))
    (ValueIdx.reshapeEquiv_ix2_1ab (Shape.Squeezes.numel_eq squeezes_S1x1024x2048_S1024x2048) i l).symm

theorem blk2_at (x : HBuf (F := Ideal) c a2) (j : Fin 8) (i : Fin 1024) (l : Fin 2048) :
    blk2 c x j (ix2 i l) = a2.view.read (Elt Ideal) x (ix2 i ⟨2048 * j.val + l.val, by omega⟩) := by
  refine congrArg (a2.view.read (Elt Ideal) x) (funext fun a => Fin.ext ?_)
  match a with
  | 0 => show 0 + 1 * i.val = i.val; omega
  | 1 => show 2048 * j.val + 1 * l.val = 2048 * j.val + l.val; omega
theorem blk3_at (x : HBuf (F := Ideal) c a3) (j : Fin 8) (i : Fin 1024) (l : Fin 2048) :
    blk3 c x j (ix2 i l) = a3.view.read (Elt Ideal) x (ix2 i ⟨2048 * j.val + l.val, by omega⟩) := by
  refine congrArg (a3.view.read (Elt Ideal) x) (funext fun a => Fin.ext ?_)
  match a with
  | 0 => show 0 + 1 * i.val = i.val; omega
  | 1 => show 2048 * j.val + 1 * l.val = 2048 * j.val + l.val; omega
theorem blk6_at (x : HBuf (F := Ideal) c a6) (j : Fin 8) (i : Fin 1024) (l : Fin 2048) :
    blk6 c x j (ix2 i l) = a6.view.read (Elt Ideal) x (ix2 ⟨1024 * j.val + i.val, by omega⟩ l) := by
  refine congrArg (a6.view.read (Elt Ideal) x) (funext fun a => Fin.ext ?_)
  match a with
  | 0 => show 1024 * j.val + 1 * i.val = 1024 * j.val + i.val; omega
  | 1 => show 0 + 1 * l.val = l.val; omega

theorem sgA_eq (x4 : HBuf (F := Ideal) c a4) (x15 : HBuf (F := Ideal) c a15) : a15.view.read (Elt Ideal) (sgA c x4 x15) = a4.view.read (Elt Ideal) x4 := by
  unfold sgA
  rw [View.write_whole_univ]
  rfl
theorem suA_eq (x5 : HBuf (F := Ideal) c a5) (x16 : HBuf (F := Ideal) c a16) : a16.view.read (Elt Ideal) (suA c x5 x16) = a5.view.read (Elt Ideal) x5 := by
  unfold suA
  rw [View.write_whole_univ]
  rfl
theorem sdA_eq (x7 : HBuf (F := Ideal) c a7) (x17 : HBuf (F := Ideal) c a17) : a17.view.read (Elt Ideal) (sdA c x7 x17) = a7.view.read (Elt Ideal) x7 :=
  View.write_whole_univ (Val := Elt Ideal) cc0_scratch4 x17 (a7.view.read (Elt Ideal) x7)
theorem nrmRd_eq (x1 : HBuf (F := Ideal) c a1) (x14 : HBuf (F := Ideal) c a14) : nrmRd c x1 x14 = a1.view.read (Elt Ideal) x1 := by
  unfold nrmRd
  refine (View.readAt_full _ _ _).trans ?_
  exact View.write_whole_univ (Val := Elt Ideal) cc0_scratch1 x14 (a1.view.read (Elt Ideal) x1)
theorem actRd_eq (a0 : Memref sig .tc .vmem S24x2048 .f32) (x0 : HBuf (F := Ideal) c a0) : actRd c a0 x0 = a0.view.read (Elt Ideal) x0 :=
  View.readAt_full _ _ _

/-! Over the pieces a program writes: the interleaved rows, of any buffer. -/
section
variable {κ : Kind} {sp : Space} (v : View sig κ sp S24x2048 .bf16) (f : v.ty.Contents (Elt Ideal))
theorem peel (o : ℕ) (h : ∀ a, (![0, o] : Fin 2 → ℕ) a + S24x256.size a ≤ S24x2048.size a) (Q : FVec Ideal S24x256 .bf16)
    (L : List (View.Piece (Elt Ideal) S24x2048 .bf16)) (r : Fin 24) (n : Fin 2048) :
    v.read (Elt Ideal) (v.writes (Elt Ideal) f (⟨Rect.unit ![0, o] S24x256.size h, Q⟩ :: L)) (ix2 r n)
      = if hn : o ≤ n.val ∧ n.val < o + 256 then Q (ix2 r ⟨n.val - o, by omega⟩) else v.read (Elt Ideal) (v.writes (Elt Ideal) f L) (ix2 r n) := by
  split
  · next hn =>
    refine View.read_writes_cons_unit_of_mem v f h Q L (ix2 r n) (ix2 r ⟨n.val - o, by omega⟩) rfl ?_
    intro a
    match a with
    | 0 => show r.val = 0 + r.val; omega
    | 1 => show n.val = o + (n.val - o); omega
  · next hn =>
    refine View.read_writes_cons_unit_of_not_mem v f h Q L (ix2 r n) rfl 1 ?_
    show n.val < o ∨ o + 256 ≤ n.val
    omega

/-- Eight stores side by side, each right on its own columns, leave the row that is right everywhere. -/
theorem pieces8 (T : Fin 24 → (n : ℕ) → n < 2048 → EReal) (Q0 Q1 Q2 Q3 Q4 Q5 Q6 Q7 : FVec Ideal S24x256 .bf16)
    (e0 : ∀ r (c : Fin 256), Q0 (ix2 r c) = T r (0 + c.val) (by omega))
    (e1 : ∀ r (c : Fin 256), Q1 (ix2 r c) = T r (256 + c.val) (by omega))
    (e2 : ∀ r (c : Fin 256), Q2 (ix2 r c) = T r (512 + c.val) (by omega))
    (e3 : ∀ r (c : Fin 256), Q3 (ix2 r c) = T r (768 + c.val) (by omega))
    (e4 : ∀ r (c : Fin 256), Q4 (ix2 r c) = T r (1024 + c.val) (by omega))
    (e5 : ∀ r (c : Fin 256), Q5 (ix2 r c) = T r (1280 + c.val) (by omega))
    (e6 : ∀ r (c : Fin 256), Q6 (ix2 r c) = T r (1536 + c.val) (by omega))
    (e7 : ∀ r (c : Fin 256), Q7 (ix2 r c) = T r (1792 + c.val) (by omega))
    (r : Fin 24) (n : Fin 2048) :
    v.read (Elt Ideal) (v.writes (Elt Ideal) f [⟨Rect.unit ![0, 1792] S24x256.size inb_S24x2048_S24x256_0_1792, Q7⟩,
      ⟨Rect.unit ![0, 1536] S24x256.size inb_S24x2048_S24x256_0_1536, Q6⟩,
      ⟨Rect.unit ![0, 1280] S24x256.size inb_S24x2048_S24x256_0_1280, Q5⟩,
      ⟨Rect.unit ![0, 1024] S24x256.size inb_S24x2048_S24x256_0_1024, Q4⟩,
      ⟨Rect.unit ![0, 768] S24x256.size inb_S24x2048_S24x256_0_768, Q3⟩,
      ⟨Rect.unit ![0, 512] S24x256.size inb_S24x2048_S24x256_0_512, Q2⟩,
      ⟨Rect.unit ![0, 256] S24x256.size inb_S24x2048_S24x256_0_256, Q1⟩,
      ⟨Rect.unit ![0, 0] S24x256.size inb_S24x2048_S24x256_0_0, Q0⟩]) (ix2 r n) = T r n.val n.isLt := by
  have eT : ∀ (k : ℕ) (hk : k < 2048), k = n.val → T r k hk = T r n.val n.isLt := by intro k hk h; subst h; rfl
  rw [peel]
  split
  · rw [e7]; exact eT _ _ (by simp only; omega)
  rw [peel]
  split
  · rw [e6]; exact eT _ _ (by simp only; omega)
  rw [peel]
  split
  · rw [e5]; exact eT _ _ (by simp only; omega)
  rw [peel]
  split
  · rw [e4]; exact eT _ _ (by simp only; omega)
  rw [peel]
  split
  · rw [e3]; exact eT _ _ (by simp only; omega)
  rw [peel]
  split
  · rw [e2]; exact eT _ _ (by simp only; omega)
  rw [peel]
  split
  · rw [e1]; exact eT _ _ (by simp only; omega)
  rw [peel]
  split
  · rw [e0]; exact eT _ _ (by simp only; omega)
  exact absurd n.isLt (by omega)
end

end Cert.KernelIdeal.Hand
end
-- ==== Proof.Value.Loops.lean ====
module

public import proofs.«01_k».proof.Proof.Value.Pays
public import proofs.«01_k».proof.Proof.Value.Perm
public import proofs.«01_k».proof.Proof.Value.Reads

@[expose] public section

set_option maxRecDepth 16384

noncomputable section
namespace Cert.KernelIdeal.Hand
open Cert.KernelIdeal Cert.KernelIdeal.Gen
open Idealize.ShloMosaic Idealize.ShloMosaic.TcCoe Idealize.SL.Sem

open Cert.Mlp

/-! ### The four loops, each left with the values of its block, block by block -/

/-- A sum taken tile by tile over the first tiles of a row. -/
theorem tiles (J T N : ℕ) (hN : J * T = N) (f : Fin N → EReal) :
    (∑ j ∈ Finset.range J, if h : j < J then ∑ t : Fin T, f ⟨T * j + t.val, by
        subst hN; have := t.isLt; nlinarith [Nat.mul_le_mul_right T (Nat.succ_le_of_lt h)]⟩ else 0) = ∑ n, f n := by
  rw [Fin.sum_univ_tiles J T hN, Finset.sum_range]
  refine Finset.sum_congr rfl fun j _ => ?_
  rw [dif_pos j.isLt]
  exact Finset.sum_congr rfl fun t _ => congrArg f (Fin.ext (by show T * j.val + t.val = j.val * T + t.val; rw [Nat.mul_comm]))

variable (c : Dev nD)

section Gate
variable (v118 : FVec Ideal S24x1 .f32) (xi : HBuf (F := Ideal) c a18) (sg : HBuf (F := Ideal) c a15) (g : Fin 8 → HBuf (F := Ideal) c a13)
  (G : Fin 24 → Fin 16384 → EReal)

/-- After `n` trips of the gate loop the first `n` blocks of columns hold the gate rows. -/
theorem gateFF_at (hS : ∀ (j : Fin 8) r (l : Fin 2048), gateSt c v118 xi sg (g j) (tk1 j) (ix2 r l) = G r ⟨2048 * j.val + l.val, by omega⟩)
    (ff0 : HBuf (F := Ideal) c a19) (n : ℕ) (hn : n ≤ 8) (r : Fin 24) (k : Fin 16384) :
    a19.view.read (Elt Ideal) (gateFF c v118 xi sg g ff0 n) (ix2 r k) = if k.val < 2048 * n then G r k else a19.view.read (Elt Ideal) ff0 (ix2 r k) := by
  induction n with
  | zero => rw [if_neg (by omega)]; rfl
  | succ n ih =>
    rw [show gateFF c v118 xi sg g ff0 (n + 1) = gateStep c v118 xi sg (g ⟨n, hn⟩) (tk1 ⟨n, hn⟩) (gateFF c v118 xi sg g ff0 n) from dif_pos hn]
    unfold gateStep
    rw [put_wide c a19 _ (2048 * n) _ (k0_off5_eq (tk1 ⟨n, hn⟩))]
    split
    · next h => rw [hS, if_pos (by omega)]; exact congrArg (G r) (Fin.ext (by show 2048 * n + (k.val - 2048 * n) = k.val; omega))
    · next h =>
      rw [ih (by omega)]
      split
      · rw [if_pos (by omega)]
      · rw [if_neg (by omega)]

/-- After `n` trips the running sum of a gate row is that of its first `n` blocks, -/
theorem gateAcc_at (hB : ∀ (j : Fin 8) r (l : Fin 2048), gateBlk c v118 xi sg (g j) (tk1 j) (ix2 r l) = G r ⟨2048 * j.val + l.val, by omega⟩)
    (n : ℕ) (hn : n ≤ 8) (r : Fin 24) :
    gateAcc c v118 xi sg g n (ix2 r 0) = ∑ j ∈ Finset.range n, if h : j < 8 then ∑ l : Fin 2048, G r ⟨2048 * j + l.val, by omega⟩ else 0 := by
  induction n with
  | zero => rw [Finset.range_zero, Finset.sum_empty]; exact pay41_at r
  | succ n ih =>
    rw [show gateAcc c v118 xi sg g (n + 1) = k0_pay42 (gateAcc c v118 xi sg g n) (gateBlk c v118 xi sg (g ⟨n, hn⟩) (tk1 ⟨n, hn⟩)) from dif_pos hn,
      pay42_at, ih (by omega), Finset.sum_range_succ, dif_pos (show n < 8 from hn)]
    exact congrArg (_ + ·) (Finset.sum_congr rfl fun l _ => hB ⟨n, hn⟩ r l)

/-- and after all eight it is the sum of the row. -/
theorem gateAcc_8 (hB : ∀ (j : Fin 8) r (l : Fin 2048), gateBlk c v118 xi sg (g j) (tk1 j) (ix2 r l) = G r ⟨2048 * j.val + l.val, by omega⟩) (r : Fin 24) :
    gateAcc c v118 xi sg g 8 (ix2 r 0) = ∑ n, G r n := (gateAcc_at c v118 xi sg g G hB 8 le_rfl r).trans (tiles 8 2048 16384 rfl (G r))
end Gate

section Var
variable (v247 : FVec Ideal S24x1 .f32) (ff : HBuf (F := Ideal) c a19) (G : Fin 24 → Fin 16384 → EReal)
  (hG : ∀ r k, a19.view.read (Elt Ideal) ff (ix2 r k) = G r k)
include hG
theorem varAcc_at (n : ℕ) (hn : n ≤ 8) (r : Fin 24) :
    varAcc c v247 ff n (ix2 r 0) = ∑ j ∈ Finset.range n, if h : j < 8 then ∑ l : Fin 2048,
      (G r ⟨2048 * j + l.val, by omega⟩ - v247 (ix2 r 0)) * (G r ⟨2048 * j + l.val, by omega⟩ - v247 (ix2 r 0)) else 0 := by
  induction n with
  | zero => rw [Finset.range_zero, Finset.sum_empty]; exact pay44_at r
  | succ n ih =>
    rw [show varAcc c v247 ff (n + 1) = k0_pay45 v247 (varAcc c v247 ff n) (rd c a19 ff (k0_off6 (tk2 ⟨n, hn⟩)) S24x2048.size (k0_off6_inb (tk2 ⟨n, hn⟩))) from dif_pos hn,
      pay45_at, ih (by omega), Finset.sum_range_succ, dif_pos (show n < 8 from hn)]
    refine congrArg (_ + ·) (Finset.sum_congr rfl fun l _ => ?_)
    rw [rd_wide c a19 ff (2048 * n) _ (k0_off6_eq (tk2 ⟨n, hn⟩)) _ r l (by omega), hG]
/-- After all eight trips of the variance loop the running sum is that of the squared deviations of the row. -/
theorem varAcc_8 (r : Fin 24) :
    varAcc c v247 ff 8 (ix2 r 0) = ∑ n, (G r n - v247 (ix2 r 0)) * (G r n - v247 (ix2 r 0)) :=
  (varAcc_at c v247 ff G hG 8 le_rfl r).trans (tiles 8 2048 16384 rfl fun n => (G r n - v247 (ix2 r 0)) * (G r n - v247 (ix2 r 0)))
end Var

section Up
variable (v118 v247 v288 : FVec Ideal S24x1 .f32) (xi : HBuf (F := Ideal) c a18) (su : HBuf (F := Ideal) c a16) (g : Fin 8 → HBuf (F := Ideal) c a13)
  (G U H : Fin 24 → Fin 16384 → EReal)
  (hU : ∀ (j : Fin 8) r (l : Fin 2048), k0_pay4 v118 (rd c a18 xi ![0, 0] S24x2048.size inb_S24x2048_S24x2048_0_0)
    (rd c a13 (g j) (k0_off9 (tk3 j)) S1x1024x2048.size (k0_off9_inb (tk3 j))) (rd c a16 su (k0_off10 (tk3 j)) S1x2048.size (k0_off10_inb (tk3 j))) (ix2 r l)
      = U r ⟨2048 * j.val + l.val, by omega⟩)
  (hH : ∀ r k, H r k = act (G r k - k0_pay47 v247 v288 (ix2 r 0)) * U r k)
  (ff0 : HBuf (F := Ideal) c a19) (h0 : ∀ r k, a19.view.read (Elt Ideal) ff0 (ix2 r k) = G r k)
include hU hH h0

/-- Before trip `n` the first `n` blocks hold the hidden rows, the others the gate rows. -/
theorem upFF_at (n : ℕ) (hn : n ≤ 8) (r : Fin 24) (k : Fin 16384) :
    a19.view.read (Elt Ideal) (upFF c v118 v247 v288 xi su g ff0 n) (ix2 r k) = if k.val < 2048 * n then H r k else G r k := by
  induction n with
  | zero => rw [if_neg (by omega)]; exact h0 r k
  | succ n ih =>
    rw [show upFF c v118 v247 v288 xi su g ff0 (n + 1) = upStep c v118 v247 v288 xi su (g ⟨n, hn⟩) (tk3 ⟨n, hn⟩) (upFF c v118 v247 v288 xi su g ff0 n) from dif_pos hn]
    unfold upStep
    rw [put_wide c a19 _ (2048 * n) _ (k0_off11_eq (tk3 ⟨n, hn⟩))]
    split
    · next h =>
      rw [if_pos (by omega)]
      unfold upBlk
      rw [pay50_at, pay5_at, hU, rd_wide c a19 _ (2048 * n) _ (k0_off11_eq (tk3 ⟨n, hn⟩)) _ r ⟨k.val - 2048 * n, by omega⟩ (by simp only; omega), hH]
      have e : (⟨2048 * n + (k.val - 2048 * n), by omega⟩ : Fin 16384) = k := Fin.ext (by simp only; omega)
      simp only [e]
      rw [ih (by omega), if_neg (by omega)]
    · next h =>
      rw [ih (by omega)]
      split
      · rw [if_pos (by omega)]
      · rw [if_neg (by omega)]

/-- The running maximum after `n` trips is below a bound exactly if every magnitude in the first `n` blocks is, -/
theorem upMax_le (n : ℕ) (hn : n ≤ 8) (r : Fin 24) (b : EReal) :
    upMax c v118 v247 v288 xi su g ff0 n (ix2 r 0) ≤ b ↔ 0 ≤ b ∧ ∀ k : Fin 16384, k.val < 2048 * n → FloatOps.absf (F := Ideal) (φ := .f32) (H r k) ≤ b := by
  induction n with
  | zero =>
    rw [show upMax c v118 v247 v288 xi su g ff0 0 (ix2 r 0) = 0 from pay48_at r]
    exact ⟨fun h => ⟨h, fun k hk => absurd hk (by omega)⟩, fun h => h.1⟩
  | succ n ih =>
    rw [show upMax c v118 v247 v288 xi su g ff0 (n + 1) = upAcc c v118 v247 v288 xi su (upFF c v118 v247 v288 xi su g ff0 n) (g ⟨n, hn⟩) (tk3 ⟨n, hn⟩)
      (upMax c v118 v247 v288 xi su g ff0 n) from dif_pos hn]
    unfold upAcc
    have e : ∀ l : Fin 2048, act (k0_pay5 (k0_pay47 v247 v288) (rd c a19 (upFF c v118 v247 v288 xi su g ff0 n) (k0_off11 (tk3 ⟨n, hn⟩)) S24x2048.size (k0_off11_inb (tk3 ⟨n, hn⟩))) (ix2 r l))
        * k0_pay4 v118 (rd c a18 xi ![0, 0] S24x2048.size inb_S24x2048_S24x2048_0_0)
          (rd c a13 (g ⟨n, hn⟩) (k0_off9 (tk3 ⟨n, hn⟩)) S1x1024x2048.size (k0_off9_inb (tk3 ⟨n, hn⟩))) (rd c a16 su (k0_off10 (tk3 ⟨n, hn⟩)) S1x2048.size (k0_off10_inb (tk3 ⟨n, hn⟩))) (ix2 r l)
        = H r ⟨2048 * n + l.val, by omega⟩ := by
      intro l
      rw [pay5_at, hU, rd_wide c a19 _ (2048 * n) _ (k0_off11_eq (tk3 ⟨n, hn⟩)) _ r l (by omega), hH,
        upFF_at c v118 v247 v288 xi su g G U H hU hH ff0 h0 n (by omega), if_neg (by simp only; omega)]
    rw [pay51_at, max_le_iff, ih (by omega), rowMax_le, ninf]
    simp only [e]
    constructor
    · rintro ⟨⟨h1, h2⟩, -, h3⟩
      refine ⟨h1, fun k hk => ?_⟩
      by_cases hk' : k.val < 2048 * n
      · exact h2 k hk'
      · have := h3 ⟨k.val - 2048 * n, by omega⟩
        have e : (⟨2048 * n + (k.val - 2048 * n), by omega⟩ : Fin 16384) = k := Fin.ext (by simp only; omega)
        simpa only [e] using this
    · rintro ⟨h1, h2⟩
      exact ⟨⟨h1, fun k hk => h2 k (by omega)⟩, bot_le, fun l => h2 _ (by simp only; omega)⟩

/-- so after all eight trips it is the largest magnitude of the hidden row. -/
theorem upMax_8 (r : Fin 24) : upMax c v118 v247 v288 xi su g ff0 8 (ix2 r 0) = rowMax (H r) := by
  refine eq_of_forall_ge_iff fun b => ?_
  rw [upMax_le c v118 v247 v288 xi su g G U H hU hH ff0 h0 8 le_rfl, rowMax_le, ninf]
  exact ⟨fun h => ⟨bot_le, fun k => h.2 k k.isLt⟩, fun h => ⟨(abs_nonneg' _).trans (h.2 0), fun k _ => h.2 k⟩⟩
end Up

/-- Where trip `k` of the down loop reads its two halves of the hidden rows. -/
theorem off12_lo (k : Fin k0_t4_loop.trips) : k0_off12 k 0#32 = ![0, 1024 * k.val] := by
  refine (k0_off12_eq k 0).trans ?_
  show (![0, 8192 * 0 + 1024 * k.val] : Fin 2 → ℕ) = ![0, 1024 * k.val]
  rw [Nat.mul_zero, Nat.zero_add]
/-- The second half, 8192 columns on. -/
theorem off12_hi (k : Fin k0_t4_loop.trips) : k0_off12 k 8192#32 = ![0, 8192 + 1024 * k.val] := k0_off12_eq k 1

section Down
variable (q : FVec Ideal S24x1 .f32) (ff : HBuf (F := Ideal) c a19) (g : Fin 8 → HBuf (F := Ideal) c a13)
  (H : Fin 24 → Fin 16384 → EReal) (s : Fin 24 → EReal) (Wd : Fin 8192 → Fin 2048 → BitVec 8)
  (hH : ∀ r k, a19.view.read (Elt Ideal) ff (ix2 r k) = H r k) (hs : ∀ r, k0_pay52 q (ix2 r 0) = s r)
include hH hs

/-- The codes of one trip, of the first half of the hidden row -/
theorem loQ_at (j : Fin 8) (r : Fin 24) (i : Fin 1024) : loQ c q ff (tk4 j) (ix2 r i) = code (H r ⟨1024 * j.val + i.val, by omega⟩) (s r) := by
  unfold loQ
  rw [pay6_at, hs, rd_half c a19 ff (1024 * j.val) _ (off12_lo (tk4 j)) _ r i (by omega), hH]
/-- and of the second. -/
theorem hiQ_at (j : Fin 8) (r : Fin 24) (i : Fin 1024) : hiQ c q ff (tk4 j) (ix2 r i) = code (H r ⟨8192 + (1024 * j.val + i.val), by omega⟩) (s r) := by
  unfold hiQ
  rw [pay8_at, hs, rd_half c a19 ff (8192 + 1024 * j.val) _ (off12_hi (tk4 j)) _ r i (by omega), hH]
  exact congrArg (fun k => code (H r k) (s r)) (Fin.ext (by simp only; omega))

/-- After `n` trips of the down loop the first `n` blocks of each half hold the hidden codes. -/
theorem hcAt_at (hc0 : HBuf (F := Ideal) c a24) (n : ℕ) (hn : n ≤ 8) (r : Fin 24) (k : Fin 16384) :
    a24.view.read (Elt Ideal) (hcAt c q ff hc0 n) (ix2 r k)
      = if k.val < 1024 * n ∨ (8192 ≤ k.val ∧ k.val < 8192 + 1024 * n) then Ideal.fptosi 8 (code (H r k) (s r)) else a24.view.read (Elt Ideal) hc0 (ix2 r k) := by
  induction n with
  | zero => rw [if_neg (by omega)]; rfl
  | succ n ih =>
    rw [show hcAt c q ff hc0 (n + 1) = hcStep c q ff (tk4 ⟨n, hn⟩) (hcAt c q ff hc0 n) from dif_pos hn]
    unfold hcStep
    rw [put_half c a24 _ (8192 + 1024 * n) _ (off12_hi (tk4 ⟨n, hn⟩))]
    split
    · next h =>
      rw [pay9_at, hs, rd_half c a19 ff (8192 + 1024 * n) _ (off12_hi (tk4 ⟨n, hn⟩)) _ r _ (by simp only; omega), hH, if_pos (by omega)]
      exact congrArg (fun k => Ideal.fptosi 8 (code (H r k) (s r))) (Fin.ext (by simp only; omega))
    · next h =>
      rw [put_half c a24 _ (1024 * n) _ (off12_lo (tk4 ⟨n, hn⟩))]
      split
      · next h =>
        rw [pay7_at, hs, rd_half c a19 ff (1024 * n) _ (off12_lo (tk4 ⟨n, hn⟩)) _ r _ (by simp only; omega), hH, if_pos (by omega)]
        exact congrArg (fun k => Ideal.fptosi 8 (code (H r k) (s r))) (Fin.ext (by simp only; omega))
      · next h' =>
        show a24.view.read (Elt Ideal) (hcAt c q ff hc0 n) (ix2 r k) = _
        rw [ih (by omega)]
        split
        · rw [if_pos (by omega)]
        · rw [if_neg (by omega)]

/-- The interleaved codes of trip `j`. -/
theorem inter_at (j : Fin 8) (r : Fin 24) (n : Fin 2048) :
    inter c q ff (tk4 j) (ix2 r n) = woven (loQ c q ff (tk4 j)) (hiQ c q ff (tk4 j)) r n.val n.isLt := by
  have hp : perm c q ff (tk4 j) = permP (loQ c q ff (tk4 j)) (hiQ c q ff (tk4 j)) := rfl
  unfold inter
  refine (congrFun (View.readAt_full a20.view (a20.view.writes (Elt Ideal) a20.view.junk (hiParts c q ff (tk4 j))) _) (ix2 r n)).trans ?_
  unfold hiParts
  rw [hp]
  exact pieces8 a20.view _ (fun r n h => woven (loQ c q ff (tk4 j)) (hiQ c q ff (tk4 j)) r n h) _ _ _ _ _ _ _ _
    (fun r c' => (pay12_at r c' _ _).trans (permP_0 r c' _ _)) (fun r c' => (pay14_at r c' _ _).trans (permP_1 r c' _ _))
    (fun r c' => (pay15_at r c' _).trans (permP_2 r c' _ _)) (fun r c' => (pay16_at r c' _).trans (permP_3 r c' _ _))
    (fun r c' => (pay17_at r c' _).trans (permP_4 r c' _ _)) (fun r c' => (pay18_at r c' _).trans (permP_5 r c' _ _))
    (fun r c' => (pay19_at r c' _).trans (permP_6 r c' _ _)) (fun r c' => (pay20_at r c' _).trans (permP_7 r c' _ _)) r n

variable (hW : ∀ (j : Fin 8) (i : Fin 1024) (l : Fin 2048) (h : 1024 * j.val + i.val < 8192),
  rd c a13 (g j) (k0_off15 (tk4 j)) S1x1024x2048.size (k0_off15_inb (tk4 j)) (ix3 0 i l) = Wd ⟨1024 * j.val + i.val, h⟩ l)
include hW
theorem faAt_at (fa0 : HBuf (F := Ideal) c a21) (n : ℕ) (hn : n ≤ 8) (r : Fin 24) (l : Fin 2048) (h0 : a21.view.read (Elt Ideal) fa0 (ix2 r l) = 0) :
    a21.view.read (Elt Ideal) (faAt c q ff g fa0 n) (ix2 r l)
      = ∑ j ∈ Finset.range n, if h : j < 8 then
          (∑ i : Fin 1024, code (H r ⟨1024 * j + i.val, by omega⟩) (s r) * lo (Wd ⟨1024 * j + i.val, by omega⟩ l))
            + ∑ i : Fin 1024, code (H r ⟨8192 + (1024 * j + i.val), by omega⟩) (s r) * hi (Wd ⟨1024 * j + i.val, by omega⟩ l) else 0 := by
  induction n with
  | zero => rw [Finset.range_zero, Finset.sum_empty]; exact h0
  | succ n ih =>
    rw [show faAt c q ff g fa0 (n + 1) = faStep c q ff (g ⟨n, hn⟩) (tk4 ⟨n, hn⟩) (faAt c q ff g fa0 n) from dif_pos hn]
    unfold faStep
    rw [View.read_writes_full]
    rw [pay21_at _ r l _ _ (fun i => code (H r ⟨1024 * n + i.val, by omega⟩) (s r)) (fun i => code (H r ⟨8192 + (1024 * n + i.val), by omega⟩) (s r))
      (fun i => by
        rw [inter_at c q ff H s hH hs ⟨n, hn⟩, woven, if_pos (by simp only; omega), ← loQ_at c q ff H s hH hs ⟨n, hn⟩]
        exact congrArg (fun k => loQ c q ff (tk4 ⟨n, hn⟩) (ix2 r k)) (Fin.ext (by simp only; omega)))
      (fun i => by
        rw [inter_at c q ff H s hH hs ⟨n, hn⟩, woven, if_neg (by simp only; omega), ← hiQ_at c q ff H s hH hs ⟨n, hn⟩]
        exact congrArg (fun k => hiQ c q ff (tk4 ⟨n, hn⟩) (ix2 r k)) (Fin.ext (by simp only; omega)))]
    rw [Finset.sum_range_succ, dif_pos (show n < 8 from hn), ← ih (by omega)]
    refine congrArg₂ (· + ·) (congrFun (View.readAt_full a21.view (faAt c q ff g fa0 n) inb_S24x2048_S24x2048_0_0) (ix2 r l)) ?_
    have e : (fun i : Fin 1024 => rd c a13 (g ⟨n, hn⟩) (k0_off15 (tk4 ⟨n, hn⟩)) S1x1024x2048.size (k0_off15_inb (tk4 ⟨n, hn⟩)) (ix3 0 i l))
        = fun i => Wd ⟨1024 * n + i.val, by omega⟩ l := funext fun i => hW ⟨n, hn⟩ i l (by simp only; omega)
    rw [e]
    rfl

/-- After all eight trips the accumulator is the down product of the codes with the packed weight. -/
theorem faAt_8 (fa0 : HBuf (F := Ideal) c a21) (r : Fin 24) (l : Fin 2048) (h0 : a21.view.read (Elt Ideal) fa0 (ix2 r l) = 0)
    (cl ch : Fin 8192 → EReal) (hl : ∀ (x : Fin 8192) (h : x.val < 16384), code (H r ⟨x.val, h⟩) (s r) = cl x)
    (hh : ∀ (x : Fin 8192) (h : 8192 + x.val < 16384), code (H r ⟨8192 + x.val, h⟩) (s r) = ch x) :
    a21.view.read (Elt Ideal) (faAt c q ff g fa0 8) (ix2 r l) = dot cl ch (fun x => Wd x l) := by
  rw [faAt_at c q ff g H s Wd hH hs hW fa0 8 le_rfl r l h0]
  rw [show cl = fun x : Fin 8192 => code (H r ⟨x.val, by omega⟩) (s r) from funext fun x => (hl x _).symm,
    show ch = fun x : Fin 8192 => code (H r ⟨8192 + x.val, by omega⟩) (s r) from funext fun x => (hh x _).symm]
  unfold dot
  rw [← tiles 8 1024 8192 rfl (fun x : Fin 8192 => code (H r ⟨x.val, by omega⟩) (s r) * lo (Wd x l)),
    ← tiles 8 1024 8192 rfl (fun x : Fin 8192 => code (H r ⟨8192 + x.val, by omega⟩) (s r) * hi (Wd x l)), ← Finset.sum_add_distrib]
  refine Finset.sum_congr rfl fun j hj => ?_
  have hj' : j < 8 := Finset.mem_range.mp hj
  rw [dif_pos hj', dif_pos hj', dif_pos hj']
end Down

end Cert.KernelIdeal.Hand
end
-- ==== Proof.Value.Outs.lean ====
module

public import proofs.«01_k».proof.Proof.Value.Loops

@[expose] public section

set_option maxRecDepth 16384

noncomputable section
namespace Cert.KernelIdeal.Hand
open Cert.KernelIdeal Cert.KernelIdeal.Gen
open Idealize.ShloMosaic Idealize.ShloMosaic.TcCoe Idealize.SL.Sem

open Cert.Mlp

/-! ### The five results of the kernel, whatever the scratch buffers held before -/
section
variable (c : Dev nD) (a0 : Memref sig .tc .vmem S24x2048 .f32) (x0 : HBuf (F := Ideal) c a0) (x1 : HBuf (F := Ideal) c a1) (x2 : HBuf (F := Ideal) c a2) (x3 : HBuf (F := Ideal) c a3)
  (x4 : HBuf (F := Ideal) c a4) (x5 : HBuf (F := Ideal) c a5) (x6 : HBuf (F := Ideal) c a6) (x7 : HBuf (F := Ideal) c a7)

/-- The eight arguments as the kernel finds them, as the mathematics takes them. -/
def args : In where
  X r l := a0.view.read (Elt Ideal) x0 (ix2 r l)
  w l := a1.view.read (Elt Ideal) x1 (ix2 0 l)
  Wg i n := a2.view.read (Elt Ideal) x2 (ix2 i n)
  Wu i n := a3.view.read (Elt Ideal) x3 (ix2 i n)
  sg n := a4.view.read (Elt Ideal) x4 (ix2 0 n)
  su n := a5.view.read (Elt Ideal) x5 (ix2 0 n)
  Wd i l := a6.view.read (Elt Ideal) x6 (ix2 i l)
  sd l := a7.view.read (Elt Ideal) x7 (ix2 0 l)

variable (A : In) (hA : A = args c a0 x0 x1 x2 x3 x4 x5 x6 x7)
variable (x13 : HBuf (F := Ideal) c a13) (x14 : HBuf (F := Ideal) c a14) (x15 : HBuf (F := Ideal) c a15) (x16 : HBuf (F := Ideal) c a16) (x17 : HBuf (F := Ideal) c a17)
  (x19 : HBuf (F := Ideal) c a19) (x24 : HBuf (F := Ideal) c a24)
variable (r : Fin 24) (l : Fin 2048) (n : Fin 16384)
include hA

/-- The normalised rows, their scales and codes. -/
theorem nrm_eq : k0_pay23 (actRd c a0 x0) (nrmRd c x1 x14) (k0_pay22 (actRd c a0 x0)) (ix2 r l) = nrm A r l := by
  subst hA
  rw [pay23_at, pay22_at, actRd_eq, nrmRd_eq]; rfl
theorem ms_eq : mScale c a0 x0 x1 x14 (ix2 r 0) = ms A r := by
  unfold mScale
  rw [pay24_at, ms]
  exact congrArg (fun f => scaleOf (rowMax f)) (funext fun k => nrm_eq c a0 x0 x1 x2 x3 x4 x5 x6 x7 A hA x14 r k)
theorem mc_eq : k0_pay25 (actRd c a0 x0) (nrmRd c x1 x14) (k0_pay22 (actRd c a0 x0)) (ix2 r l) = mc A r l := by
  rw [pay25_at, nrm_eq c a0 x0 x1 x2 x3 x4 x5 x6 x7 A hA]
  exact congrArg (code (nrm A r l)) (ms_eq c a0 x0 x1 x2 x3 x4 x5 x6 x7 A hA x14 r)

/-- The interleaved codes. -/
theorem xi_eq (k : Fin 2048) : a18.view.read (Elt Ideal) (xiA c a0 x0 x1 x14) (ix2 r k)
    = woven (k0_pay28 (actRd c a0 x0) (nrmRd c x1 x14) (k0_pay22 (actRd c a0 x0))) (k0_pay29 (actRd c a0 x0) (nrmRd c x1 x14) (k0_pay22 (actRd c a0 x0))) r k.val k.isLt := by
  have hp : xiPerm c a0 x0 x1 x14 = permP (k0_pay28 (actRd c a0 x0) (nrmRd c x1 x14) (k0_pay22 (actRd c a0 x0))) (k0_pay29 (actRd c a0 x0) (nrmRd c x1 x14) (k0_pay22 (actRd c a0 x0))) := rfl
  unfold xiA xiParts
  rw [hp]
  exact pieces8 a18.view _ (fun r n h => woven (k0_pay28 (actRd c a0 x0) (nrmRd c x1 x14) (k0_pay22 (actRd c a0 x0))) (k0_pay29 (actRd c a0 x0) (nrmRd c x1 x14) (k0_pay22 (actRd c a0 x0))) r n h) _ _ _ _ _ _ _ _
    (fun r c' => (pay33_at r c' _ _).trans (permP_0 r c' _ _)) (fun r c' => (pay34_at r c' _ _).trans (permP_1 r c' _ _))
    (fun r c' => (pay35_at r c' _).trans (permP_2 r c' _ _)) (fun r c' => (pay36_at r c' _).trans (permP_3 r c' _ _))
    (fun r c' => (pay37_at r c' _).trans (permP_4 r c' _ _)) (fun r c' => (pay38_at r c' _).trans (permP_5 r c' _ _))
    (fun r c' => (pay39_at r c' _).trans (permP_6 r c' _ _)) (fun r c' => (pay40_at r c' _).trans (permP_7 r c' _ _)) r k
theorem xi_lo (i : Fin 1024) : rd c a18 (xiA c a0 x0 x1 x14) ![0, 0] S24x2048.size inb_S24x2048_S24x2048_0_0 (ix2 r ⟨2 * i.val, by omega⟩) = mc A r ⟨i.val, by omega⟩ := by
  refine (congrFun (View.readAt_full a18.view (xiA c a0 x0 x1 x14) _) _).trans ?_
  rw [xi_eq c a0 x0 x1 x2 x3 x4 x5 x6 x7 A hA, woven, if_pos (by simp only; omega), ← mc_eq c a0 x0 x1 x2 x3 x4 x5 x6 x7 A hA x14, ← pay28_at]
  exact congrArg (fun k => k0_pay28 (actRd c a0 x0) (nrmRd c x1 x14) (k0_pay22 (actRd c a0 x0)) (ix2 r k)) (Fin.ext (by simp only; omega))
theorem xi_hi (i : Fin 1024) : rd c a18 (xiA c a0 x0 x1 x14) ![0, 0] S24x2048.size inb_S24x2048_S24x2048_0_0 (ix2 r ⟨2 * i.val + 1, by omega⟩) = mc A r ⟨1024 + i.val, by omega⟩ := by
  refine (congrFun (View.readAt_full a18.view (xiA c a0 x0 x1 x14) _) _).trans ?_
  rw [xi_eq c a0 x0 x1 x2 x3 x4 x5 x6 x7 A hA, woven, if_neg (by simp only; omega), ← mc_eq c a0 x0 x1 x2 x3 x4 x5 x6 x7 A hA x14, ← pay29_at]
  exact congrArg (fun k => k0_pay29 (actRd c a0 x0) (nrmRd c x1 x14) (k0_pay22 (actRd c a0 x0)) (ix2 r k)) (Fin.ext (by simp only; omega))

/-- A block of the gate product, as it is summed and as it is stored, and of the up product. -/
theorem gateFactors (j : Fin 8) :
    dot (fun x : Fin 1024 => mc A r ⟨x.val, by omega⟩) (fun x => mc A r ⟨1024 + x.val, by omega⟩)
        (fun i => rd c a13 (g1 c x13 x2 j) (k0_off3 (tk1 j)) S1x1024x2048.size (k0_off3_inb (tk1 j)) (ix3 0 i l))
      * mScale c a0 x0 x1 x14 (ix2 r 0) * rd c a15 (sgA c x4 x15) (k0_off4 (tk1 j)) S1x2048.size (k0_off4_inb (tk1 j)) (ix2 0 l)
      = gate A r ⟨2048 * j.val + l.val, by omega⟩ := by
  unfold gate
  refine congrArg₂ (· * ·) (congrArg₂ (· * ·) (congrArg (dot _ _) (funext fun i => ?_)) (ms_eq c a0 x0 x1 x2 x3 x4 x5 x6 x7 A hA x14 r)) ?_
  · refine (rd_slot c x13 (2 + j.val) (by omega) (blk2 c x2 j) _ ((k0_off3_eq (tk1 j)).trans ?_) _ i l).trans ((blk2_at c x2 j i l).trans ?_)
    · show (![j.val + 2, 0, 0] : Fin 3 → ℕ) = ![2 + j.val, 0, 0]
      rw [Nat.add_comm]
    · subst hA; rfl
  · rw [rd_row c a15 _ (2048 * j.val) _ (k0_off4_eq (tk1 j)) _ l (by omega), sgA_eq]; subst hA; rfl
theorem gateBlk_eq (j : Fin 8) : gateBlk c (mScale c a0 x0 x1 x14) (xiA c a0 x0 x1 x14) (sgA c x4 x15) (g1 c x13 x2 j) (tk1 j) (ix2 r l) = gate A r ⟨2048 * j.val + l.val, by omega⟩ :=
  (pay2_at _ _ r l _ _ _ _ (xi_lo c a0 x0 x1 x2 x3 x4 x5 x6 x7 A hA x14 r) (xi_hi c a0 x0 x1 x2 x3 x4 x5 x6 x7 A hA x14 r)).trans (gateFactors c a0 x0 x1 x2 x3 x4 x5 x6 x7 A hA x13 x14 x15 r l j)
theorem gateSt_eq (j : Fin 8) : gateSt c (mScale c a0 x0 x1 x14) (xiA c a0 x0 x1 x14) (sgA c x4 x15) (g1 c x13 x2 j) (tk1 j) (ix2 r l) = gate A r ⟨2048 * j.val + l.val, by omega⟩ :=
  (pay3_at _ _ r l _ _ _ _ (xi_lo c a0 x0 x1 x2 x3 x4 x5 x6 x7 A hA x14 r) (xi_hi c a0 x0 x1 x2 x3 x4 x5 x6 x7 A hA x14 r)).trans (gateFactors c a0 x0 x1 x2 x3 x4 x5 x6 x7 A hA x13 x14 x15 r l j)
theorem upBlk_eq (j : Fin 8) : k0_pay4 (mScale c a0 x0 x1 x14) (rd c a18 (xiA c a0 x0 x1 x14) ![0, 0] S24x2048.size inb_S24x2048_S24x2048_0_0)
    (rd c a13 (g3 c x13 x3 j) (k0_off9 (tk3 j)) S1x1024x2048.size (k0_off9_inb (tk3 j))) (rd c a16 (suA c x5 x16) (k0_off10 (tk3 j)) S1x2048.size (k0_off10_inb (tk3 j))) (ix2 r l)
      = up A r ⟨2048 * j.val + l.val, by omega⟩ := by
  refine (pay4_at _ _ r l _ _ _ _ (xi_lo c a0 x0 x1 x2 x3 x4 x5 x6 x7 A hA x14 r) (xi_hi c a0 x0 x1 x2 x3 x4 x5 x6 x7 A hA x14 r)).trans ?_
  unfold up
  refine congrArg₂ (· * ·) (congrArg₂ (· * ·) (congrArg (dot _ _) (funext fun i => ?_)) (ms_eq c a0 x0 x1 x2 x3 x4 x5 x6 x7 A hA x14 r)) ?_
  · refine (rd_slot c x13 (10 + j.val) (by omega) (blk3 c x3 j) _ ((k0_off9_eq (tk3 j)).trans ?_) _ i l).trans ((blk3_at c x3 j i l).trans ?_)
    · show (![j.val + 10, 0, 0] : Fin 3 → ℕ) = ![10 + j.val, 0, 0]
      rw [Nat.add_comm]
    · subst hA; rfl
  · rw [rd_row c a16 _ (2048 * j.val) _ (k0_off10_eq (tk3 j)) _ l (by omega), suA_eq]; subst hA; rfl

/-- The gate rows, their mean and variance, the cutoff. -/
theorem ff1_eq : a19.view.read (Elt Ideal) (ff1 c a0 x0 x1 x2 x4 x13 x14 x15 x19) (ix2 r n) = gate A r n := by
  unfold ff1
  rw [gateFF_at c _ _ _ _ (gate A) (fun j r l => gateSt_eq c a0 x0 x1 x2 x3 x4 x5 x6 x7 A hA x13 x14 x15 r l j) x19 8 le_rfl r n, if_pos (by omega)]
theorem mu_eq : muV c a0 x0 x1 x2 x4 x13 x14 x15 (ix2 r 0) = mu A r := by
  unfold muV
  rw [pay43_at, gateAcc_8 c _ _ _ _ (gate A) (fun j r l => gateBlk_eq c a0 x0 x1 x2 x3 x4 x5 x6 x7 A hA x13 x14 x15 r l j)]
  rfl
theorem va_eq : sdV c a0 x0 x1 x2 x4 x13 x14 x15 x19 (ix2 r 0) = va A r := by
  unfold sdV
  rw [pay46_at, varAcc_8 c _ _ (gate A) (fun r k => ff1_eq c a0 x0 x1 x2 x3 x4 x5 x6 x7 A hA x13 x14 x15 x19 r k), mu_eq c a0 x0 x1 x2 x3 x4 x5 x6 x7 A hA]
  rfl
theorem hid_eq : hid A r n = act (gate A r n - k0_pay47 (muV c a0 x0 x1 x2 x4 x13 x14 x15) (sdV c a0 x0 x1 x2 x4 x13 x14 x15 x19) (ix2 r 0)) * up A r n := by
  rw [pay47_at, mu_eq c a0 x0 x1 x2 x3 x4 x5 x6 x7 A hA, va_eq c a0 x0 x1 x2 x3 x4 x5 x6 x7 A hA]
  rfl

/-- The hidden rows, their largest magnitudes, their scales. -/
theorem ff2_eq : a19.view.read (Elt Ideal) (ff2 c a0 x0 x1 x2 x3 x4 x5 x13 x14 x15 x16 x19) (ix2 r n) = hid A r n := by
  unfold ff2
  rw [upFF_at c _ _ _ _ _ _ (gate A) (up A) (hid A) (fun j r l => upBlk_eq c a0 x0 x1 x2 x3 x4 x5 x6 x7 A hA x13 x14 x16 r l j) (fun r k => hid_eq c a0 x0 x1 x2 x3 x4 x5 x6 x7 A hA x13 x14 x15 x19 r k) _
    (fun r k => ff1_eq c a0 x0 x1 x2 x3 x4 x5 x6 x7 A hA x13 x14 x15 x19 r k) 8 le_rfl r n, if_pos (by omega)]
theorem mx_eq : mxV c a0 x0 x1 x2 x3 x4 x5 x13 x14 x15 x16 x19 (ix2 r 0) = rowMax (hid A r) := by
  unfold mxV
  exact upMax_8 c _ _ _ _ _ _ (gate A) (up A) (hid A) (fun j r l => upBlk_eq c a0 x0 x1 x2 x3 x4 x5 x6 x7 A hA x13 x14 x16 r l j) (fun r k => hid_eq c a0 x0 x1 x2 x3 x4 x5 x6 x7 A hA x13 x14 x15 x19 r k) _
    (fun r k => ff1_eq c a0 x0 x1 x2 x3 x4 x5 x6 x7 A hA x13 x14 x15 x19 r k) r
theorem hs_eq : k0_pay52 (mxV c a0 x0 x1 x2 x3 x4 x5 x13 x14 x15 x16 x19) (ix2 r 0) = hs A r := by
  rw [pay52_at, mx_eq c a0 x0 x1 x2 x3 x4 x5 x6 x7 A hA]; rfl

/-- The down product and the codes of the hidden rows. -/
theorem down_eq (j : Fin 8) (i : Fin 1024) : rd c a13 (g4 c x13 x2 x6 j) (k0_off15 (tk4 j)) S1x1024x2048.size (k0_off15_inb (tk4 j)) (ix3 0 i l) = A.Wd ⟨1024 * j.val + i.val, by omega⟩ l := by
  unfold g4
  refine (rd_slot c _ (0 + j.val) (by omega) (blk6 c x6 j) _ ((off15_eq (tk4 j)).trans ?_) _ i l).trans ((blk6_at c x6 j i l).trans ?_)
  · show (![j.val, 0, 0] : Fin 3 → ℕ) = ![0 + j.val, 0, 0]
    rw [Nat.zero_add]
  · subst hA; rfl
theorem fa_eq : a21.view.read (Elt Ideal) (faV c a0 x0 x1 x2 x3 x4 x5 x6 x13 x14 x15 x16 x19) (ix2 r l)
    = dot (fun x : Fin 8192 => hc A r ⟨x.val, by omega⟩) (fun x => hc A r ⟨8192 + x.val, by omega⟩) (fun x => A.Wd x l) := by
  unfold faV
  exact faAt_8 c _ _ _ (hid A) (hs A) A.Wd (fun r k => ff2_eq c a0 x0 x1 x2 x3 x4 x5 x6 x7 A hA x13 x14 x15 x16 x19 r k) (fun r => hs_eq c a0 x0 x1 x2 x3 x4 x5 x6 x7 A hA x13 x14 x15 x16 x19 r)
    (fun j i l _ => down_eq c a0 x0 x1 x2 x3 x4 x5 x6 x7 A hA x13 l j i) (fa0 c) r l (by
      unfold fa0
      rw [View.read_writes_full]; exact pay54_at r l) _ _ (fun _ _ => rfl) (fun _ _ => rfl)
theorem hc_eq : a24.view.read (Elt Ideal) (hcV c a0 x0 x1 x2 x3 x4 x5 x13 x14 x15 x16 x19 x24) (ix2 r n) = Ideal.fptosi 8 (hc A r n) := by
  unfold hcV
  rw [hcAt_at c _ _ (hid A) (hs A) (fun r k => ff2_eq c a0 x0 x1 x2 x3 x4 x5 x6 x7 A hA x13 x14 x15 x16 x19 r k) (fun r => hs_eq c a0 x0 x1 x2 x3 x4 x5 x6 x7 A hA x13 x14 x15 x16 x19 r) x24 8 le_rfl r n,
    if_pos (by omega)]
  rfl

/-- The block's output. -/
theorem out8_at (x8 : HBuf (F := Ideal) c a8) (x22 : HBuf (F := Ideal) c a22) :
    a8.view.read (Elt Ideal) (out8 c a0 x0 x1 x2 x3 x4 x5 x6 x7 x13 x14 x15 x16 x17 x19 x8 x22) (ix3 r 0 l) = dn A r l := by
  unfold out8
  rw [View.read_write_univ]
  show a22.view.read (Elt Ideal) _ (ix3 r 0 l) = _
  rw [View.read_writes_full, pay1_at, pay55_at, mx_eq c a0 x0 x1 x2 x3 x4 x5 x6 x7 A hA]
  unfold dn
  refine congrArg₂ (· * ·) (congrArg₂ (· * ·) ?_ rfl) ?_
  · exact (congrFun (View.readAt_full a21.view (faV c a0 x0 x1 x2 x3 x4 x5 x6 x13 x14 x15 x16 x19) inb_S24x2048_S24x2048_0_0) (ix2 r l)).trans
      (fa_eq c a0 x0 x1 x2 x3 x4 x5 x6 x7 A hA x13 x14 x15 x16 x19 r l)
  · refine (congrFun (View.readAt_full a17.view (sdA c x7 x17) inb_S1x2048_S1x2048_0_0) (ix2 0 l)).trans ?_
    rw [sdA_eq]; subst hA; rfl
/-- The codes of the normalised rows, -/
theorem out9_at (x9 : HBuf (F := Ideal) c a9) (x23 : HBuf (F := Ideal) c a23) :
    a9.view.read (Elt Ideal) (out9 c a0 x0 x1 x14 x9 x23) (ix2 r l) = Ideal.fptosi 8 (mc A r l) := by
  unfold out9
  rw [View.read_write_univ]
  show a23.view.read (Elt Ideal) _ (ix2 r l) = _
  rw [View.read_writes_full, pay26_at, mc_eq c a0 x0 x1 x2 x3 x4 x5 x6 x7 A hA]
/-- and their scales. -/
theorem out10_at (x10 : HBuf (F := Ideal) c a10) (x25 : HBuf (F := Ideal) c a25) :
    a10.view.read (Elt Ideal) (out10 c a0 x0 x1 x14 x10 x25) (ix2 0 r) = ms A r := by
  unfold out10
  rw [View.read_write_univ]
  show a25.view.read (Elt Ideal) _ (ix2 0 r) = _
  rw [View.read_writes_full, pay27_at]
  exact ms_eq c a0 x0 x1 x2 x3 x4 x5 x6 x7 A hA x14 r
/-- The codes of the hidden rows, -/
theorem out11_at (x11 : HBuf (F := Ideal) c a11) :
    a11.view.read (Elt Ideal) (out11 c a0 x0 x1 x2 x3 x4 x5 x13 x14 x15 x16 x19 x24 x11) (ix2 r n) = Ideal.fptosi 8 (hc A r n) := by
  unfold out11
  rw [View.read_write_univ]
  exact hc_eq c a0 x0 x1 x2 x3 x4 x5 x6 x7 A hA x13 x14 x15 x16 x19 x24 r n
/-- and their scales. -/
theorem out12_at (x12 : HBuf (F := Ideal) c a12) :
    a12.view.read (Elt Ideal) (out12 c a0 x0 x1 x2 x3 x4 x5 x13 x14 x15 x16 x19 x12) (ix2 0 r) = hs A r := by
  unfold out12
  rw [View.read_write_univ]
  show a26.view.read (Elt Ideal) _ (ix2 0 r) = _
  rw [View.read_writes_full, pay53_at]
  exact hs_eq c a0 x0 x1 x2 x3 x4 x5 x6 x7 A hA x13 x14 x15 x16 x19 r
end

end Cert.KernelIdeal.Hand
end
-- ==== Proof.Value.Host.lean ====
module

public import proofs.«01_k».proof.Proof.Value.Outs
public import proofs.«01_k».proof.Proof.Gen.KernelIdeal.Frame

@[expose] public section

set_option maxRecDepth 16384

noncomputable section
namespace Cert.KernelIdeal.Hand
open Cert.KernelIdeal Cert.KernelIdeal.Gen
open Idealize.ShloMosaic Idealize.ShloMosaic.TcCoe Idealize.SL.Sem
open Cert.Mlp

/-! ### The arguments as the kernel finds them, and its five results as arrays

Before the launch the host lays four vectors out as one row each; the activations are staged by the pipeline, whole. -/

variable (m : (ℓ : Loc nD τ sig) → Buf (Elt Ideal) ℓ) (c : Dev nD)

/-- A vector laid out as one row has its entries along it. -/
theorem row_at {n : Nat} {e : EltTy} (h : (⟨1, ![n]⟩ : Shape).ShapeCasts ⟨2, ![1, n]⟩) (v : Vec Ideal ⟨1, ![n]⟩ e) (l : Fin n) :
    shapeCast ⟨2, ![1, n]⟩ v h (ix2 0 l) = v (ix1 l) :=
  congrArg v (Shape.reshapeEquiv_eq_of_rowMajor _ (by
    rw [Shape.rowMajor_val_one, Shape.rowMajor_val_two]; show l.val = 0 * n + l.val; omega))

/-- The four vectors as the host lays them out before the launch. -/
theorem V_v0 : (V m c main_v0 : Vec Ideal S1x2048 .f32) = shapeCast S1x2048 (m ((c : Thread nD τ).loc main_arg1)) shapeCasts_S2048_S1x2048 := rfl
theorem V_v1 : (V m c main_v1 : Vec Ideal S1x16384 .f32) = shapeCast S1x16384 (m ((c : Thread nD τ).loc main_arg4)) shapeCasts_S16384_S1x16384 := rfl
theorem V_v2 : (V m c main_v2 : Vec Ideal S1x16384 .f32) = shapeCast S1x16384 (m ((c : Thread nD τ).loc main_arg5)) shapeCasts_S16384_S1x16384 := rfl
theorem V_v3 : (V m c main_v3 : Vec Ideal S1x2048 .f32) = shapeCast S1x2048 (m ((c : Thread nD τ).loc main_arg7)) shapeCasts_S2048_S1x2048 := rfl

/-- The staged window is the whole array at the one point of the grid. -/
theorem idx_zero0 : ∀ t : Fin cfg0.N, win0_0.index t (0 : Fin 2) = 0 ∧ win0_0.index t (1 : Fin 2) = 0 :=
  (by decide +kernel : ∀ t : Fin grid0.N, _)
/-- Every index of its block is the same index of the array, -/
theorem emb0 (t : Fin cfg0.N) (j : S24x2048.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 2048 + 1 * (j 1).val = (j 1).val; omega
/-- so the block is the array as given. -/
theorem iblk0_eq (t : Fin cfg0.N) : iblk m c 0 t = m ((c : Thread nD τ).loc main_arg0) := by
  rw [← V_main_arg0 m c]
  funext j; show V m c main_arg0 (((cfg0.win 0).blk t).view.emb j) = V m c main_arg0 j; rw [emb0]

/-- The eight arguments of the program, as the mathematics takes them. -/
def given : In where
  X r l := m ((c : Thread nD τ).loc main_arg0) (ix2 r l)
  w l := m ((c : Thread nD τ).loc main_arg1) (ix1 l)
  Wg i n := m ((c : Thread nD τ).loc main_arg2) (ix2 i n)
  Wu i n := m ((c : Thread nD τ).loc main_arg3) (ix2 i n)
  sg n := m ((c : Thread nD τ).loc main_arg4) (ix1 n)
  su n := m ((c : Thread nD τ).loc main_arg5) (ix1 n)
  Wd i l := m ((c : Thread nD τ).loc main_arg6) (ix2 i l)
  sd l := m ((c : Thread nD τ).loc main_arg7) (ix1 l)

/-- What the kernel finds in its operands are the arguments of the program. -/
theorem given_eq (a0 : Memref sig .tc .vmem S24x2048 .f32) (x0 : HBuf (F := Ideal) c a0)
    (h0 : ∀ j, a0.view.read (Elt Ideal) x0 j = m ((c : Thread nD τ).loc main_arg0) j) :
    given m c = args c a0 x0 (V m c main_v0) (V m c main_arg2) (V m c main_arg3) (V m c main_v1) (V m c main_v2) (V m c main_arg6) (V m c main_v3) := by
  unfold given args
  rw [In.mk.injEq]
  exact ⟨funext fun r => funext fun l => (h0 _).symm,
    funext fun l => (row_at shapeCasts_S2048_S1x2048 _ l).symm,
    funext fun i => funext fun n => by rw [V_main_arg2]; rfl,
    funext fun i => funext fun n => by rw [V_main_arg3]; rfl,
    funext fun n => (row_at shapeCasts_S16384_S1x16384 _ n).symm,
    funext fun n => (row_at shapeCasts_S16384_S1x16384 _ n).symm,
    funext fun i => funext fun l => by rw [V_main_arg6]; rfl,
    funext fun l => (row_at shapeCasts_S2048_S1x2048 _ l).symm⟩

/-- The five results as arrays: the down product; the codes of the normalised rows; their scales; the codes of the hidden
    rows; their scales. -/
def res0 (A : In) : Vec Ideal S24x1x2048 .f32 := fun i => dn A (i 0) (i 2)
def res1 (A : In) : Vec Ideal S24x2048 .i8 := fun i => Ideal.fptosi 8 (mc A (i 0) (i 1))
def res2 (A : In) : Vec Ideal S1x24 .f32 := fun i => ms A (i 1)
def res3 (A : In) : Vec Ideal S24x16384 .i8 := fun i => Ideal.fptosi 8 (hc A (i 0) (i 1))
def res4 (A : In) : Vec Ideal S1x24 .f32 := fun i => hs A (i 1)

/-- An entry of the hidden codes. -/
theorem res3_at (A : In) (r : Fin 24) (n : Fin 16384) : res3 A (ix2 r n) = Ideal.fptosi 8 (hc A r n) := rfl

/-- Two arrays of one row per batch entry (or of one row) agree if they agree entry by entry. -/
theorem ext_mid {a n : Nat} {α : Type} (f g : (⟨3, ![a, 1, n]⟩ : Shape).Idx → α) (h : ∀ r l, f (ix3 r 0 l) = g (ix3 r 0 l)) : f = g :=
  funext fun j => by
    rw [show j = ix3 (j 0) 0 (j 2) from (ValueIdx.eq_ix3 j).trans (congrArg (fun z => ix3 (j 0) z (j 2)) (Subsingleton.elim (α := Fin 1) _ _))]
    exact h _ _
/-- The same for two axes, -/
theorem ext_two {a n : Nat} {α : Type} (f g : (⟨2, ![a, n]⟩ : Shape).Idx → α) (h : ∀ r l, f (ix2 r l) = g (ix2 r l)) : f = g :=
  funext fun j => by rw [ValueIdx.eq_ix2 j]; exact h _ _
/-- and for one row. -/
theorem ext_row {n : Nat} {α : Type} (f g : (⟨2, ![1, n]⟩ : Shape).Idx → α) (h : ∀ l, f (ix2 0 l) = g (ix2 0 l)) : f = g :=
  ext_two f g fun r l => by rw [Subsingleton.elim r 0]; exact h l

/-- The array of hidden codes is read whole. -/
theorem whole11 (f : HBuf (F := Ideal) c a11) (i : S24x16384.Idx) : a11.view.read (Elt Ideal) f i = f i := rfl

section
variable (a0 : Memref sig .tc .vmem S24x2048 .f32) (x0 : HBuf (F := Ideal) c a0)
  (h0 : ∀ j, a0.view.read (Elt Ideal) x0 j = m ((c : Thread nD τ).loc main_arg0) j)
  (x13 : HBuf (F := Ideal) c a13) (x14 : HBuf (F := Ideal) c a14) (x15 : HBuf (F := Ideal) c a15) (x16 : HBuf (F := Ideal) c a16)
  (x17 : HBuf (F := Ideal) c a17) (x19 : HBuf (F := Ideal) c a19) (x22 : HBuf (F := Ideal) c a22) (x23 : HBuf (F := Ideal) c a23)
  (x24 : HBuf (F := Ideal) c a24) (x25 : HBuf (F := Ideal) c a25)
  (y8 : HBuf (F := Ideal) c a8) (y9 : HBuf (F := Ideal) c a9) (y10 : HBuf (F := Ideal) c a10) (y11 : HBuf (F := Ideal) c a11) (y12 : HBuf (F := Ideal) c a12)
include h0
/-- What the kernel leaves in its five result arrays, whatever its scratch buffers and the arrays held before. -/
theorem left8 : out8 c a0 x0 (V m c main_v0) (V m c main_arg2) (V m c main_arg3) (V m c main_v1) (V m c main_v2) (V m c main_arg6) (V m c main_v3) x13 x14 x15 x16 x17 x19 y8 x22
    = res0 (given m c) :=
  ext_mid _ _ fun r l => out8_at c a0 x0 _ _ _ _ _ _ _ (given m c) (given_eq m c a0 x0 h0) x13 x14 x15 x16 x17 x19 r l y8 x22
theorem left9 : out9 c a0 x0 (V m c main_v0) x14 y9 x23 = res1 (given m c) :=
  ext_two _ _ fun r l => out9_at c a0 x0 _ _ _ _ _ _ _ (given m c) (given_eq m c a0 x0 h0) x14 r l y9 x23
theorem left10 : out10 c a0 x0 (V m c main_v0) x14 y10 x25 = res2 (given m c) :=
  ext_row _ _ fun r => out10_at c a0 x0 _ _ _ _ _ _ _ (given m c) (given_eq m c a0 x0 h0) x14 r y10 x25
theorem left11 : out11 c a0 x0 (V m c main_v0) (V m c main_arg2) (V m c main_arg3) (V m c main_v1) (V m c main_v2) x13 x14 x15 x16 x19 x24 y11 = res3 (given m c) := by
  refine ext_two (a := 24) (n := 16384) (α := BitVec 8) _ _ fun r n => ?_
  rw [res3_at]
  have h := out11_at c a0 x0 (V m c main_v0) (V m c main_arg2) (V m c main_arg3) (V m c main_v1) (V m c main_v2) (V m c main_arg6) (V m c main_v3) (given m c) (given_eq m c a0 x0 h0) x13 x14 x15 x16 x19 x24 r n y11
  rw [whole11] at h
  exact h
theorem left12 : out12 c a0 x0 (V m c main_v0) (V m c main_arg2) (V m c main_arg3) (V m c main_v1) (V m c main_v2) x13 x14 x15 x16 x19 y12 = res4 (given m c) :=
  ext_row _ _ fun r => out12_at c a0 x0 _ _ _ _ _ _ _ (given m c) (given_eq m c a0 x0 h0) x13 x14 x15 x16 x19 r y12
end

end Cert.KernelIdeal.Hand
end
-- ==== Proof.Value.Valued.lean ====
module

public import proofs.«01_k».proof.Proof.Ideal.Core
public import proofs.«01_k».proof.Proof.Value.Host

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The launch with its values: the program terminates, its arguments end unchanged, its five results are the mathematics -/

/-- The five result arrays hold the five results, every other buffer what it held at the launch. -/
def G (c : Dev nD) : (b : Ref sig .tc) → Buf (Elt Ideal) ((c : Thread nD τ).loc b) :=
  Function.update (Function.update (Function.update (Function.update (Function.update (V m c)
    main_v4_0 (res0 (given m c))) main_v4_1 (res1 (given m c))) main_v4_2 (res2 (given m c))) main_v4_3 (res3 (given m c))) main_v4_4 (res4 (given m c))

/-- What the first result array holds at the end, -/
theorem G_0 (c : Dev nD) : G m c main_v4_0 = res0 (given m c) := by
  unfold G
  rw [Function.update_of_ne (by decide), Function.update_of_ne (by decide), Function.update_of_ne (by decide), Function.update_of_ne (by decide), Function.update_self]
/-- the second, -/
theorem G_1 (c : Dev nD) : G m c main_v4_1 = res1 (given m c) := by
  unfold G
  rw [Function.update_of_ne (by decide), Function.update_of_ne (by decide), Function.update_of_ne (by decide), Function.update_self]
/-- the third, -/
theorem G_2 (c : Dev nD) : G m c main_v4_2 = res2 (given m c) := by
  unfold G
  rw [Function.update_of_ne (by decide), Function.update_of_ne (by decide), Function.update_self]
/-- the fourth -/
theorem G_3 (c : Dev nD) : G m c main_v4_3 = res3 (given m c) := by
  unfold G
  rw [Function.update_of_ne (by decide), Function.update_self]
/-- and the fifth. -/
theorem G_4 (c : Dev nD) : G m c main_v4_4 = res4 (given m c) := by
  unfold G
  rw [Function.update_self]

/-- What the launch keeps at its start, and what it keeps at its end. -/
def ΦG (c : Dev nD) (W : (c : Dev nD) → (b : Ref sig .tc) → Buf (Elt Ideal) ((c : Thread nD τ).loc b)) : sProp 𝕄 :=
  Pipeline.ΦDRG osem0 spec0 H0 R0 (V m) W c

/-- The proof data of the one launch on core `c`. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
  Φ t := if t = 0 then ΦG m c (V m) else ΦG m c (G m)
  q _ := fullShare
  owed _ := 0

/-- The staged array is the one the launch finds, -/
theorem A_eqV (c : Dev nD) (w : Fin cfg0.W) : (datsV m 0 c).A w = V m c (Pipeline.arrRef spec0 w) := by dsimp only [datsV]
/-- its window is left as it was, -/
theorem after0_0V (c : Dev nD) (t : Fin cfg0.N) : (datsV m 0 c).after 0 t = iblk m c 0 t := by dsimp only [datsV]
/-- and the body finds the block in it. -/
theorem before_eqV (c : Dev nD) (t : Fin cfg0.N) (d) : (datsV m 0 c).before 0 t d = iblk m c 0 t :=
  before0_0 m (datsV m 0 c) (A_eqV m c 0) (after0_0V m c) t d
/-- Before the one point the launch keeps what it found, -/
theorem start_eq (c : Dev nD) (t : Fin cfg0.N) : (datsV m 0 c).Φ t.castSucc = ΦG m c (V m) := by
  have h : t.castSucc = 0 := by
    apply Fin.ext; show t.val = 0
    have := t.isLt; have e : cfg0.N = 1 := N_0; omega
  dsimp only [datsV]; rw [if_pos h]
/-- after it the five results. -/
theorem stop_eq (c : Dev nD) (t : Fin (cfg0.N + 1)) (ht : t ≠ 0) : (datsV m 0 c).Φ t = ΦG m c (G m) := by
  dsimp only [datsV]; rw [if_neg ht]

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d)))
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t))

/-- What the launch keeps, part by part. -/
theorem ΦG_eq (c : Dev nD) (W : (c : Dev nD) → (b : Ref sig .tc) → Buf (Elt Ideal) ((c : Thread nD τ).loc b)) :
    ΦG m c W
      = iprop(Pipeline.scopedRest spec0 c ∗ (∃ r, prngReg c r) ∗ Pipeline.ownSems0 osem0 c
          ∗ (bigSep H0 fun b => ((c : Thread nD τ).loc b) ↦{fullShare} V m c b)
          ∗ hPt c a8 (W c main_v4_0) ∗ hPt c a9 (W c main_v4_1) ∗ hPt c a10 (W c main_v4_2) ∗ hPt c a11 (W c main_v4_3) ∗ hPt c a12 (W c main_v4_4)) := by
  unfold ΦG
  rw [Pipeline.ΦDRG_eq, routed0_eq]

/-- The body, from what it is handed at the point to what it leaves there, the five results with their values. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  rw [start_eq, stop_eq m c t.succ (Fin.succ_ne_zero t), after0_0V, ΦG_eq, ΦG_eq, G_0, G_1, G_2, G_3, G_4]
  unfold Dat.owesAt Pipeline.owesWithin
  rw [show (datsV m 0 c).owed t.castSucc = 0 from rfl, show (datsV m 0 c).owed t.succ = 0 from rfl]
  simp only [before_eqV]
  unfold owns
  iintro ⟨⟨HS, Hg, HC, HH, H8, H9, H10, H11, H12⟩, ⟨%W, -, HW⟩, ⟨%d0, %f0, %hf0, H0⟩⟩
  iapply (core m c _ _ f0 (V m c main_v4_0) (V m c main_v4_1) (V m c main_v4_2) (V m c main_v4_3) (V m c main_v4_4) W _)
  isplitl [HS]; · iexact HS
  isplitl [HC]; · iexact HC
  isplitl [HH]; · iexact HH
  isplitl [H8 H9 H10 H11 H12]
  · isplitl [H8]; · iexact H8
    isplitl [H9]; · iexact H9
    isplitl [H10]; · iexact H10
    isplitl [H11]; · iexact H11
    iexact H12
  isplitl [HW]; · iexact HW
  isplitl [H0]; · iexact H0
  iintro ⟨HS, HC, HH, ⟨%x13, %x14, %x15, %x16, %x17, %x19, %x22, %x23, %x24, %x25, H8, H9, H10, H11, H12⟩, ⟨%W', HW⟩, H0⟩
  have h0 : ∀ j, (win0_0.stage (cfg0.slots t 0)).view.read (Elt Ideal) f0 j = m ((c : Thread nD τ).loc main_arg0) j := fun j =>
    congrFun (hf0.trans (iblk0_eq m c t)) j
  ihave H8' := (Entails.of_eq (congrArg (hPt c a8) (left8 m c (win0_0.stage (cfg0.slots t 0)) f0 h0 x13 x14 x15 x16 x17 x19 x22 (V m c main_v4_0)))) $$ H8
  ihave H9' := (Entails.of_eq (congrArg (hPt c a9) (left9 m c (win0_0.stage (cfg0.slots t 0)) f0 h0 x14 x23 (V m c main_v4_1)))) $$ H9
  ihave H10' := (Entails.of_eq (congrArg (hPt c a10) (left10 m c (win0_0.stage (cfg0.slots t 0)) f0 h0 x14 x25 (V m c main_v4_2)))) $$ H10
  ihave H11' := (Entails.of_eq (congrArg (hPt c a11) (left11 m c (win0_0.stage (cfg0.slots t 0)) f0 h0 x13 x14 x15 x16 x19 x24 (V m c main_v4_3)))) $$ H11
  ihave H12' := (Entails.of_eq (congrArg (hPt c a12) (left12 m c (win0_0.stage (cfg0.slots t 0)) f0 h0 x13 x14 x15 x16 x19 (V m c main_v4_4)))) $$ H12
  isplitl [HS Hg HC HH H8' H9' H10' H11' H12']
  · isplitl [HS]; · iexact HS
    isplitl [Hg]; · iexact Hg
    isplitl [HC]; · iexact HC
    isplitl [HH]; · iexact HH
    isplitl [H8']; · iexact H8'
    isplitl [H9']; · iexact H9'
    isplitl [H10']; · iexact H10'
    isplitl [H11']; · iexact H11'
    iexact H12'
  isplitl [HW]
  · iexists W'; isplitr; · ipureintro; exact fun _ _ => Or.inl trivial
    iexact HW
  iexists f0; isplitr
  · ipureintro; exact hf0
  iexact H0

theorem defs₀_rowV (t : Fin cfg0.N) : defs₀ (F := Ideal) .tc cfg0.body (cfg0.bodyArgs t (cfg0.slots t)) = bodyAt0 t := by
  unfold defs₀; rw [Defs.onTc_tc]

/-- The body meets what the launch asks of it. -/
theorem body_obligationV (c : Dev nD) : BodyObligation (datsV m 0 c) (defs₀ (F := Ideal)) Variants.none () Set.univ := fun t => by
  rw [bigSep_W0, bigSep_W0, defs₀_rowV]
  exact triple_restated (sound_bodyV m c t) rfl .rfl fun _ => .rfl

/-- The launch starts from what it found -/
theorem startV (c : Dev nD) : (Pipeline.ΦDRG osem0 spec0 H0 R0 (V m) (V m) c : sProp 𝕄) ⊢ (datsV m 0 c).Φ 0 := by
  rw [show (datsV m 0 c).Φ 0 = ΦG m c (V m) from start_eq m c ⟨0, by rw [show cfg0.N = 1 from N_0]; omega⟩]
  exact .rfl
/-- and ends with the five results. -/
theorem stopV (c : Dev nD) : (datsV m 0 c).Φ (Fin.last cfg0.N) ⊢ (Pipeline.ΦDRG osem0 spec0 H0 R0 (V m) (G m) c : sProp 𝕄) := by
  rw [stop_eq m c (Fin.last cfg0.N) (fun h => by
    have := congrArg Fin.val h; have e : cfg0.N = 1 := N_0; simp only [Fin.val_last] at this; rw [e] at this; exact absurd this (by decide))]
  exact .rfl

set_option backward.isDefEq.respectTransparency.types false in
/-- The run of the whole program. -/
theorem run_mainV : θ_run defs (onTc (τ := τ) (main (F := Ideal))) (s₀ m ρ) (fun r => Pipeline.FramePostRG cfgs (datsV m) 0 R0 (V m) (G m) r ∧ r.2.sem = fun _ => 0) :=
  Pipeline.θ_run_frame_dmaRG (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V := V m) (hmain := hmain m Variants.none) (hA := A_eqV m) (G := G m)
    (hin := startV m) (hout := stopV m)

/-- THE VALUES: the program terminates without a fault, its five results are the mathematics of its eight arguments, and the
    arguments end unchanged. -/
theorem values : θ_run defs (onTc (τ := τ) (main (F := Ideal))) ⟨m, fun _ => 0, ρ⟩ (fun r => ∀ c : Dev nD,
      r.2.mem ((c.tc : Thread nD τ).loc main_v4_0) = res0 (given m c)
      ∧ r.2.mem ((c.tc : Thread nD τ).loc main_v4_1) = res1 (given m c)
      ∧ r.2.mem ((c.tc : Thread nD τ).loc main_v4_2) = res2 (given m c)
      ∧ r.2.mem ((c.tc : Thread nD τ).loc main_v4_3) = res3 (given m c)
      ∧ r.2.mem ((c.tc : Thread nD τ).loc main_v4_4) = res4 (given m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hs => fun c => have h := hs.1.1; have g := hs.1.2 c; ⟨
      (g main_v4_0 (by decide)).trans (G_0 m c),
      (g main_v4_1 (by decide)).trans (G_1 m c),
      (g main_v4_2 (by decide)).trans (G_2 m c),
      (g main_v4_3 (by decide)).trans (G_3 m c),
      (g main_v4_4 (by decide)).trans (G_4 m c),
      ((h c).1 0).trans (((datsV m 0 c).arrAt_in 0 rfl _).trans ((A_eqV m c 0).trans (V_main_arg0 m c))),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) (run_mainV m ρ)

end Cert.KernelIdeal.Hand

end
-- ==== Proof.Value.RefPays.lean ====
module

public import proofs.«01_k».proof.Proof.Gen.ReferenceIdeal.Skeleton
public import proofs.«01_k».proof.Proof.Gen.ReferenceIdeal.Value
public import proofs.«01_k».proof.Proof.Value.Mlp
public import Idealize.ShloMosaic.Lib.Pointwise

@[expose] public section

set_option maxRecDepth 16384

noncomputable section
namespace Cert.ReferenceIdeal.Hand
open Cert.ReferenceIdeal Cert.ReferenceIdeal.Gen
open Idealize.ShloMosaic Idealize.ShloMosaic.TcCoe Idealize.SL.Sem

open Cert.Mlp

/-! ### The reference's stages, entry by entry -/

/-- The bound 127 written as an integer and as a float, -/
theorem w127 : ((((127#32 : BitVec 32).toInt : ℤ) : ℝ) : EReal) = Ideal.ofBits .f32 1123942400#32 := by
  rw [c127]; show (((127 : ℤ) : ℝ) : EReal) = _; norm_num
/-- and the bound -127. -/
theorem wm127 : ((((4294967169#32 : BitVec 32).toInt : ℤ) : ℝ) : EReal) = Ideal.ofBits .f32 3271426048#32 := by
  rw [cm127]; show (((-127 : ℤ) : ℝ) : EReal) = _; norm_num
/-- The bounds written as integers are the bounds written as floats. -/
theorem code_eq (v s : EReal) :
    min (FloatOps.sitofp (F := Ideal) .f32 (127#32 : BitVec 32)) (max (FloatOps.sitofp (F := Ideal) .f32 (4294967169#32 : BitVec 32)) (Ideal.liftRound Ideal.roundHalfEven (Ideal.div v s)))
      = code v s := by
  show min (((127#32 : BitVec 32).toInt : ℝ) : EReal) (max (((4294967169#32 : BitVec 32).toInt : ℝ) : EReal) _) = _
  rw [w127, wm127]; rfl

section
variable (x : Vec Ideal S24x2048 .f32) (w : Vec Ideal S2048 .f32) (r : Fin 24) (l : Fin 2048) (n : Fin 16384)
/-- A normalised entry, -/
theorem pay1_at : k0_pay1 x w (ix2 r l) = Ideal.div (x (ix2 r l)) (Ideal.sqrt (Ideal.div (∑ k, x (ix2 r k) * x (ix2 r k)) (Ideal.ofBits .f32 0x45000000#32)
    + Ideal.ofBits .f32 0x358637BD#32)) * w (ix1 l) := by pointwise [k0_pay1]
/-- the scale of a row -/
theorem pay2_at : k0_pay2 x w (ix1 r) = scaleOf (rowMax fun k => k0_pay1 x w (ix2 r k)) := by pointwise [k0_pay2]; rfl
/-- and the code of an entry. -/
theorem pay3_at : k0_pay3 x w (ix2 r l) = Ideal.fptosi 8 (code (k0_pay1 x w (ix2 r l)) (k0_pay2 x w (ix1 r))) := by
  pointwise [k0_pay3]; exact congrArg (Ideal.fptosi 8) (code_eq _ _)
end

section
variable (s : FVec Ideal S24 .f32) (q : IVec S24x2048 8) (W : Vec Ideal S1024x16384 .i8) (v : Vec Ideal S16384 .f32) (r : Fin 24) (n : Fin 16384)
  (cl ch : Fin 1024 → EReal)
  (hl : ∀ (i : Fin 1024) (h : i.val < 2048), FloatOps.sitofp (F := Ideal) .bf16 (q (ix2 r ⟨i.val, h⟩)) = cl i)
  (hh : ∀ (i : Fin 1024) (h : 1024 + i.val < 2048), FloatOps.sitofp (F := Ideal) .bf16 (q (ix2 r ⟨1024 + i.val, h⟩)) = ch i)
include hl hh
/-- An entry of the up product -/
theorem pay7_at : k0_pay7 s q W v (ix2 r n) = dot cl ch (fun i => W (ix2 i n)) * s (ix1 r) * v (ix1 n) := by
  pointwise [k0_pay7]
  unfold dot
  have e1 : cl = fun i : Fin 1024 => FloatOps.sitofp (F := Ideal) .bf16 (q (ix2 r ⟨i.val, by omega⟩)) := funext fun i => (hl i _).symm
  have e2 : ch = fun i : Fin 1024 => FloatOps.sitofp (F := Ideal) .bf16 (q (ix2 r ⟨1024 + i.val, by omega⟩)) := funext fun i => (hh i _).symm
  simp only [e1, e2]
  rfl
/-- and of the gate product: the two halves of the codes against the low and the high nibbles. -/
theorem pay6_at : k0_pay6 s q v (k0_pay4 (F := Ideal) W) (k0_pay5 W) 24#32 (ix2 r n) = dot cl ch (fun i => W (ix2 i n)) * s (ix1 r) * v (ix1 n) := by
  pointwise [k0_pay6, k0_pay5, k0_pay4]
  unfold dot
  have e1 : cl = fun i : Fin 1024 => FloatOps.sitofp (F := Ideal) .bf16 (q (ix2 r ⟨i.val, by omega⟩)) := funext fun i => (hl i _).symm
  have e2 : ch = fun i : Fin 1024 => FloatOps.sitofp (F := Ideal) .bf16 (q (ix2 r ⟨1024 + i.val, by omega⟩)) := funext fun i => (hh i _).symm
  simp only [e1, e2]
  rfl
end

section
variable (s : FVec Ideal S24 .f32) (q : IVec S24x2048 8) (W4 : IVec S1024x16384 32) (W5 : FVec Ideal S1024x16384 .bf16) (v : Vec Ideal S16384 .f32) (b : BitVec 32) (r : Fin 24)
/-- The mean of a gate row. -/
theorem pay8_at : k0_pay8 s q v W4 W5 b (ix2 r 0) = Ideal.div (∑ n, k0_pay6 s q v W4 W5 b (ix2 r n)) (Ideal.ofBits .f32 0x46800000#32) := by pointwise [k0_pay8]
end

section
variable (g u : FVec Ideal S24x16384 .f32) (p : FVec Ideal S24x1 .f32) (r : Fin 24) (n : Fin 16384)
/-- An entry of the hidden rows, -/
theorem pay9_at : k0_pay9 g u p (ix2 r n) = act (g (ix2 r n) - (p (ix2 r 0) + Ideal.ofBits .f32 0x3FD28A90#32 * Ideal.sqrt
    (Ideal.div (∑ k, (g (ix2 r k) - p (ix2 r 0)) * (g (ix2 r k) - p (ix2 r 0))) (Ideal.ofBits .f32 0x46800000#32)))) * u (ix2 r n) := by
  pointwise [k0_pay9]; rfl
/-- the scale of a row -/
theorem pay10_at : k0_pay10 g u p (ix1 r) = scaleOf (rowMax fun k => k0_pay9 g u p (ix2 r k)) := by pointwise [k0_pay10]; rfl
/-- and the code of an entry. -/
theorem pay13_at : k0_pay13 (F := Ideal) (k0_pay11 g u p) k0_pay12 (ix2 r n) = Ideal.fptosi 8 (code (k0_pay9 g u p (ix2 r n)) (k0_pay10 g u p (ix1 r))) := by
  pointwise [k0_pay13, k0_pay11, k0_pay12]; exact congrArg (Ideal.fptosi 8) (code_eq _ _)
end

section
variable (s : FVec Ideal S24 .f32) (a b : FVec Ideal S24x16384 .f32) (W : Vec Ideal S8192x2048 .i8) (v : Vec Ideal S2048 .f32) (r : Fin 24) (l : Fin 2048)
  (cl ch : Fin 8192 → EReal)
  (hl : ∀ (i : Fin 8192) (h : i.val < 16384), FloatOps.sitofp (F := Ideal) .bf16 (k0_pay13 (F := Ideal) a b (ix2 r ⟨i.val, h⟩)) = cl i)
  (hh : ∀ (i : Fin 8192) (h : 8192 + i.val < 16384), FloatOps.sitofp (F := Ideal) .bf16 (k0_pay13 (F := Ideal) a b (ix2 r ⟨8192 + i.val, h⟩)) = ch i)
include hl hh
/-- An entry of the down product. -/
theorem pay14_at : k0_pay14 s a b W v (ix3 r 0 l) = dot cl ch (fun i => W (ix2 i l)) * s (ix1 r) * v (ix1 l) := by
  pointwise [k0_pay14]
  unfold dot
  have e1 : cl = fun i : Fin 8192 => FloatOps.sitofp (F := Ideal) .bf16 (k0_pay13 (F := Ideal) a b (ix2 r ⟨i.val, by omega⟩)) := funext fun i => (hl i _).symm
  have e2 : ch = fun i : Fin 8192 => FloatOps.sitofp (F := Ideal) .bf16 (k0_pay13 (F := Ideal) a b (ix2 r ⟨8192 + i.val, by omega⟩)) := funext fun i => (hh i _).symm
  simp only [e1, e2]
  rfl
end
/-- The scales laid out as one row. -/
theorem pay15_at (s : FVec Ideal S24 .f32) (r : Fin 24) : k0_pay15 s (ix2 0 r) = s (ix1 r) := by pointwise [k0_pay15]
/-- The scales laid out as one row. -/
theorem pay16_at (s : FVec Ideal S24 .f32) (r : Fin 24) : k0_pay16 s (ix2 0 r) = s (ix1 r) := by pointwise [k0_pay16]

end Cert.ReferenceIdeal.Hand
end
-- ==== Proof.Value.Ref.lean ====
module

public import proofs.«01_k».proof.Proof.Gen.ReferenceIdeal.Skeleton
public import proofs.«01_k».proof.Proof.Gen.ReferenceIdeal.Value
public import proofs.«01_k».proof.Proof.Value.RefPays
public import Idealize.ShloMosaic.Lib.Pointwise

@[expose] public section

set_option maxRecDepth 16384

noncomputable section
namespace Cert.ReferenceIdeal.Hand
open Cert.ReferenceIdeal Cert.ReferenceIdeal.Gen
open Idealize.ShloMosaic Idealize.ShloMosaic.TcCoe Idealize.SL.Sem

open Cert.Mlp

/-! ### The reference's five results, entry by entry -/

section
open Cert.ReferenceIdeal.Value
variable (x0 : Vec Ideal S24x2048 .f32) (x1 : Vec Ideal S2048 .f32) (x2 x3 : Vec Ideal S1024x16384 .i8) (x4 x5 : Vec Ideal S16384 .f32)
  (x6 : Vec Ideal S8192x2048 .i8) (x7 : Vec Ideal S2048 .f32) (r : Fin 24) (l : Fin 2048) (n : Fin 16384)

/-- The eight arguments, as the mathematics takes them. -/
def args : In where
  X r l := x0 (ix2 r l)
  w l := x1 (ix1 l)
  Wg i n := x2 (ix2 i n)
  Wu i n := x3 (ix2 i n)
  sg n := x4 (ix1 n)
  su n := x5 (ix1 n)
  Wd i l := x6 (ix2 i l)
  sd l := x7 (ix1 l)

/-- The value of each stage, with every load read as the array it loads. -/
theorem v17_eq : k0_pay17 x0 x1 x2 x3 x4 x5 x6 x7 = k0_pay2 x0 x1 := by
  unfold k0_pay17; rw [View.ld_unit_zero (S := S24x2048) hz0 _ x0, View.ld_unit_zero (S := S2048) hz1 _ x1]
theorem v18_eq : k0_pay18 x0 x1 x2 x3 x4 x5 x6 x7 = k0_pay3 x0 x1 := by
  unfold k0_pay18; rw [View.ld_unit_zero (S := S24x2048) hz0 _ x0, View.ld_unit_zero (S := S2048) hz1 _ x1]
theorem v19_eq : k0_pay19 x0 x1 x2 x3 x4 x5 x6 x7 = k0_pay4 (F := Ideal) x2 := by
  unfold k0_pay19; rw [View.ld_unit_zero (S := S1024x16384) hz2 _ x2]
theorem v20_eq : k0_pay20 x0 x1 x2 x3 x4 x5 x6 x7 = k0_pay5 x2 := by
  unfold k0_pay20; rw [View.ld_unit_zero (S := S1024x16384) hz2 _ x2]

/-- The normalised rows, -/
theorem nrm_eq : k0_pay1 x0 x1 (ix2 r l) = nrm (args x0 x1 x2 x3 x4 x5 x6 x7) r l := pay1_at x0 x1 r l
/-- their scales -/
theorem ms_eq : k0_pay2 x0 x1 (ix1 r) = ms (args x0 x1 x2 x3 x4 x5 x6 x7) r := by
  rw [pay2_at, ms]; exact congrArg (fun f => scaleOf (rowMax f)) (funext fun k => nrm_eq x0 x1 x2 x3 x4 x5 x6 x7 r k)
/-- and codes, -/
theorem mc_eq : k0_pay3 x0 x1 (ix2 r l) = Ideal.fptosi 8 (mc (args x0 x1 x2 x3 x4 x5 x6 x7) r l) := by
  rw [pay3_at, nrm_eq x0 x1 x2 x3 x4 x5 x6 x7, ms_eq x0 x1 x2 x3 x4 x5 x6 x7]; rfl
/-- which read back as numbers are the codes. -/
theorem mcB_eq : FloatOps.sitofp (F := Ideal) .bf16 (k0_pay3 x0 x1 (ix2 r l)) = mc (args x0 x1 x2 x3 x4 x5 x6 x7) r l := by
  rw [mc_eq x0 x1 x2 x3 x4 x5 x6 x7]; exact code_back _ _ _

/-- The gate product, -/
theorem gate_eq : k0_pay21 x0 x1 x2 x3 x4 x5 x6 x7 (ix2 r n) = gate (args x0 x1 x2 x3 x4 x5 x6 x7) r n := by
  unfold k0_pay21
  rw [v17_eq, v18_eq, v19_eq, v20_eq, View.ld_unit_zero (S := S16384) hz4 _ x4]
  rw [pay6_at _ _ _ _ r n (fun x : Fin 1024 => mc (args x0 x1 x2 x3 x4 x5 x6 x7) r ⟨x.val, by omega⟩) (fun x : Fin 1024 => mc (args x0 x1 x2 x3 x4 x5 x6 x7) r ⟨1024 + x.val, by omega⟩)
    (fun i _ => mcB_eq x0 x1 x2 x3 x4 x5 x6 x7 r _) (fun i _ => mcB_eq x0 x1 x2 x3 x4 x5 x6 x7 r _), ms_eq x0 x1 x2 x3 x4 x5 x6 x7]
  rfl
/-- the up product, -/
theorem up_eq : k0_pay22 x0 x1 x2 x3 x4 x5 x6 x7 (ix2 r n) = up (args x0 x1 x2 x3 x4 x5 x6 x7) r n := by
  unfold k0_pay22
  rw [v17_eq, v18_eq, View.ld_unit_zero (S := S1024x16384) hz3 _ x3, View.ld_unit_zero (S := S16384) hz5 _ x5]
  rw [pay7_at _ _ _ _ r n (fun x : Fin 1024 => mc (args x0 x1 x2 x3 x4 x5 x6 x7) r ⟨x.val, by omega⟩) (fun x : Fin 1024 => mc (args x0 x1 x2 x3 x4 x5 x6 x7) r ⟨1024 + x.val, by omega⟩)
    (fun i _ => mcB_eq x0 x1 x2 x3 x4 x5 x6 x7 r _) (fun i _ => mcB_eq x0 x1 x2 x3 x4 x5 x6 x7 r _), ms_eq x0 x1 x2 x3 x4 x5 x6 x7]
  rfl
/-- the mean of a gate row, -/
theorem mu_eq : k0_pay23 x0 x1 x2 x3 x4 x5 x6 x7 (ix2 r 0) = mu (args x0 x1 x2 x3 x4 x5 x6 x7) r := by
  have h : ∀ n, k0_pay6 (k0_pay17 x0 x1 x2 x3 x4 x5 x6 x7) (k0_pay18 x0 x1 x2 x3 x4 x5 x6 x7) (View.ld x4 r0_3) (k0_pay19 x0 x1 x2 x3 x4 x5 x6 x7) (k0_pay20 x0 x1 x2 x3 x4 x5 x6 x7) 24#32 (ix2 r n) = gate (args x0 x1 x2 x3 x4 x5 x6 x7) r n := fun n => gate_eq x0 x1 x2 x3 x4 x5 x6 x7 r n
  unfold k0_pay23
  rw [pay8_at, mu]
  simp only [h]
/-- the hidden rows, -/
theorem hid_eq : k0_pay9 (k0_pay21 x0 x1 x2 x3 x4 x5 x6 x7) (k0_pay22 x0 x1 x2 x3 x4 x5 x6 x7) (k0_pay23 x0 x1 x2 x3 x4 x5 x6 x7) (ix2 r n) = hid (args x0 x1 x2 x3 x4 x5 x6 x7) r n := by
  rw [pay9_at, mu_eq, up_eq]
  simp only [gate_eq]
  rfl
/-- their scales -/
theorem hs_eq : k0_pay24 x0 x1 x2 x3 x4 x5 x6 x7 (ix1 r) = hs (args x0 x1 x2 x3 x4 x5 x6 x7) r := by
  unfold k0_pay24
  rw [pay10_at, hs]; exact congrArg (fun f => scaleOf (rowMax f)) (funext fun k => hid_eq x0 x1 x2 x3 x4 x5 x6 x7 r k)
/-- and codes, -/
theorem hc_eq : k0_pay13 (F := Ideal) (k0_pay25 x0 x1 x2 x3 x4 x5 x6 x7) (k0_pay26 x0 x1 x2 x3 x4 x5 x6 x7) (ix2 r n) = Ideal.fptosi 8 (hc (args x0 x1 x2 x3 x4 x5 x6 x7) r n) := by
  unfold k0_pay25 k0_pay26
  rw [pay13_at, hid_eq]
  exact congrArg (fun s => Ideal.fptosi 8 (code (hid (args x0 x1 x2 x3 x4 x5 x6 x7) r n) s)) (hs_eq x0 x1 x2 x3 x4 x5 x6 x7 r)
/-- which read back as numbers are the codes. -/
theorem hcB_eq : FloatOps.sitofp (F := Ideal) .bf16 (k0_pay13 (F := Ideal) (k0_pay25 x0 x1 x2 x3 x4 x5 x6 x7) (k0_pay26 x0 x1 x2 x3 x4 x5 x6 x7) (ix2 r n)) = hc (args x0 x1 x2 x3 x4 x5 x6 x7) r n := by
  rw [hc_eq]; exact code_back _ _ _

/-- The five results of the reference. -/
theorem G8_at : G8 x0 x1 x2 x3 x4 x5 x6 x7 (ix3 r 0 l) = dn (args x0 x1 x2 x3 x4 x5 x6 x7) r l := by
  unfold G8
  rw [pay14_at _ _ _ _ _ r l (fun x : Fin 8192 => hc (args x0 x1 x2 x3 x4 x5 x6 x7) r ⟨x.val, by omega⟩) (fun x : Fin 8192 => hc (args x0 x1 x2 x3 x4 x5 x6 x7) r ⟨8192 + x.val, by omega⟩)
    (fun i _ => hcB_eq x0 x1 x2 x3 x4 x5 x6 x7 r _) (fun i _ => hcB_eq x0 x1 x2 x3 x4 x5 x6 x7 r _), hs_eq]
  rfl
/-- The codes of the normalised rows, -/
theorem G9_at : G9 x0 x1 x2 x3 x4 x5 x6 x7 (ix2 r l) = Ideal.fptosi 8 (mc (args x0 x1 x2 x3 x4 x5 x6 x7) r l) := by
  unfold G9; rw [v18_eq]; exact mc_eq x0 x1 x2 x3 x4 x5 x6 x7 r l
/-- their scales, -/
theorem G10_at : G10 x0 x1 x2 x3 x4 x5 x6 x7 (ix2 0 r) = ms (args x0 x1 x2 x3 x4 x5 x6 x7) r := by
  unfold G10; rw [v17_eq, pay15_at]; exact ms_eq x0 x1 x2 x3 x4 x5 x6 x7 r
/-- the codes of the hidden rows, -/
theorem G11_at : G11 x0 x1 x2 x3 x4 x5 x6 x7 (ix2 r n) = Ideal.fptosi 8 (hc (args x0 x1 x2 x3 x4 x5 x6 x7) r n) := hc_eq x0 x1 x2 x3 x4 x5 x6 x7 r n
/-- and their scales. -/
theorem G12_at : G12 x0 x1 x2 x3 x4 x5 x6 x7 (ix2 0 r) = hs (args x0 x1 x2 x3 x4 x5 x6 x7) r := by
  unfold G12; rw [pay16_at]; exact hs_eq x0 x1 x2 x3 x4 x5 x6 x7 r
end

end Cert.ReferenceIdeal.Hand
end
-- ==== Proof.Value.Agree.lean ====
module

public import proofs.«01_k».proof.Proof.Value.Valued
public import proofs.«01_k».proof.Proof.Value.Ref
public import proofs.«01_k».proof.Defs

@[expose] public section

set_option maxRecDepth 16384

noncomputable section
namespace Cert.Agree
open Idealize.ShloMosaic Idealize.ShloMosaic.TcCoe Idealize.SL.Sem
open Cert.Mlp Cert.KernelIdeal.Hand Cert.ReferenceIdeal.Value

/-! ### The reference's five results, as arrays, are the same mathematics of the same arguments -/

section
open Cert.ReferenceIdeal
variable (x0 : Vec Ideal S24x2048 .f32) (x1 : Vec Ideal S2048 .f32) (x2 x3 : Vec Ideal S1024x16384 .i8) (x4 x5 : Vec Ideal S16384 .f32)
  (x6 : Vec Ideal S8192x2048 .i8) (x7 : Vec Ideal S2048 .f32)
/-- The down product, -/
theorem ref0 : G8 x0 x1 x2 x3 x4 x5 x6 x7 = res0 (Cert.ReferenceIdeal.Hand.args x0 x1 x2 x3 x4 x5 x6 x7) := ext_mid _ _ fun r l => Cert.ReferenceIdeal.Hand.G8_at x0 x1 x2 x3 x4 x5 x6 x7 r l
/-- the codes of the normalised rows, -/
theorem ref1 : G9 x0 x1 x2 x3 x4 x5 x6 x7 = res1 (Cert.ReferenceIdeal.Hand.args x0 x1 x2 x3 x4 x5 x6 x7) := ext_two _ _ fun r l => Cert.ReferenceIdeal.Hand.G9_at x0 x1 x2 x3 x4 x5 x6 x7 r l
/-- their scales, -/
theorem ref2 : G10 x0 x1 x2 x3 x4 x5 x6 x7 = res2 (Cert.ReferenceIdeal.Hand.args x0 x1 x2 x3 x4 x5 x6 x7) := ext_row _ _ fun r => Cert.ReferenceIdeal.Hand.G10_at x0 x1 x2 x3 x4 x5 x6 x7 r
/-- the codes of the hidden rows, -/
theorem ref3 : G11 x0 x1 x2 x3 x4 x5 x6 x7 = res3 (Cert.ReferenceIdeal.Hand.args x0 x1 x2 x3 x4 x5 x6 x7) := by
  refine ext_two (a := 24) (n := 16384) (α := BitVec 8) _ _ fun r n => ?_
  rw [res3_at]
  exact Cert.ReferenceIdeal.Hand.G11_at x0 x1 x2 x3 x4 x5 x6 x7 r n
/-- and their scales. -/
theorem ref4 : G12 x0 x1 x2 x3 x4 x5 x6 x7 = res4 (Cert.ReferenceIdeal.Hand.args x0 x1 x2 x3 x4 x5 x6 x7) := ext_row _ _ fun r => Cert.ReferenceIdeal.Hand.G12_at x0 x1 x2 x3 x4 x5 x6 x7 r
end

/-- THE VALUE CLAIM: from memories with equal arguments, the kernel and the reference both end, with the same five results and
    their arguments unchanged. -/
theorem algebraic : @Cert.algebraic_KernelIdeal_ReferenceIdeal Cert.KernelIdeal.Gen.facts Cert.ReferenceIdeal.Gen.facts := by
  intro m g m' g' _ hargs
  refine ⟨fun c => res0 (given m c), fun c => res1 (given m c), fun c => res2 (given m c), fun c => res3 (given m c), fun c => res4 (given m c),
    values m g, ?_⟩
  refine (θ_run _ _ _).mono (fun r h c => ?_) (Cert.ReferenceIdeal.Value.run m' g')
  obtain ⟨e0, e1, e2, e3, e4, k⟩ := h c
  obtain ⟨a0, a1, a2, a3, a4, a5, a6, a7⟩ := hargs c
  have hA : Cert.ReferenceIdeal.Hand.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = given m c := by
    rw [a0, a1, a2, a3, a4, a5, a6, a7]; rfl
  exact ⟨e0.trans ((ref0 _ _ _ _ _ _ _ _).trans (congrArg res0 hA)), e1.trans ((ref1 _ _ _ _ _ _ _ _).trans (congrArg res1 hA)),
    e2.trans ((ref2 _ _ _ _ _ _ _ _).trans (congrArg res2 hA)), e3.trans ((ref3 _ _ _ _ _ _ _ _).trans (congrArg res3 hA)),
    e4.trans ((ref4 _ _ _ _ _ _ _ _).trans (congrArg res4 hA)), k⟩

end Cert.Agree
end
-- ==== Proof.lean ====
/-
  The claims about the kernel's MLP part, assembled: each program terminates without a fault, leaves its arguments as they
  were and every semaphore counter at zero; and over the extended reals the kernel's five results are the reference's
  (`Proof/Value/Agree.lean`). The kernel's runs are `Proof/Launched.lean` (over bit patterns) and
  `Proof/Ideal/Launched.lean` (over the extended reals).
-/
module

public import proofs.«01_k».proof.Defs
public import proofs.«01_k».proof.Proof.Launched
public import proofs.«01_k».proof.Proof.Ideal.Launched
public import proofs.«01_k».proof.Proof.Gen.ReferenceIdeal
public import proofs.«01_k».proof.Proof.Gen.ReferenceIdeal.Frame
public import proofs.«01_k».proof.Proof.Gen.ReferenceIdeal.Value
public import proofs.«01_k».proof.Proof.Value.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial, Cert.Agree.algebraic⟩

end Cert.Proof

end
